-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_scored [hPre_scored : Cert.Pre_scored.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_scored.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_scored [hPre_scored : Cert.Pre_scored.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_scored.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_scored [hKernel6Ideal : Cert.Kernel6Ideal.Facts] [hPre_scored : Cert.Pre_scored.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_scored m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_scored [hReference6Ideal : Cert.Reference6Ideal.Facts] [hPre_scored : Cert.Pre_scored.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_scored m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_scored [hKernel6Ideal : Cert.Kernel6Ideal.Facts] [hReference6Ideal : Cert.Reference6Ideal.Facts] [hPre_scored : Cert.Pre_scored.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_scored m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v53) = v0 c
          ∧ r.2.mem ((c.tc : Thread Cert.Reference6Ideal.nD Cert.Reference6Ideal.τ).loc Cert.Reference6Ideal.main_v54) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_scored : Cert.Pre_scored.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_scored (hKernel6Ideal := hKernel6Ideal) (hPre_scored := hPre_scored)
    ∧ quiescent_Reference6Ideal (hReference6Ideal := hReference6Ideal)
    ∧ quiescent_Reference6Ideal_pre_scored (hReference6Ideal := hReference6Ideal) (hPre_scored := hPre_scored)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_scored (hKernel6Ideal := hKernel6Ideal) (hReference6Ideal := hReference6Ideal) (hPre_scored := hPre_scored)
-- ==== Pre_finite.lean ====
abbrev S12x4112x8704 : Shape := ⟨3, ![12, 4112, 8704]⟩
abbrev S16 : Shape := ⟨1, ![16]⟩
abbrev S12x4112x1280 : Shape := ⟨3, ![12, 4112, 1280]⟩
abbrev S_ : Shape := ⟨0, ![]⟩

class Facts : Prop where
  slices_S12x4112x8704_S12x4112x1280_0_0_0 : S12x4112x8704.Slices ![0, 0, 0] S12x4112x1280
  bcast_S_S12x4112x1280 : S_.BroadcastsInDim S12x4112x1280 (![] : Fin 0 → Fin S12x4112x1280.rank)
  bcast_S_S16 : S_.BroadcastsInDim S16 (![] : Fin 0 → Fin S16.rank)

variable [Facts]

def fn {F : FTy → Type} [FloatOps F] (main_arg0 : FVec F S12x4112x8704 .f32) (main_arg1 : FVec F S16 .f32) : IVec S12x4112x1280 1 × IVec S16 1 :=
  let main_v0 : FVec F S12x4112x1280 .f32 := (extractStridedSlice S12x4112x1280 ![0, 0, 0] · slices_S12x4112x8704_S12x4112x1280_0_0_0) main_arg0
  let main_v1 : FVec F S12x4112x1280 .f32 := Host.absf main_v0
  let main_cst : FVec F S_ .f32 := constant S_ .f32 0x7F800000#32
  let main_v2 : FVec F S12x4112x1280 .f32 := broadcastInDim S12x4112x1280 ![] bcast_S_S12x4112x1280 main_cst
  let main_v3 : IVec S12x4112x1280 1 := cmpf .olt main_v1 main_v2
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  (main_v3, main_v6)
-- ==== Pre_scored.lean ====
abbrev S50688x1024 : Shape := ⟨2, ![50688, 1024]⟩
abbrev S1024 : Shape := ⟨1, ![1024]⟩
abbrev S1024x2048 : Shape := ⟨2, ![1024, 2048]⟩
abbrev S8x2x128x128 : Shape := ⟨4, ![8, 2, 128, 128]⟩
abbrev S_ : Shape := ⟨0, ![]⟩
abbrev S50688 : Shape := ⟨1, ![50688]⟩
abbrev S50688x1 : Shape := ⟨2, ![50688, 1]⟩
abbrev S1x1024 : Shape := ⟨2, ![1, 1024]⟩
abbrev S50688x2048 : Shape := ⟨2, ![50688, 2048]⟩
abbrev S50688x8x2x128 : Shape := ⟨4, ![50688, 8, 2, 128]⟩
abbrev S8x2x128x50688 : Shape := ⟨4, ![8, 2, 128, 50688]⟩

class Facts : Prop where
  reducesTo_S50688x1024_S50688_d1 : S50688x1024.ReducesTo [1] S50688
  h_S_ : 0 < S_.numel
  bcast_S50688_S50688x1_0 : S50688.BroadcastsInDim S50688x1 (![0] : Fin 1 → Fin S50688x1.rank)
  bcast_S_S50688x1 : S_.BroadcastsInDim S50688x1 (![] : Fin 0 → Fin S50688x1.rank)
  bcast_S50688x1_S50688x1024_0_1 : S50688x1.BroadcastsInDim S50688x1024 (![0, 1] : Fin 2 → Fin S50688x1024.rank)
  bcast_S1024_S1x1024_1 : S1024.BroadcastsInDim S1x1024 (![1] : Fin 1 → Fin S1x1024.rank)
  bcast_S1x1024_S50688x1024_0_1 : S1x1024.BroadcastsInDim S50688x1024 (![0, 1] : Fin 2 → Fin S50688x1024.rank)
  shapeCasts_S50688x2048_S50688x8x2x128 : S50688x2048.ShapeCasts S50688x8x2x128
  transposes_S8x2x128x50688_S50688x8x2x128_3_0_1_2 : S8x2x128x50688.Transposes [3, 0, 1, 2] S50688x8x2x128
  bcast_S_S50688x8x2x128 : S_.BroadcastsInDim S50688x8x2x128 (![] : Fin 0 → Fin S50688x8x2x128.rank)
  dot_S50688x1024_S1024x2048_S50688x2048_1_0_0_1_n_n_wf : DotDims.WF S50688x1024 S1024x2048 S50688x2048 [1] [0] [0] [1] [] []
  dot_S8x2x128x128_S50688x8x2x128_S8x2x128x50688_3_3_2_0_01_12_wf : DotDims.WF S8x2x128x128 S50688x8x2x128 S8x2x128x50688 [3] [3] [2] [0] [0, 1] [1, 2]

variable [Facts]

def dot_S50688x1024_S1024x2048_S50688x2048_1_0_0_1_n_n : DotDims S50688x1024 S1024x2048 S50688x2048 where
  lhsContracting := [1]
  rhsContracting := [0]
  lhsNonContracting := [0]
  rhsNonContracting := [1]
  lhsBatch := []
  rhsBatch := []
  wf := dot_S50688x1024_S1024x2048_S50688x2048_1_0_0_1_n_n_wf
def dot_S8x2x128x128_S50688x8x2x128_S8x2x128x50688_3_3_2_0_01_12 : DotDims S8x2x128x128 S50688x8x2x128 S8x2x128x50688 where
  lhsContracting := [3]
  rhsContracting := [3]
  lhsNonContracting := [2]
  rhsNonContracting := [0]
  lhsBatch := [0, 1]
  rhsBatch := [1, 2]
  wf := dot_S8x2x128x128_S50688x8x2x128_S8x2x128x50688_3_3_2_0_01_12_wf
def fn {F : FTy → Type} [FloatOps F] (main_arg0 : FVec F S50688x1024 .f32) (main_arg1 : FVec F S1024 .f32) (main_arg2 : FVec F S1024x2048 .f32) (main_arg3 : FVec F S8x2x128x128 .f32) : IVec S50688x8x2x128 1 :=
  let main_v0 : FVec F S50688x1024 .f32 := mulf main_arg0 main_arg0
  let main_cst : FVec F S_ .f32 := constant S_ .f32 0x00000000#32
  let main_v1 : FVec F S50688 .f32 := (fun x v => Host.reduceAdd x v reducesTo_S50688x1024_S50688_d1 h_S_) main_v0 main_cst
  let main_v2 : FVec F S50688x1 .f32 := broadcastInDim S50688x1 ![0] bcast_S50688_S50688x1_0 main_v1
  let main_cst_0 : FVec F S_ .f32 := constant S_ .f32 0x44800000#32
  let main_v3 : FVec F S50688x1 .f32 := broadcastInDim S50688x1 ![] bcast_S_S50688x1 main_cst_0
  let main_v4 : FVec F S50688x1 .f32 := Host.divf main_v2 main_v3
  let main_cst_1 : FVec F S_ .f32 := constant S_ .f32 0x358637BD#32
  let main_v5 : FVec F S50688x1 .f32 := broadcastInDim S50688x1 ![] bcast_S_S50688x1 main_cst_1
  let main_v6 : FVec F S50688x1 .f32 := addf main_v4 main_v5
  let main_v7 : FVec F S50688x1 .f32 := Host.rsqrt main_v6
  let main_v8 : FVec F S50688x1024 .f32 := broadcastInDim S50688x1024 ![0, 1] bcast_S50688x1_S50688x1024_0_1 main_v7
  let main_v9 : FVec F S50688x1024 .f32 := mulf main_arg0 main_v8
  let main_v10 : FVec F S1x1024 .f32 := broadcastInDim S1x1024 ![1] bcast_S1024_S1x1024_1 main_arg1
  let main_v11 : FVec F S50688x1024 .f32 := broadcastInDim S50688x1024 ![0, 1] bcast_S1x1024_S50688x1024_0_1 main_v10
  let main_v12 : FVec F S50688x1024 .f32 := mulf main_v9 main_v11
  let main_v13 : FVec F S50688x2048 .f32 := (fun l r => Host.dotGeneral dot_S50688x1024_S1024x2048_S50688x2048_1_0_0_1_n_n none l r) main_v12 main_arg2
  let main_v14 : FVec F S50688x8x2x128 .f32 := shapeCast S50688x8x2x128 main_v13 shapeCasts_S50688x2048_S50688x8x2x128
  let main_v15 : FVec F S8x2x128x50688 .f32 := (fun l r => Host.dotGeneral dot_S8x2x128x128_S50688x8x2x128_S8x2x128x50688_3_3_2_0_01_12 none l r) main_arg3 main_v14
  let main_v16 : FVec F S50688x8x2x128 .f32 := (transpose S50688x8x2x128 [3, 0, 1, 2] · transposes_S8x2x128x50688_S50688x8x2x128_3_0_1_2) main_v15
  let main_cst_2 : FVec F S_ .f32 := constant S_ .f32 0xFF800000#32
  let main_v17 : FVec F S50688x8x2x128 .f32 := broadcastInDim S50688x8x2x128 ![] bcast_S_S50688x8x2x128 main_cst_2
  let main_v18 : IVec S50688x8x2x128 1 := cmpf .ogt main_v16 main_v17
  main_v18
-- ==== Kernel.lean ====
abbrev S12x4112x8704 : Shape := ⟨3, ![12, 4112, 8704]⟩
abbrev S16 : Shape := ⟨1, ![16]⟩
abbrev S12x4112x1024 : Shape := ⟨3, ![12, 4112, 1024]⟩
abbrev S12x4112x256 : Shape := ⟨3, ![12, 4112, 256]⟩
abbrev S_ : Shape := ⟨0, ![]⟩
abbrev S12x4224x8704 : Shape := ⟨3, ![12, 4224, 8704]⟩
abbrev S4224 : Shape := ⟨1, ![4224]⟩
abbrev S8 : Shape := ⟨1, ![8]⟩
abbrev S4224x1 : Shape := ⟨2, ![4224, 1]⟩
abbrev S1x8 : Shape := ⟨2, ![1, 8]⟩
abbrev S4224x8 : Shape := ⟨2, ![4224, 8]⟩
abbrev S4224x48 : Shape := ⟨2, ![4224, 48]⟩
abbrev S4224x64 : Shape := ⟨2, ![4224, 64]⟩
abbrev S1x4224x1x64 : Shape := ⟨4, ![1, 4224, 1, 64]⟩
abbrev S1x4224x2x64 : Shape := ⟨4, ![1, 4224, 2, 64]⟩
abbrev S4224x128 : Shape := ⟨2, ![4224, 128]⟩
abbrev S12x4224x1024 : Shape := ⟨3, ![12, 4224, 1024]⟩
abbrev S1x128x1024 : Shape := ⟨3, ![1, 128, 1024]⟩
abbrev S1x128x256 : Shape := ⟨3, ![1, 128, 256]⟩
abbrev S128x1024 : Shape := ⟨2, ![128, 1024]⟩
abbrev S128x128 : Shape := ⟨2, ![128, 128]⟩
abbrev S128x256 : Shape := ⟨2, ![128, 256]⟩
abbrev S512x256 : Shape := ⟨2, ![512, 256]⟩
abbrev S128x512 : Shape := ⟨2, ![128, 512]⟩
abbrev S512x128 : Shape := ⟨2, ![512, 128]⟩
abbrev S1 : Shape := ⟨1, ![1]⟩
abbrev S128x1 : Shape := ⟨2, ![128, 1]⟩
abbrev S1024x1 : Shape := ⟨2, ![1024, 1]⟩
abbrev S1024x128 : Shape := ⟨2, ![1024, 128]⟩
abbrev S1024x512 : Shape := ⟨2, ![1024, 512]⟩
abbrev S1024 : Shape := ⟨1, ![1024]⟩

abbrev nBuf : Space → Nat
  | .hbm => 63
  | .vmem => 23
  | .smem => 1
  | _ => 0

abbrev bufTy : (tb : Table) → Fin (tcTables nBuf tb) → BufTy
  | .hbm, ⟨0, _⟩ => ⟨S12x4112x8704, .f32⟩
  | .hbm, ⟨1, _⟩ => ⟨S16, .f32⟩
  | .hbm, ⟨2, _⟩ => ⟨S12x4112x1024, .f32⟩
  | .hbm, ⟨3, _⟩ => ⟨S12x4112x1024, .f32⟩
  | .hbm, ⟨4, _⟩ => ⟨S12x4112x1024, .f32⟩
  | .hbm, ⟨5, _⟩ => ⟨S12x4112x1024, .f32⟩
  | .hbm, ⟨6, _⟩ => ⟨S12x4112x1024, .f32⟩
  | .hbm, ⟨7, _⟩ => ⟨S12x4112x1024, .f32⟩
  | .hbm, ⟨8, _⟩ => ⟨S12x4112x1024, .f32⟩
  | .hbm, ⟨9, _⟩ => ⟨S12x4112x1024, .f32⟩
  | .hbm, ⟨10, _⟩ => ⟨S12x4112x256, .f32⟩
  | .hbm, ⟨11, _⟩ => ⟨S12x4112x256, .f32⟩
  | .hbm, ⟨12, _⟩ => ⟨S12x4112x8704, .f32⟩
  | .hbm, ⟨13, _⟩ => ⟨S_, .i32⟩
  | .hbm, ⟨14, _⟩ => ⟨S_, .f32⟩
  | .hbm, ⟨15, _⟩ => ⟨S12x4224x8704, .f32⟩
  | .hbm, ⟨16, _⟩ => ⟨S4224, .i32⟩
  | .hbm, ⟨17, _⟩ => ⟨S_, .i32⟩
  | .hbm, ⟨18, _⟩ => ⟨S4224, .i32⟩
  | .hbm, ⟨19, _⟩ => ⟨S4224, .i32⟩
  | .hbm, ⟨20, _⟩ => ⟨S_, .i32⟩
  | .hbm, ⟨21, _⟩ => ⟨S4224, .i32⟩
  | .hbm, ⟨22, _⟩ => ⟨S4224, .i32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S4224, .f32⟩
  | .hbm, ⟨35, _⟩ => ⟨S4224x1, .f32⟩
  | .hbm, ⟨36, _⟩ => ⟨S1x8, .f32⟩
  | .hbm, ⟨37, _⟩ => ⟨S4224x8, .f32⟩
  | .hbm, ⟨38, _⟩ => ⟨S4224x8, .f32⟩
  | .hbm, ⟨39, _⟩ => ⟨S4224x8, .f32⟩
  | .hbm, ⟨40, _⟩ => ⟨S4224x8, .f32⟩
  | .hbm, ⟨41, _⟩ => ⟨S4224x8, .f32⟩
  | .hbm, ⟨42, _⟩ => ⟨S_, .f32⟩
  | .hbm, ⟨43, _⟩ => ⟨S4224x48, .f32⟩
  | .hbm, ⟨44, _⟩ => ⟨S_, .f32⟩
  | .hbm, ⟨45, _⟩ => ⟨S4224x48, .f32⟩
  | .hbm, ⟨46, _⟩ => ⟨S_, .f32⟩
  | .hbm, ⟨47, _⟩ => ⟨S4224x8, .f32⟩
  | .hbm, ⟨48, _⟩ => ⟨S4224x64, .f32⟩
  | .hbm, ⟨49, _⟩ => ⟨S4224x64, .f32⟩
  | .hbm, ⟨50, _⟩ => ⟨S4224x8, .f32⟩
  | .hbm, ⟨51, _⟩ => ⟨S4224x64, .f32⟩
  | .hbm, ⟨52, _⟩ => ⟨S1x4224x1x64, .f32⟩
  | .hbm, ⟨53, _⟩ => ⟨S1x4224x2x64, .f32⟩
  | .hbm, ⟨54, _⟩ => ⟨S4224x128, .f32⟩
  | .hbm, ⟨55, _⟩ => ⟨S1x4224x1x64, .f32⟩
  | .hbm, ⟨56, _⟩ => ⟨S1x4224x2x64, .f32⟩
  | .hbm, ⟨57, _⟩ => ⟨S4224x128, .f32⟩
  | .hbm, ⟨58, _⟩ => ⟨S1x4224x1x64, .f32⟩
  | .hbm, ⟨59, _⟩ => ⟨S1x4224x2x64, .f32⟩
  | .hbm, ⟨60, _⟩ => ⟨S4224x128, .f32⟩
  | .hbm, ⟨61, _⟩ => ⟨S12x4224x1024, .bf16⟩
  | .hbm, ⟨62, _⟩ => ⟨S12x4112x1024, .bf16⟩
  | .local _ .vmem, ⟨0, _⟩ => ⟨S1x128x1024, .f32⟩
  | .local _ .vmem, ⟨1, _⟩ => ⟨S1x128x1024, .f32⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S1x128x256, .f32⟩
  | .local _ .vmem, ⟨11, _⟩ => ⟨S1x128x256, .f32⟩
  | .local _ .vmem, ⟨12, _⟩ => ⟨S1x128x256, .f32⟩
  | .local _ .vmem, ⟨13, _⟩ => ⟨S1x128x256, .f32⟩
  | .local _ .vmem, ⟨14, _⟩ => ⟨S1x128x256, .f32⟩
  | .local _ .vmem, ⟨15, _⟩ => ⟨S1x128x256, .f32⟩
  | .local _ .vmem, ⟨16, _⟩ => ⟨S1x128x256, .f32⟩
  | .local _ .vmem, ⟨17, _⟩ => ⟨S1x128x256, .f32⟩
  | .local _ .vmem, ⟨18, _⟩ => ⟨S4224x128, .f32⟩
  | .local _ .vmem, ⟨19, _⟩ => ⟨S4224x128, .f32⟩
  | .local _ .vmem, ⟨20, _⟩ => ⟨S4224x128, .f32⟩
  | .local _ .vmem, ⟨21, _⟩ => ⟨S1x128x1024, .bf16⟩
  | .local _ .vmem, ⟨22, _⟩ => ⟨S1x128x1024, .bf16⟩
  | .local _ .smem, ⟨0, _⟩ => ⟨S16, .f32⟩
  | _, _ => ⟨S12x4112x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_call0_v0 : Ref sig .tc := ⟨.hbm, 14, rfl⟩
abbrev main_v11 : Ref sig .tc := ⟨.hbm, 15, rfl⟩
abbrev main_v12 : Ref sig .tc := ⟨.hbm, 16, rfl⟩
abbrev main_c_0 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![12, 33], ![false, false]⟩

def k0_mult1 (i : grid0.Coords) : BitVec 32 :=
  let arg1 : BitVec 32 := BitVec.ofNat 32 (i 1).val
  let c128_i32 : BitVec 32 := 128#32
  let v14 : BitVec 32 := Scalar.muli arg1 c128_i32
  v14
def k0_off1 (i : grid0.Coords) : Fin 2 → Nat :=
  let arg1 : BitVec 32 := BitVec.ofNat 32 (i 1).val
  let c128_i32 : BitVec 32 := 128#32
  let v14 : BitVec 32 := Scalar.muli arg1 c128_i32
  let v15 : BitVec 32 := v14
  let v16 : Index := Scalar.indexCast v15
  let c0_10 : Index := 0#32
  ![v16.toNat, 0]
def k0_mult2 (i : grid0.Coords) : BitVec 32 :=
  let c32_i32 : BitVec 32 := 32#32
  let c0_i32_0 : BitVec 32 := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.addi v0 c0_i32
  let v2 : BitVec 32 := Scalar.maxsi c0_i32_0 v1
  let v3 : BitVec 32 := Scalar.minsi c32_i32 v2
  let c128_i32_43 : BitVec 32 := 128#32
  let v119 : BitVec 32 := Scalar.muli v3 c128_i32_43
  v119
def k0_off2 (i : grid0.Coords) (c0_i32 : BitVec 32) : Fin 2 → Nat :=
  let c32_i32 : BitVec 32 := 32#32
  let c0_i32_0 : BitVec 32 := 0#32
  let arg1 : BitVec 32 := BitVec.ofNat 32 (i 1).val
  let c1_i32 : BitVec 32 := 1#32
  let v0 : BitVec 32 := Scalar.subi arg1 c1_i32
  let v1 : BitVec 32 := Scalar.addi v0 c0_i32
  let v2 : BitVec 32 := Scalar.maxsi c0_i32_0 v1
  let v3 : BitVec 32 := Scalar.minsi c32_i32 v2
  let c128_i32_43 : BitVec 32 := 128#32
  let v119 : BitVec 32 := Scalar.muli v3 c128_i32_43
  let v120 : BitVec 32 := v119
  let v121 : Index := Scalar.indexCast v120
  let c0_44 : Index := 0#32
  ![v121.toNat, 0]
def k0_mult3 (i : grid0.Coords) : BitVec 32 :=
  let c32_i32_4 : BitVec 32 := 32#32
  let c0_i32_3 : BitVec 32 := 0#32
  let arg1 : BitVec 32 := BitVec.ofNat 32 (i 1).val
  let c1_i32_1 : BitVec 32 := 1#32
  let v4 : BitVec 32 := Scalar.subi arg1 c1_i32_1
  let c1_i32_2 : BitVec 32 := 1#32
  let v5 : BitVec 32 := Scalar.addi v4 c1_i32_2
  let v6 : BitVec 32 := Scalar.maxsi c0_i32_3 v5
  let v7 : BitVec 32 := Scalar.minsi c32_i32_4 v6
  let c128_i32_54 : BitVec 32 := 128#32
  let v149 : BitVec 32 := Scalar.muli v7 c128_i32_54
  v149
def k0_mult4 (i : grid0.Coords) : BitVec 32 :=
  let c32_i32_7 : BitVec 32 := 32#32
  let c0_i32_6 : BitVec 32 := 0#32
  let arg1 : BitVec 32 := BitVec.ofNat 32 (i 1).val
  let c1_i32_5 : BitVec 32 := 1#32
  let v8 : BitVec 32 := Scalar.subi arg1 c1_i32_5
  let c2_i32 : BitVec 32 := 2#32
  let v9 : BitVec 32 := Scalar.addi v8 c2_i32
  let v10 : BitVec 32 := Scalar.maxsi c0_i32_6 v9
  let v11 : BitVec 32 := Scalar.minsi c32_i32_7 v10
  let c128_i32_65 : BitVec 32 := 128#32
  let v179 : BitVec 32 := Scalar.muli v11 c128_i32_65
  v179
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c32_i32 : BitVec 32 := 32#32
  let c0_i32_0 : BitVec 32 := 0#32
  ![arg0.toNat, c0_i32.toNat, c32_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.addi v0 c0_i32
  let c0_i32_0 : BitVec 32 := 0#32
  let c32_i32 : BitVec 32 := 32#32
  let v2 : BitVec 32 := Scalar.maxsi c0_i32_0 v1
  let v3 : BitVec 32 := Scalar.minsi c32_i32 v2
  let c32_i32_1 : BitVec 32 := 32#32
  let c0_i32_2 : BitVec 32 := 0#32
  ![arg0.toNat, v3.toNat, c32_i32_1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c1_i32_0 : BitVec 32 := 1#32
  let v1 : BitVec 32 := Scalar.addi v0 c1_i32_0
  let c0_i32 : BitVec 32 := 0#32
  let c32_i32 : BitVec 32 := 32#32
  let v2 : BitVec 32 := Scalar.maxsi c0_i32 v1
  let v3 : BitVec 32 := Scalar.minsi c32_i32 v2
  let c32_i32_1 : BitVec 32 := 32#32
  let c0_i32_2 : BitVec 32 := 0#32
  ![arg0.toNat, v3.toNat, c32_i32_1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c2_i32 : BitVec 32 := 2#32
  let v1 : BitVec 32 := Scalar.addi v0 c2_i32
  let c0_i32 : BitVec 32 := 0#32
  let c32_i32 : BitVec 32 := 32#32
  let v2 : BitVec 32 := Scalar.maxsi c0_i32 v1
  let v3 : BitVec 32 := Scalar.minsi c32_i32 v2
  let c32_i32_0 : BitVec 32 := 32#32
  let c0_i32_1 : BitVec 32 := 0#32
  ![arg0.toNat, v3.toNat, c32_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c33_i32 : BitVec 32 := 33#32
  let c0_i32_0 : BitVec 32 := 0#32
  ![arg0.toNat, c0_i32.toNat, c33_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.addi v0 c0_i32
  let c0_i32_0 : BitVec 32 := 0#32
  let c32_i32 : BitVec 32 := 32#32
  let v2 : BitVec 32 := Scalar.maxsi c0_i32_0 v1
  let v3 : BitVec 32 := Scalar.minsi c32_i32 v2
  let c33_i32 : BitVec 32 := 33#32
  let c0_i32_1 : BitVec 32 := 0#32
  ![arg0.toNat, v3.toNat, c33_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c1_i32_0 : BitVec 32 := 1#32
  let v1 : BitVec 32 := Scalar.addi v0 c1_i32_0
  let c0_i32 : BitVec 32 := 0#32
  let c32_i32 : BitVec 32 := 32#32
  let v2 : BitVec 32 := Scalar.maxsi c0_i32 v1
  let v3 : BitVec 32 := Scalar.minsi c32_i32 v2
  let c33_i32 : BitVec 32 := 33#32
  let c0_i32_1 : BitVec 32 := 0#32
  ![arg0.toNat, v3.toNat, c33_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c2_i32 : BitVec 32 := 2#32
  let v1 : BitVec 32 := Scalar.addi v0 c2_i32
  let c0_i32 : BitVec 32 := 0#32
  let c32_i32 : BitVec 32 := 32#32
  let v2 : BitVec 32 := Scalar.maxsi c0_i32 v1
  let v3 : BitVec 32 := Scalar.minsi c32_i32 v2
  let c33_i32 : BitVec 32 := 33#32
  let c0_i32_0 : BitVec 32 := 0#32
  ![arg0.toNat, v3.toNat, c33_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S4224x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4224x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4224x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S12x4112x8704 : Shape := ⟨3, ![12, 4112, 8704]⟩
abbrev S16 : Shape := ⟨1, ![16]⟩
abbrev S4112 : Shape := ⟨1, ![4112]⟩
abbrev S12x4112x1024 : Shape := ⟨3, ![12, 4112, 1024]⟩
abbrev S12x4112x256 : Shape := ⟨3, ![12, 4112, 256]⟩
abbrev S12x4112x16x64 : Shape := ⟨4, ![12, 4112, 16, 64]⟩
abbrev S8 : Shape := ⟨1, ![8]⟩
abbrev S_ : Shape := ⟨0, ![]⟩
abbrev S4112x1 : Shape := ⟨2, ![4112, 1]⟩
abbrev S1x8 : Shape := ⟨2, ![1, 8]⟩
abbrev S4112x8 : Shape := ⟨2, ![4112, 8]⟩
abbrev S1x4112x1x8 : Shape := ⟨4, ![1, 4112, 1, 8]⟩
abbrev S12x4112x16x16 : Shape := ⟨4, ![12, 4112, 16, 16]⟩
abbrev S12x4112x16x8 : Shape := ⟨4, ![12, 4112, 16, 8]⟩
abbrev S12x4112x16x48 : Shape := ⟨4, ![12, 4112, 16, 48]⟩
abbrev S12x4112x4x4x64 : Shape := ⟨5, ![12, 4112, 4, 4, 64]⟩
abbrev S12x4112x4x64 : Shape := ⟨4, ![12, 4112, 4, 64]⟩
abbrev S12x4112x4x16 : Shape := ⟨4, ![12, 4112, 4, 16]⟩
abbrev S12x4112x4x8 : Shape := ⟨4, ![12, 4112, 4, 8]⟩
abbrev S12x4112x4x48 : Shape := ⟨4, ![12, 4112, 4, 48]⟩
abbrev S12x4x4112x4112x4 : Shape := ⟨5, ![12, 4, 4112, 4112, 4]⟩
abbrev S12x4x4x4112x4112 : Shape := ⟨5, ![12, 4, 4, 4112, 4112]⟩
abbrev S1x4112 : Shape := ⟨2, ![1, 4112]⟩
abbrev S4112x4112 : Shape := ⟨2, ![4112, 4112]⟩
abbrev S4x4 : Shape := ⟨2, ![4, 4]⟩
abbrev S4x4x1x1 : Shape := ⟨4, ![4, 4, 1, 1]⟩
abbrev S12x4x4x4112 : Shape := ⟨4, ![12, 4, 4, 4112]⟩
abbrev S12x4x4x4112x1 : Shape := ⟨5, ![12, 4, 4, 4112, 1]⟩
abbrev S1x4x4x1x1 : Shape := ⟨5, ![1, 4, 4, 1, 1]⟩
abbrev S12x4x64x4x4112 : Shape := ⟨5, ![12, 4, 64, 4, 4112]⟩

abbrev nBuf : Space → Nat
  | .hbm => 134
  | .vmem => 0
  | .smem => 0
  | _ => 0

abbrev hbmTy0_0 (i : Nat) : BufTy := match i % 128 with
  | 0 => ⟨S12x4112x8704, .f32⟩
  | 1 => ⟨S16, .f32⟩
  | 2 => ⟨S4112, .i32⟩
  | 3 => ⟨S12x4112x1024, .f32⟩
  | 4 => ⟨S12x4112x256, .f32⟩
  | 5 => ⟨S12x4112x256, .f32⟩
  | 6 => ⟨S12x4112x16x64, .f32⟩
  | 7 => ⟨S8, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S4112, .f32⟩
  | 19 => ⟨S4112x1, .f32⟩
  | 20 => ⟨S1x8, .f32⟩
  | 21 => ⟨S4112x8, .f32⟩
  | 22 => ⟨S4112x8, .f32⟩
  | 23 => ⟨S4112x8, .f32⟩
  | 24 => ⟨S4112x8, .f32⟩
  | 25 => ⟨S1x4112x1x8, .f32⟩
  | 26 => ⟨S4112x8, .f32⟩
  | 27 => ⟨S1x4112x1x8, .f32⟩
  | 28 => ⟨S12x4112x16x16, .f32⟩
  | 29 => ⟨S12x4112x16x8, .f32⟩
  | 30 => ⟨S12x4112x16x8, .f32⟩
  | 31 => ⟨S12x4112x16x8, .f32⟩
  | 32 => ⟨S12x4112x16x8, .f32⟩
  | 33 => ⟨S12x4112x16x8, .f32⟩
  | 34 => ⟨S12x4112x16x8, .f32⟩
  | 35 => ⟨S12x4112x16x8, .f32⟩
  | 36 => ⟨S12x4112x16x8, .f32⟩
  | 37 => ⟨S12x4112x16x8, .f32⟩
  | 38 => ⟨S12x4112x16x8, .f32⟩
  | 39 => ⟨S12x4112x16x8, .f32⟩
  | 40 => ⟨S12x4112x16x8, .f32⟩
  | 41 => ⟨S12x4112x16x16, .f32⟩
  | 42 => ⟨S12x4112x16x48, .f32⟩
  | 43 => ⟨S12x4112x16x64, .f32⟩
  | 44 => ⟨S12x4112x4x4x64, .f32⟩
  | 45 => ⟨S12x4112x4x64, .f32⟩
  | 46 => ⟨S8, .f32⟩
  | 47 => ⟨S8, .f32⟩
  | 48 => ⟨S_, .f32⟩
  | 49 => ⟨S8, .f32⟩
  | 50 => ⟨S8, .f32⟩
  | 51 => ⟨S_, .f32⟩
  | 52 => ⟨S8, .f32⟩
  | 53 => ⟨S8, .f32⟩
  | 54 => ⟨S_, .f32⟩
  | 55 => ⟨S8, .f32⟩
  | 56 => ⟨S8, .f32⟩
  | 57 => ⟨S4112, .f32⟩
  | 58 => ⟨S4112x1, .f32⟩
  | 59 => ⟨S1x8, .f32⟩
  | 60 => ⟨S4112x8, .f32⟩
  | 61 => ⟨S4112x8, .f32⟩
  | 62 => ⟨S4112x8, .f32⟩
  | 63 => ⟨S4112x8, .f32⟩
  | 64 => ⟨S1x4112x1x8, .f32⟩
  | 65 => ⟨S4112x8, .f32⟩
  | 66 => ⟨S1x4112x1x8, .f32⟩
  | 67 => ⟨S12x4112x4x16, .f32⟩
  | 68 => ⟨S12x4112x4x8, .f32⟩
  | 69 => ⟨S12x4112x4x8, .f32⟩
  | 70 => ⟨S12x4112x4x8, .f32⟩
  | 71 => ⟨S12x4112x4x8, .f32⟩
  | 72 => ⟨S12x4112x4x8, .f32⟩
  | 73 => ⟨S12x4112x4x8, .f32⟩
  | 74 => ⟨S12x4112x4x8, .f32⟩
  | 75 => ⟨S12x4112x4x8, .f32⟩
  | 76 => ⟨S12x4112x4x8, .f32⟩
  | 77 => ⟨S12x4112x4x8, .f32⟩
  | 78 => ⟨S12x4112x4x8, .f32⟩
  | 79 => ⟨S12x4112x4x8, .f32⟩
  | 80 => ⟨S12x4112x4x16, .f32⟩
  | 81 => ⟨S12x4112x4x48, .f32⟩
  | 82 => ⟨S12x4112x4x64, .f32⟩
  | 83 => ⟨S12x4112x4x64, .f32⟩
  | 84 => ⟨S12x4x4112x4112x4, .f32⟩
  | 85 => ⟨S12x4x4x4112x4112, .f32⟩
  | 86 => ⟨S_, .f32⟩
  | 87 => ⟨S12x4x4x4112x4112, .f32⟩
  | 88 => ⟨S12x4x4x4112x4112, .f32⟩
  | 89 => ⟨S1x4112, .i32⟩
  | 90 => ⟨S_, .i32⟩
  | 91 => ⟨S1x4112, .i32⟩
  | 92 => ⟨S1x4112, .i1⟩
  | 93 => ⟨S1x4112, .i32⟩
  | 94 => ⟨S4112x1, .i32⟩
  | 95 => ⟨S4112x4112, .i32⟩
  | 96 => ⟨S4112x4112, .i32⟩
  | 97 => ⟨S4112x4112, .i32⟩
  | 98 => ⟨S4112x4112, .i32⟩
  | 99 => ⟨S_, .i32⟩
  | 100 => ⟨S4112x4112, .i32⟩
  | 101 => ⟨S4112x4112, .i1⟩
  | 102 => ⟨S4112x4112, .i1⟩
  | 103 => ⟨S4112x4112, .i1⟩
  | 104 => ⟨S_, .f32⟩
  | 105 => ⟨S_, .f32⟩
  | 106 => ⟨S12x4x4x4112x4112, .i1⟩
  | 107 => ⟨S12x4x4x4112x4112, .f32⟩
  | 108 => ⟨S12x4x4x4112x4112, .f32⟩
  | 109 => ⟨S4x4, .f32⟩
  | 110 => ⟨S4x4x1x1, .f32⟩
  | 111 => ⟨S_, .f32⟩
  | 112 => ⟨S12x4x4x4112, .f32⟩
  | 113 => ⟨S12x4x4x4112x1, .f32⟩
  | 114 => ⟨S1x4x4x1x1, .f32⟩
  | 115 => ⟨S12x4x4x4112x1, .f32⟩
  | 116 => ⟨S12x4x4x4112x1, .f32⟩
  | 117 => ⟨S12x4x4x4112x4112, .f32⟩
  | 118 => ⟨S12x4x4x4112x4112, .f32⟩
  | 119 => ⟨S12x4x4x4112x4112, .f32⟩
  | 120 => ⟨S_, .f32⟩
  | 121 => ⟨S12x4x4x4112, .f32⟩
  | 122 => ⟨S12x4x4x4112x1, .f32⟩
  | 123 => ⟨S1x4x4x1x1, .f32⟩
  | 124 => ⟨S12x4x4x4112x1, .f32⟩
  | 125 => ⟨S12x4x4x4112x1, .f32⟩
  | 126 => ⟨S12x4x4x4112x1, .f32⟩
  | 127 => ⟨S12x4x4x4112x1, .f32⟩
  | _ => ⟨S12x4112x8704, .f32⟩

abbrev hbmTy0_1 (i : Nat) : BufTy := match i % 128 with
  | 0 => ⟨S12x4x4x4112x4112, .f32⟩
  | 1 => ⟨S12x4x4x4112x4112, .f32⟩
  | 2 => ⟨S12x4x64x4x4112, .f32⟩
  | 3 => ⟨S12x4112x4x4x64, .f32⟩
  | 4 => ⟨S12x4112x1024, .f32⟩
  | 5 => ⟨S12x4112x1024, .bf16⟩
  | _ => ⟨S12x4112x8704, .f32⟩

abbrev hbmTy (i : Nat) : BufTy := match i / 128 with
  | 0 => hbmTy0_0 i
  | 1 => hbmTy0_1 i
  | _ => ⟨S12x4112x8704, .f32⟩

abbrev bufTy : (tb : Table) → Fin (tcTables nBuf tb) → BufTy
  | .hbm, ⟨i, _⟩ => hbmTy i
  | _, _ => ⟨S12x4112x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_cst_2 : Ref sig .tc := ⟨.hbm, 48, rfl⟩
abbrev main_v43 : Ref sig .tc := ⟨.hbm, 49, rfl⟩
abbrev main_v44 : Ref sig .tc := ⟨.hbm, 50, rfl⟩
abbrev main_cst_3 : Ref sig .tc := ⟨.hbm, 51, rfl⟩
abbrev main_v45 : Ref sig .tc := ⟨.hbm, 52, rfl⟩
abbrev main_v46 : Ref sig .tc := ⟨.hbm, 53, rfl⟩
abbrev main_cst_4 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_cst_5 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_c : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_c_6 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_cst_7 : Ref sig .tc := ⟨.hbm, 104, rfl⟩
abbrev main_call0_v0 : Ref sig .tc := ⟨.hbm, 105, rfl⟩
abbrev main_call0_v1 : Ref sig .tc := ⟨.hbm, 106, rfl⟩
abbrev main_call0_v2 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_cst_8 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_cst_9 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩

abbrev nD : Nat := 1
abbrev τ : Topo := Topo.v7x

variable {F : FTy → Type} [FloatOps F]
-- ==== Kernel2.lean ====
abbrev S50688x1024 : Shape := ⟨2, ![50688, 1024]⟩
abbrev S1024 : Shape := ⟨1, ![1024]⟩
abbrev S1024x8704 : Shape := ⟨2, ![1024, 8704]⟩
abbrev S1x1024 : Shape := ⟨2, ![1, 1024]⟩
abbrev S50688x8704 : Shape := ⟨2, ![50688, 8704]⟩
abbrev S512x1024 : Shape := ⟨2, ![512, 1024]⟩
abbrev S1024x2176 : Shape := ⟨2, ![1024, 2176]⟩
abbrev S512x2176 : Shape := ⟨2, ![512, 2176]⟩
abbrev S512 : Shape := ⟨1, ![512]⟩
abbrev S512x1 : Shape := ⟨2, ![512, 1]⟩

abbrev nBuf : Space → Nat
  | .hbm => 6
  | .vmem => 7
  | .smem => 0
  | _ => 0

abbrev bufTy : (tb : Table) → Fin (tcTables nBuf tb) → BufTy
  | .hbm, ⟨0, _⟩ => ⟨S50688x1024, .f32⟩
  | .hbm, ⟨1, _⟩ => ⟨S1024, .f32⟩
  | .hbm, ⟨2, _⟩ => ⟨S1024x8704, .f32⟩
  | .hbm, ⟨3, _⟩ => ⟨S1x1024, .f32⟩
  | .hbm, ⟨4, _⟩ => ⟨S1024x8704, .bf16⟩
  | .hbm, ⟨5, _⟩ => ⟨S50688x8704, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2176, .bf16⟩
  | .local _ .vmem, ⟨4, _⟩ => ⟨S1024x2176, .bf16⟩
  | .local _ .vmem, ⟨5, _⟩ => ⟨S512x2176, .f32⟩
  | .local _ .vmem, ⟨6, _⟩ => ⟨S512x2176, .f32⟩
  | _, _ => ⟨S50688x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 99], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2176 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S50688x1024 : Shape := ⟨2, ![50688, 1024]⟩
abbrev S1024 : Shape := ⟨1, ![1024]⟩
abbrev S1024x8704 : Shape := ⟨2, ![1024, 8704]⟩
abbrev S_ : Shape := ⟨0, ![]⟩
abbrev S50688 : Shape := ⟨1, ![50688]⟩
abbrev S50688x1 : Shape := ⟨2, ![50688, 1]⟩
abbrev S1x1024 : Shape := ⟨2, ![1, 1024]⟩
abbrev S50688x8704 : Shape := ⟨2, ![50688, 8704]⟩

abbrev nBuf : Space → Nat
  | .hbm => 20
  | .vmem => 0
  | .smem => 0
  | _ => 0

abbrev bufTy : (tb : Table) → Fin (tcTables nBuf tb) → BufTy
  | .hbm, ⟨0, _⟩ => ⟨S50688x1024, .f32⟩
  | .hbm, ⟨1, _⟩ => ⟨S1024, .f32⟩
  | .hbm, ⟨2, _⟩ => ⟨S1024x8704, .f32⟩
  | .hbm, ⟨3, _⟩ => ⟨S50688x1024, .f32⟩
  | .hbm, ⟨4, _⟩ => ⟨S_, .f32⟩
  | .hbm, ⟨5, _⟩ => ⟨S50688, .f32⟩
  | .hbm, ⟨6, _⟩ => ⟨S50688x1, .f32⟩
  | .hbm, ⟨7, _⟩ => ⟨S_, .f32⟩
  | .hbm, ⟨8, _⟩ => ⟨S50688x1, .f32⟩
  | .hbm, ⟨9, _⟩ => ⟨S50688x1, .f32⟩
  | .hbm, ⟨10, _⟩ => ⟨S_, .f32⟩
  | .hbm, ⟨11, _⟩ => ⟨S50688x1, .f32⟩
  | .hbm, ⟨12, _⟩ => ⟨S50688x1, .f32⟩
  | .hbm, ⟨13, _⟩ => ⟨S50688x1, .f32⟩
  | .hbm, ⟨14, _⟩ => ⟨S50688x1024, .f32⟩
  | .hbm, ⟨15, _⟩ => ⟨S50688x1024, .f32⟩
  | .hbm, ⟨16, _⟩ => ⟨S1x1024, .f32⟩
  | .hbm, ⟨17, _⟩ => ⟨S50688x1024, .f32⟩
  | .hbm, ⟨18, _⟩ => ⟨S50688x1024, .f32⟩
  | .hbm, ⟨19, _⟩ => ⟨S50688x8704, .f32⟩
  | _, _ => ⟨S50688x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel3.lean ====
abbrev S50688x1024 : Shape := ⟨2, ![50688, 1024]⟩
abbrev S1024 : Shape := ⟨1, ![1024]⟩
abbrev S50688x8704 : Shape := ⟨2, ![50688, 8704]⟩
abbrev S1024x1024 : Shape := ⟨2, ![1024, 1024]⟩
abbrev S50688x256 : Shape := ⟨2, ![50688, 256]⟩
abbrev S1x1024 : Shape := ⟨2, ![1, 1024]⟩
abbrev S256x1024 : Shape := ⟨2, ![256, 1024]⟩
abbrev S256x128 : Shape := ⟨2, ![256, 128]⟩
abbrev S1x128 : Shape := ⟨2, ![1, 128]⟩
abbrev S256 : Shape := ⟨1, ![256]⟩
abbrev S256x1 : Shape := ⟨2, ![256, 1]⟩

abbrev nBuf : Space → Nat
  | .hbm => 25
  | .vmem => 20
  | .smem => 0
  | _ => 0

abbrev bufTy : (tb : Table) → Fin (tcTables nBuf tb) → BufTy
  | .hbm, ⟨0, _⟩ => ⟨S50688x1024, .bf16⟩
  | .hbm, ⟨1, _⟩ => ⟨S50688x1024, .f32⟩
  | .hbm, ⟨2, _⟩ => ⟨S50688x1024, .f32⟩
  | .hbm, ⟨3, _⟩ => ⟨S1024, .f32⟩
  | .hbm, ⟨4, _⟩ => ⟨S50688x8704, .f32⟩
  | .hbm, ⟨5, _⟩ => ⟨S50688x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S50688x1024, .f32⟩
  | .hbm, ⟨10, _⟩ => ⟨S50688x1024, .f32⟩
  | .hbm, ⟨11, _⟩ => ⟨S50688x1024, .f32⟩
  | .hbm, ⟨12, _⟩ => ⟨S50688x1024, .f32⟩
  | .hbm, ⟨13, _⟩ => ⟨S50688x1024, .f32⟩
  | .hbm, ⟨14, _⟩ => ⟨S50688x1024, .f32⟩
  | .hbm, ⟨15, _⟩ => ⟨S50688x1024, .f32⟩
  | .hbm, ⟨16, _⟩ => ⟨S50688x1024, .f32⟩
  | .hbm, ⟨17, _⟩ => ⟨S50688x256, .f32⟩
  | .hbm, ⟨18, _⟩ => ⟨S50688x256, .f32⟩
  | .hbm, ⟨19, _⟩ => ⟨S50688x8704, .f32⟩
  | .hbm, ⟨20, _⟩ => ⟨S1x1024, .f32⟩
  | .hbm, ⟨21, _⟩ => ⟨S1024x1024, .bf16⟩
  | .hbm, ⟨22, _⟩ => ⟨S1024x1024, .bf16⟩
  | .hbm, ⟨23, _⟩ => ⟨S1024x1024, .bf16⟩
  | .hbm, ⟨24, _⟩ => ⟨S50688x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S256x1024, .f32⟩
  | .local _ .vmem, ⟨19, _⟩ => ⟨S256x1024, .f32⟩
  | _, _ => ⟨S50688x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![198], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S50688x1024 : Shape := ⟨2, ![50688, 1024]⟩
abbrev S1024 : Shape := ⟨1, ![1024]⟩
abbrev S50688x8704 : Shape := ⟨2, ![50688, 8704]⟩
abbrev S1024x1024 : Shape := ⟨2, ![1024, 1024]⟩
abbrev S50688x8x128 : Shape := ⟨3, ![50688, 8, 128]⟩
abbrev S8x128 : Shape := ⟨2, ![8, 128]⟩
abbrev S_ : Shape := ⟨0, ![]⟩
abbrev S50688x8 : Shape := ⟨2, ![50688, 8]⟩
abbrev S50688x8x1 : Shape := ⟨3, ![50688, 8, 1]⟩
abbrev S1x8x128 : Shape := ⟨3, ![1, 8, 128]⟩

abbrev nBuf : Space → Nat
  | .hbm => 66
  | .vmem => 0
  | .smem => 0
  | _ => 0

abbrev bufTy : (tb : Table) → Fin (tcTables nBuf tb) → BufTy
  | .hbm, ⟨0, _⟩ => ⟨S50688x1024, .bf16⟩
  | .hbm, ⟨1, _⟩ => ⟨S50688x1024, .f32⟩
  | .hbm, ⟨2, _⟩ => ⟨S50688x1024, .f32⟩
  | .hbm, ⟨3, _⟩ => ⟨S1024, .f32⟩
  | .hbm, ⟨4, _⟩ => ⟨S50688x8704, .f32⟩
  | .hbm, ⟨5, _⟩ => ⟨S50688x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S50688x1024, .f32⟩
  | .hbm, ⟨10, _⟩ => ⟨S50688x1024, .f32⟩
  | .hbm, ⟨11, _⟩ => ⟨S50688x1024, .f32⟩
  | .hbm, ⟨12, _⟩ => ⟨S50688x1024, .f32⟩
  | .hbm, ⟨13, _⟩ => ⟨S50688x8x128, .f32⟩
  | .hbm, ⟨14, _⟩ => ⟨S8x128, .f32⟩
  | .hbm, ⟨15, _⟩ => ⟨S50688x8x128, .f32⟩
  | .hbm, ⟨16, _⟩ => ⟨S_, .f32⟩
  | .hbm, ⟨17, _⟩ => ⟨S50688x8, .f32⟩
  | .hbm, ⟨18, _⟩ => ⟨S50688x8x1, .f32⟩
  | .hbm, ⟨19, _⟩ => ⟨S_, .f32⟩
  | .hbm, ⟨20, _⟩ => ⟨S50688x8x1, .f32⟩
  | .hbm, ⟨21, _⟩ => ⟨S50688x8x1, .f32⟩
  | .hbm, ⟨22, _⟩ => ⟨S_, .f32⟩
  | .hbm, ⟨23, _⟩ => ⟨S50688x8x1, .f32⟩
  | .hbm, ⟨24, _⟩ => ⟨S50688x8x1, .f32⟩
  | .hbm, ⟨25, _⟩ => ⟨S50688x8x1, .f32⟩
  | .hbm, ⟨26, _⟩ => ⟨S50688x8x128, .f32⟩
  | .hbm, ⟨27, _⟩ => ⟨S50688x8x128, .f32⟩
  | .hbm, ⟨28, _⟩ => ⟨S1x8x128, .f32⟩
  | .hbm, ⟨29, _⟩ => ⟨S50688x8x128, .f32⟩
  | .hbm, ⟨30, _⟩ => ⟨S50688x8x128, .f32⟩
  | .hbm, ⟨31, _⟩ => ⟨S50688x1024, .f32⟩
  | .hbm, ⟨32, _⟩ => ⟨S50688x1024, .f32⟩
  | .hbm, ⟨33, _⟩ => ⟨S50688x1024, .f32⟩
  | .hbm, ⟨34, _⟩ => ⟨S_, .f32⟩
  | .hbm, ⟨35, _⟩ => ⟨S50688x1024, .f32⟩
  | .hbm, ⟨36, _⟩ => ⟨S50688x1024, .f32⟩
  | .hbm, ⟨37, _⟩ => ⟨S_, .f32⟩
  | .hbm, ⟨38, _⟩ => ⟨S50688x1024, .f32⟩
  | .hbm, ⟨39, _⟩ => ⟨S50688x1024, .f32⟩
  | .hbm, ⟨40, _⟩ => ⟨S50688x1024, .f32⟩
  | .hbm, ⟨41, _⟩ => ⟨S50688x1024, .f32⟩
  | .hbm, ⟨42, _⟩ => ⟨S50688x1024, .f32⟩
  | .hbm, ⟨43, _⟩ => ⟨S50688x1024, .f32⟩
  | .hbm, ⟨44, _⟩ => ⟨S_, .f32⟩
  | .hbm, ⟨45, _⟩ => ⟨S50688x1024, .f32⟩
  | .hbm, ⟨46, _⟩ => ⟨S50688x1024, .f32⟩
  | .hbm, ⟨47, _⟩ => ⟨S_, .f32⟩
  | .hbm, ⟨48, _⟩ => ⟨S50688x1024, .f32⟩
  | .hbm, ⟨49, _⟩ => ⟨S50688x1024, .f32⟩
  | .hbm, ⟨50, _⟩ => ⟨S50688x1024, .f32⟩
  | .hbm, ⟨51, _⟩ => ⟨S50688x1024, .f32⟩
  | .hbm, ⟨52, _⟩ => ⟨S50688x1024, .f32⟩
  | .hbm, ⟨53, _⟩ => ⟨S50688x1024, .f32⟩
  | .hbm, ⟨54, _⟩ => ⟨S50688x1024, .f32⟩
  | .hbm, ⟨55, _⟩ => ⟨S_, .f32⟩
  | .hbm, ⟨56, _⟩ => ⟨S50688x1024, .f32⟩
  | .hbm, ⟨57, _⟩ => ⟨S50688x1024, .f32⟩
  | .hbm, ⟨58, _⟩ => ⟨S_, .f32⟩
  | .hbm, ⟨59, _⟩ => ⟨S50688x1024, .f32⟩
  | .hbm, ⟨60, _⟩ => ⟨S50688x1024, .f32⟩
  | .hbm, ⟨61, _⟩ => ⟨S50688x1024, .f32⟩
  | .hbm, ⟨62, _⟩ => ⟨S50688x1024, .f32⟩
  | .hbm, ⟨63, _⟩ => ⟨S50688x1024, .f32⟩
  | .hbm, ⟨64, _⟩ => ⟨S50688x1024, .f32⟩
  | .hbm, ⟨65, _⟩ => ⟨S50688x1024, .f32⟩
  | _, _ => ⟨S50688x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_2 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩

abbrev nD : Nat := 1
abbrev τ : Topo := Topo.v7x

variable {F : FTy → Type} [FloatOps F]
-- ==== Kernel4.lean ====
abbrev S8x4112x1024 : Shape := ⟨3, ![8, 4112, 1024]⟩
abbrev S4x4112x1024 : Shape := ⟨3, ![4, 4112, 1024]⟩
abbrev S1024 : Shape := ⟨1, ![1024]⟩
abbrev S12x4112x1024 : Shape := ⟨3, ![12, 4112, 1024]⟩
abbrev S_ : Shape := ⟨0, ![]⟩
abbrev S12x4224x1024 : Shape := ⟨3, ![12, 4224, 1024]⟩
abbrev S1x1024 : Shape := ⟨2, ![1, 1024]⟩
abbrev S8x4096x1024 : Shape := ⟨3, ![8, 4096, 1024]⟩
abbrev S1x128x1024 : Shape := ⟨3, ![1, 128, 1024]⟩
abbrev S128x1024 : Shape := ⟨2, ![128, 1024]⟩
abbrev S128 : Shape := ⟨1, ![128]⟩
abbrev S128x1 : Shape := ⟨2, ![128, 1]⟩

abbrev nBuf : Space → Nat
  | .hbm => 9
  | .vmem => 5
  | .smem => 0
  | _ => 0

abbrev bufTy : (tb : Table) → Fin (tcTables nBuf tb) → BufTy
  | .hbm, ⟨0, _⟩ => ⟨S8x4112x1024, .f32⟩
  | .hbm, ⟨1, _⟩ => ⟨S4x4112x1024, .f32⟩
  | .hbm, ⟨2, _⟩ => ⟨S1024, .f32⟩
  | .hbm, ⟨3, _⟩ => ⟨S12x4112x1024, .f32⟩
  | .hbm, ⟨4, _⟩ => ⟨S_, .i32⟩
  | .hbm, ⟨5, _⟩ => ⟨S_, .f32⟩
  | .hbm, ⟨6, _⟩ => ⟨S12x4224x1024, .f32⟩
  | .hbm, ⟨7, _⟩ => ⟨S1x1024, .f32⟩
  | .hbm, ⟨8, _⟩ => ⟨S8x4096x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x1024, .f32⟩
  | .local _ .vmem, ⟨3, _⟩ => ⟨S1x128x1024, .f32⟩
  | .local _ .vmem, ⟨4, _⟩ => ⟨S1x128x1024, .f32⟩
  | _, _ => ⟨S8x4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let v1 : BitVec 32 := Scalar.addi arg1 c1_i32
  let c0_i32_0 : BitVec 32 := 0#32
  let c0_i32_1 : BitVec 32 := 0#32
  ![v0.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8x4112x1024 : Shape := ⟨3, ![8, 4112, 1024]⟩
abbrev S4x4112x1024 : Shape := ⟨3, ![4, 4112, 1024]⟩
abbrev S1024 : Shape := ⟨1, ![1024]⟩
abbrev S_ : Shape := ⟨0, ![]⟩
abbrev S8x4112 : Shape := ⟨2, ![8, 4112]⟩
abbrev S8x4112x1 : Shape := ⟨3, ![8, 4112, 1]⟩
abbrev S1x1x1024 : Shape := ⟨3, ![1, 1, 1024]⟩
abbrev S8x4096x1024 : Shape := ⟨3, ![8, 4096, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8x4112x1024, .f32⟩
  | .hbm, ⟨1, _⟩ => ⟨S4x4112x1024, .f32⟩
  | .hbm, ⟨2, _⟩ => ⟨S1024, .f32⟩
  | .hbm, ⟨3, _⟩ => ⟨S8x4112x1024, .f32⟩
  | .hbm, ⟨4, _⟩ => ⟨S_, .f32⟩
  | .hbm, ⟨5, _⟩ => ⟨S8x4112, .f32⟩
  | .hbm, ⟨6, _⟩ => ⟨S8x4112x1, .f32⟩
  | .hbm, ⟨7, _⟩ => ⟨S_, .f32⟩
  | .hbm, ⟨8, _⟩ => ⟨S8x4112x1, .f32⟩
  | .hbm, ⟨9, _⟩ => ⟨S8x4112x1, .f32⟩
  | .hbm, ⟨10, _⟩ => ⟨S_, .f32⟩
  | .hbm, ⟨11, _⟩ => ⟨S8x4112x1, .f32⟩
  | .hbm, ⟨12, _⟩ => ⟨S8x4112x1, .f32⟩
  | .hbm, ⟨13, _⟩ => ⟨S8x4112x1, .f32⟩
  | .hbm, ⟨14, _⟩ => ⟨S8x4112x1024, .f32⟩
  | .hbm, ⟨15, _⟩ => ⟨S8x4112x1024, .f32⟩
  | .hbm, ⟨16, _⟩ => ⟨S1x1x1024, .f32⟩
  | .hbm, ⟨17, _⟩ => ⟨S8x4112x1024, .f32⟩
  | .hbm, ⟨18, _⟩ => ⟨S8x4112x1024, .f32⟩
  | .hbm, ⟨19, _⟩ => ⟨S8x4096x1024, .f32⟩
  | _, _ => ⟨S8x4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel5.lean ====
abbrev S8x4112x1024 : Shape := ⟨3, ![8, 4112, 1024]⟩
abbrev S4x4112x1024 : Shape := ⟨3, ![4, 4112, 1024]⟩
abbrev S1024 : Shape := ⟨1, ![1024]⟩
abbrev S12x4112x1024 : Shape := ⟨3, ![12, 4112, 1024]⟩
abbrev S_ : Shape := ⟨0, ![]⟩
abbrev S12x4224x1024 : Shape := ⟨3, ![12, 4224, 1024]⟩
abbrev S1x1024 : Shape := ⟨2, ![1, 1024]⟩
abbrev S4x4096x1024 : Shape := ⟨3, ![4, 4096, 1024]⟩
abbrev S1x128x1024 : Shape := ⟨3, ![1, 128, 1024]⟩
abbrev S128x1024 : Shape := ⟨2, ![128, 1024]⟩
abbrev S128 : Shape := ⟨1, ![128]⟩
abbrev S128x1 : Shape := ⟨2, ![128, 1]⟩

abbrev nBuf : Space → Nat
  | .hbm => 9
  | .vmem => 5
  | .smem => 0
  | _ => 0

abbrev bufTy : (tb : Table) → Fin (tcTables nBuf tb) → BufTy
  | .hbm, ⟨0, _⟩ => ⟨S8x4112x1024, .f32⟩
  | .hbm, ⟨1, _⟩ => ⟨S4x4112x1024, .f32⟩
  | .hbm, ⟨2, _⟩ => ⟨S1024, .f32⟩
  | .hbm, ⟨3, _⟩ => ⟨S12x4112x1024, .f32⟩
  | .hbm, ⟨4, _⟩ => ⟨S_, .i32⟩
  | .hbm, ⟨5, _⟩ => ⟨S_, .f32⟩
  | .hbm, ⟨6, _⟩ => ⟨S12x4224x1024, .f32⟩
  | .hbm, ⟨7, _⟩ => ⟨S1x1024, .f32⟩
  | .hbm, ⟨8, _⟩ => ⟨S4x4096x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x1024, .f32⟩
  | .local _ .vmem, ⟨3, _⟩ => ⟨S1x128x1024, .f32⟩
  | .local _ .vmem, ⟨4, _⟩ => ⟨S1x128x1024, .f32⟩
  | _, _ => ⟨S8x4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c1_i32 : BitVec 32 := 1#32
  let v1 : BitVec 32 := Scalar.addi arg1 c1_i32
  let c0_i32 : BitVec 32 := 0#32
  let c0_i32_0 : BitVec 32 := 0#32
  ![v0.toNat, v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8x4112x1024 : Shape := ⟨3, ![8, 4112, 1024]⟩
abbrev S4x4112x1024 : Shape := ⟨3, ![4, 4112, 1024]⟩
abbrev S1024 : Shape := ⟨1, ![1024]⟩
abbrev S_ : Shape := ⟨0, ![]⟩
abbrev S4x4112 : Shape := ⟨2, ![4, 4112]⟩
abbrev S4x4112x1 : Shape := ⟨3, ![4, 4112, 1]⟩
abbrev S1x1x1024 : Shape := ⟨3, ![1, 1, 1024]⟩
abbrev S4x4096x1024 : Shape := ⟨3, ![4, 4096, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8x4112x1024, .f32⟩
  | .hbm, ⟨1, _⟩ => ⟨S4x4112x1024, .f32⟩
  | .hbm, ⟨2, _⟩ => ⟨S1024, .f32⟩
  | .hbm, ⟨3, _⟩ => ⟨S4x4112x1024, .f32⟩
  | .hbm, ⟨4, _⟩ => ⟨S_, .f32⟩
  | .hbm, ⟨5, _⟩ => ⟨S4x4112, .f32⟩
  | .hbm, ⟨6, _⟩ => ⟨S4x4112x1, .f32⟩
  | .hbm, ⟨7, _⟩ => ⟨S_, .f32⟩
  | .hbm, ⟨8, _⟩ => ⟨S4x4112x1, .f32⟩
  | .hbm, ⟨9, _⟩ => ⟨S4x4112x1, .f32⟩
  | .hbm, ⟨10, _⟩ => ⟨S_, .f32⟩
  | .hbm, ⟨11, _⟩ => ⟨S4x4112x1, .f32⟩
  | .hbm, ⟨12, _⟩ => ⟨S4x4112x1, .f32⟩
  | .hbm, ⟨13, _⟩ => ⟨S4x4112x1, .f32⟩
  | .hbm, ⟨14, _⟩ => ⟨S4x4112x1024, .f32⟩
  | .hbm, ⟨15, _⟩ => ⟨S4x4112x1024, .f32⟩
  | .hbm, ⟨16, _⟩ => ⟨S1x1x1024, .f32⟩
  | .hbm, ⟨17, _⟩ => ⟨S4x4112x1024, .f32⟩
  | .hbm, ⟨18, _⟩ => ⟨S4x4112x1024, .f32⟩
  | .hbm, ⟨19, _⟩ => ⟨S4x4096x1024, .f32⟩
  | _, _ => ⟨S8x4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel6.lean ====
abbrev S50688x1024 : Shape := ⟨2, ![50688, 1024]⟩
abbrev S1024 : Shape := ⟨1, ![1024]⟩
abbrev S1024x2048 : Shape := ⟨2, ![1024, 2048]⟩
abbrev S8x2x128x128 : Shape := ⟨4, ![8, 2, 128, 128]⟩
abbrev S16x128x128 : Shape := ⟨3, ![16, 128, 128]⟩
abbrev S1x1024 : Shape := ⟨2, ![1, 1024]⟩
abbrev S128x50688 : Shape := ⟨2, ![128, 50688]⟩
abbrev S256x1024 : Shape := ⟨2, ![256, 1024]⟩
abbrev S1024x256 : Shape := ⟨2, ![1024, 256]⟩
abbrev S2x128x128 : Shape := ⟨3, ![2, 128, 128]⟩
abbrev S16x256 : Shape := ⟨2, ![16, 256]⟩
abbrev S256 : Shape := ⟨1, ![256]⟩
abbrev S256x1 : Shape := ⟨2, ![256, 1]⟩
abbrev S256x256 : Shape := ⟨2, ![256, 256]⟩
abbrev S1x128x128 : Shape := ⟨3, ![1, 128, 128]⟩
abbrev S128x128 : Shape := ⟨2, ![128, 128]⟩
abbrev S256x128 : Shape := ⟨2, ![256, 128]⟩
abbrev S128x256 : Shape := ⟨2, ![128, 256]⟩
abbrev S1x256 : Shape := ⟨2, ![1, 256]⟩
abbrev S8x256 : Shape := ⟨2, ![8, 256]⟩
abbrev S80x256 : Shape := ⟨2, ![80, 256]⟩

abbrev nBuf : Space → Nat
  | .hbm => 10
  | .vmem => 12
  | .smem => 0
  | _ => 0

abbrev bufTy : (tb : Table) → Fin (tcTables nBuf tb) → BufTy
  | .hbm, ⟨0, _⟩ => ⟨S50688x1024, .f32⟩
  | .hbm, ⟨1, _⟩ => ⟨S1024, .f32⟩
  | .hbm, ⟨2, _⟩ => ⟨S1024x2048, .f32⟩
  | .hbm, ⟨3, _⟩ => ⟨S8x2x128x128, .f32⟩
  | .hbm, ⟨4, _⟩ => ⟨S16x128x128, .f32⟩
  | .hbm, ⟨5, _⟩ => ⟨S16x128x128, .bf16⟩
  | .hbm, ⟨6, _⟩ => ⟨S1x1024, .f32⟩
  | .hbm, ⟨7, _⟩ => ⟨S1024x2048, .bf16⟩
  | .hbm, ⟨8, _⟩ => ⟨S128x50688, .i32⟩
  | .hbm, ⟨9, _⟩ => ⟨S128x50688, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S2x128x128, .bf16⟩
  | .local _ .vmem, ⟨6, _⟩ => ⟨S2x128x128, .bf16⟩
  | .local _ .vmem, ⟨7, _⟩ => ⟨S16x256, .i32⟩
  | .local _ .vmem, ⟨8, _⟩ => ⟨S16x256, .i32⟩
  | .local _ .vmem, ⟨9, _⟩ => ⟨S16x256, .f32⟩
  | .local _ .vmem, ⟨10, _⟩ => ⟨S16x256, .f32⟩
  | .local _ .vmem, ⟨11, _⟩ => ⟨S256x1024, .bf16⟩
  | _, _ => ⟨S50688x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![198, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S16x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S50688x1024 : Shape := ⟨2, ![50688, 1024]⟩
abbrev S1024 : Shape := ⟨1, ![1024]⟩
abbrev S1024x2048 : Shape := ⟨2, ![1024, 2048]⟩
abbrev S8x2x128x128 : Shape := ⟨4, ![8, 2, 128, 128]⟩
abbrev S_ : Shape := ⟨0, ![]⟩
abbrev S50688 : Shape := ⟨1, ![50688]⟩
abbrev S50688x1 : Shape := ⟨2, ![50688, 1]⟩
abbrev S1x1024 : Shape := ⟨2, ![1, 1024]⟩
abbrev S50688x2048 : Shape := ⟨2, ![50688, 2048]⟩
abbrev S50688x8x2x128 : Shape := ⟨4, ![50688, 8, 2, 128]⟩
abbrev S8x2x128x50688 : Shape := ⟨4, ![8, 2, 128, 50688]⟩
abbrev S50688x8x2x16 : Shape := ⟨4, ![50688, 8, 2, 16]⟩
abbrev S50688x8x1x16 : Shape := ⟨4, ![50688, 8, 1, 16]⟩
abbrev S50688x8x16 : Shape := ⟨3, ![50688, 8, 16]⟩
abbrev S50688x8x16x1 : Shape := ⟨4, ![50688, 8, 16, 1]⟩
abbrev S50688x8x16x16 : Shape := ⟨4, ![50688, 8, 16, 16]⟩
abbrev S50688x8x256 : Shape := ⟨3, ![50688, 8, 256]⟩
abbrev S1 : Shape := ⟨1, ![1]⟩
abbrev S1x1x1x1 : Shape := ⟨4, ![1, 1, 1, 1]⟩
abbrev S50688x128 : Shape := ⟨2, ![50688, 128]⟩
abbrev S50688x8 : Shape := ⟨2, ![50688, 8]⟩
abbrev S50688x8x1 : Shape := ⟨3, ![50688, 8, 1]⟩
abbrev S128x50688 : Shape := ⟨2, ![128, 50688]⟩

abbrev nBuf : Space → Nat
  | .hbm => 91
  | .vmem => 0
  | .smem => 0
  | _ => 0

abbrev bufTy : (tb : Table) → Fin (tcTables nBuf tb) → BufTy
  | .hbm, ⟨0, _⟩ => ⟨S50688x1024, .f32⟩
  | .hbm, ⟨1, _⟩ => ⟨S1024, .f32⟩
  | .hbm, ⟨2, _⟩ => ⟨S1024x2048, .f32⟩
  | .hbm, ⟨3, _⟩ => ⟨S8x2x128x128, .f32⟩
  | .hbm, ⟨4, _⟩ => ⟨S50688x1024, .f32⟩
  | .hbm, ⟨5, _⟩ => ⟨S_, .f32⟩
  | .hbm, ⟨6, _⟩ => ⟨S50688, .f32⟩
  | .hbm, ⟨7, _⟩ => ⟨S50688x1, .f32⟩
  | .hbm, ⟨8, _⟩ => ⟨S_, .f32⟩
  | .hbm, ⟨9, _⟩ => ⟨S50688x1, .f32⟩
  | .hbm, ⟨10, _⟩ => ⟨S50688x1, .f32⟩
  | .hbm, ⟨11, _⟩ => ⟨S_, .f32⟩
  | .hbm, ⟨12, _⟩ => ⟨S50688x1, .f32⟩
  | .hbm, ⟨13, _⟩ => ⟨S50688x1, .f32⟩
  | .hbm, ⟨14, _⟩ => ⟨S50688x1, .f32⟩
  | .hbm, ⟨15, _⟩ => ⟨S50688x1024, .f32⟩
  | .hbm, ⟨16, _⟩ => ⟨S50688x1024, .f32⟩
  | .hbm, ⟨17, _⟩ => ⟨S1x1024, .f32⟩
  | .hbm, ⟨18, _⟩ => ⟨S50688x1024, .f32⟩
  | .hbm, ⟨19, _⟩ => ⟨S50688x1024, .f32⟩
  | .hbm, ⟨20, _⟩ => ⟨S50688x2048, .f32⟩
  | .hbm, ⟨21, _⟩ => ⟨S50688x8x2x128, .f32⟩
  | .hbm, ⟨22, _⟩ => ⟨S8x2x128x50688, .f32⟩
  | .hbm, ⟨23, _⟩ => ⟨S50688x8x2x128, .f32⟩
  | .hbm, ⟨24, _⟩ => ⟨S50688x8x2x16, .f32⟩
  | .hbm, ⟨25, _⟩ => ⟨S50688x8x2x16, .i32⟩
  | .hbm, ⟨26, _⟩ => ⟨S50688x8x1x16, .f32⟩
  | .hbm, ⟨27, _⟩ => ⟨S50688x8x16, .f32⟩
  | .hbm, ⟨28, _⟩ => ⟨S50688x8x16x1, .f32⟩
  | .hbm, ⟨29, _⟩ => ⟨S50688x8x1x16, .f32⟩
  | .hbm, ⟨30, _⟩ => ⟨S50688x8x16, .f32⟩
  | .hbm, ⟨31, _⟩ => ⟨S50688x8x1x16, .f32⟩
  | .hbm, ⟨32, _⟩ => ⟨S50688x8x16x16, .f32⟩
  | .hbm, ⟨33, _⟩ => ⟨S50688x8x16x16, .f32⟩
  | .hbm, ⟨34, _⟩ => ⟨S50688x8x16x16, .f32⟩
  | .hbm, ⟨35, _⟩ => ⟨S50688x8x256, .f32⟩
  | .hbm, ⟨36, _⟩ => ⟨S50688x8x1x16, .i32⟩
  | .hbm, ⟨37, _⟩ => ⟨S50688x8x16, .i32⟩
  | .hbm, ⟨38, _⟩ => ⟨S50688x8x16x1, .i32⟩
  | .hbm, ⟨39, _⟩ => ⟨S_, .i32⟩
  | .hbm, ⟨40, _⟩ => ⟨S50688x8x16x1, .i32⟩
  | .hbm, ⟨41, _⟩ => ⟨S50688x8x16x1, .i32⟩
  | .hbm, ⟨42, _⟩ => ⟨S50688x8x1x16, .i32⟩
  | .hbm, ⟨43, _⟩ => ⟨S50688x8x16, .i32⟩
  | .hbm, ⟨44, _⟩ => ⟨S50688x8x1x16, .i32⟩
  | .hbm, ⟨45, _⟩ => ⟨S50688x8x16x16, .i32⟩
  | .hbm, ⟨46, _⟩ => ⟨S50688x8x16x16, .i32⟩
  | .hbm, ⟨47, _⟩ => ⟨S50688x8x16x16, .i32⟩
  | .hbm, ⟨48, _⟩ => ⟨S50688x8x256, .i32⟩
  | .hbm, ⟨49, _⟩ => ⟨S50688x8x16, .f32⟩
  | .hbm, ⟨50, _⟩ => ⟨S50688x8x16, .i32⟩
  | .hbm, ⟨51, _⟩ => ⟨S_, .i32⟩
  | .hbm, ⟨52, _⟩ => ⟨S50688x8x16, .i32⟩
  | .hbm, ⟨53, _⟩ => ⟨S50688x8x16, .i1⟩
  | .hbm, ⟨54, _⟩ => ⟨S_, .i32⟩
  | .hbm, ⟨55, _⟩ => ⟨S50688x8x16, .i32⟩
  | .hbm, ⟨56, _⟩ => ⟨S50688x8x16, .i32⟩
  | .hbm, ⟨57, _⟩ => ⟨S50688x8x16, .i32⟩
  | .hbm, ⟨58, _⟩ => ⟨S50688x8x16x1, .i32⟩
  | .hbm, ⟨59, _⟩ => ⟨S1, .i32⟩
  | .hbm, ⟨60, _⟩ => ⟨S_, .i32⟩
  | .hbm, ⟨61, _⟩ => ⟨S50688x8x16x1, .i32⟩
  | .hbm, ⟨62, _⟩ => ⟨S50688x8x16x1, .i1⟩
  | .hbm, ⟨63, _⟩ => ⟨S1x1x1x1, .i32⟩
  | .hbm, ⟨64, _⟩ => ⟨S50688x8x16x1, .i32⟩
  | .hbm, ⟨65, _⟩ => ⟨S50688x8x16x1, .i1⟩
  | .hbm, ⟨66, _⟩ => ⟨S50688x8x16x1, .i1⟩
  | .hbm, ⟨67, _⟩ => ⟨S_, .i1⟩
  | .hbm, ⟨68, _⟩ => ⟨S50688x8x16, .i1⟩
  | .hbm, ⟨69, _⟩ => ⟨S50688x8x16, .i32⟩
  | .hbm, ⟨70, _⟩ => ⟨S_, .i32⟩
  | .hbm, ⟨71, _⟩ => ⟨S50688x8x16, .i32⟩
  | .hbm, ⟨72, _⟩ => ⟨S50688x8x16, .i32⟩
  | .hbm, ⟨73, _⟩ => ⟨S50688x128, .i32⟩
  | .hbm, ⟨74, _⟩ => ⟨S_, .f32⟩
  | .hbm, ⟨75, _⟩ => ⟨S50688x8, .f32⟩
  | .hbm, ⟨76, _⟩ => ⟨S_, .f32⟩
  | .hbm, ⟨77, _⟩ => ⟨S50688x8, .f32⟩
  | .hbm, ⟨78, _⟩ => ⟨S50688x8, .f32⟩
  | .hbm, ⟨79, _⟩ => ⟨S50688x8x1, .f32⟩
  | .hbm, ⟨80, _⟩ => ⟨S50688x8x16, .f32⟩
  | .hbm, ⟨81, _⟩ => ⟨S50688x8x16, .f32⟩
  | .hbm, ⟨82, _⟩ => ⟨S50688x8x16, .f32⟩
  | .hbm, ⟨83, _⟩ => ⟨S_, .f32⟩
  | .hbm, ⟨84, _⟩ => ⟨S50688x8, .f32⟩
  | .hbm, ⟨85, _⟩ => ⟨S50688x8x1, .f32⟩
  | .hbm, ⟨86, _⟩ => ⟨S50688x8x16, .f32⟩
  | .hbm, ⟨87, _⟩ => ⟨S50688x8x16, .f32⟩
  | .hbm, ⟨88, _⟩ => ⟨S50688x128, .f32⟩
  | .hbm, ⟨89, _⟩ => ⟨S128x50688, .i32⟩
  | .hbm, ⟨90, _⟩ => ⟨S128x50688, .f32⟩
  | _, _ => ⟨S50688x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_values : Ref sig .tc := ⟨.hbm, 24, rfl⟩
abbrev main_indices : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_values_2 : Ref sig .tc := ⟨.hbm, 49, rfl⟩
abbrev main_indices_3 : Ref sig .tc := ⟨.hbm, 50, rfl⟩
abbrev main_call0_c : Ref sig .tc := ⟨.hbm, 51, rfl⟩
abbrev main_call0_v0 : Ref sig .tc := ⟨.hbm, 52, rfl⟩
abbrev main_call0_v1 : Ref sig .tc := ⟨.hbm, 53, rfl⟩
abbrev main_call0_c_0 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_c_1 : Ref sig .tc := ⟨.hbm, 59, rfl⟩
abbrev main_call0_c_2 : Ref sig .tc := ⟨.hbm, 60, rfl⟩
abbrev main_call0_v6 : Ref sig .tc := ⟨.hbm, 61, rfl⟩
abbrev main_call0_v7 : Ref sig .tc := ⟨.hbm, 62, rfl⟩
abbrev main_call0_v8 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_c_3 : Ref sig .tc := ⟨.hbm, 67, rfl⟩
abbrev main_call0_v12 : Ref sig .tc := ⟨.hbm, 68, rfl⟩
abbrev main_call0_v13 : Ref sig .tc := ⟨.hbm, 69, rfl⟩
abbrev main_call0_c_4 : Ref sig .tc := ⟨.hbm, 70, rfl⟩
abbrev main_call0_v14 : Ref sig .tc := ⟨.hbm, 71, rfl⟩
abbrev main_v39 : Ref sig .tc := ⟨.hbm, 72, rfl⟩
abbrev main_v40 : Ref sig .tc := ⟨.hbm, 73, rfl⟩
abbrev main_cst_4 : Ref sig .tc := ⟨.hbm, 74, rfl⟩
abbrev main_v41 : Ref sig .tc := ⟨.hbm, 75, rfl⟩
abbrev main_cst_5 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_6 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩

abbrev nD : Nat := 1
abbrev τ : Topo := Topo.v7x

variable {F : FTy → Type} [FloatOps F]
-- ==== Proof.Lanes.lean ====
/- Reading the stacked arrays of a block at an index, the turned queries and keys, and the half of a 128-lane row. -/
module
public import proofs.«01_k».proof.Proof.Gen.KernelIdeal.Skeleton
public import Idealize.ShloMosaic.Lib.Pointwise
public import Idealize.ShloMosaic.Lib.Tactic.IndexArith
@[expose] public section
set_option maxRecDepth 16384
noncomputable section
namespace Cert.Attn
open Idealize.ShloMosaic Cert.KernelIdeal Cert.KernelIdeal.Gen

/-- One 128-lane row times the cosine row, plus the row moved by eight lanes either way times the two sine rows. -/
def turn (x c s1 s2 : Fin 128 → EReal) (d : Fin 128) : EReal :=
  x d * c d + x ⟨(d.val + 120) % 128, by omega⟩ * s1 d + x ⟨(d.val + 8) % 128, by omega⟩ * s2 d

theorem piece_apply (x c s1 s2 : FVec Ideal S128x128 .f32) (i l : Fin 128) :
    addf (addf (mulf x c) (mulf (dynamicRotate 1 8#32 none x rotates_S128x128_d1) s1))
      (mulf (dynamicRotate 1 120#32 none x rotates_S128x128_d1) s2) (ix2 i l) =
    turn (fun e => x (ix2 i e)) (fun e => c (ix2 i e)) (fun e => s1 (ix2 i e)) (fun e => s2 (ix2 i e)) l := by
  have h1 : (l.val + 128 - 8) % 128 = (l.val + 120) % 128 := by omega
  have h2 : (l.val + 128 - 120) % 128 = (l.val + 8) % 128 := by omega
  pointwise [turn]
  simp only [h1, h2]

/-- The one of eight that a number picks. -/
def pick8 {α : Type} (a0 a1 a2 a3 a4 a5 a6 a7 : α) (n : Fin 8) : α := ![a0, a1, a2, a3, a4, a5, a6, a7] n

/-- The one of four that a number picks. -/
def pick4 {α : Type} (a0 a1 a2 a3 : α) (n : Fin 4) : α := ![a0, a1, a2, a3] n

/-- The one of two that a number picks. -/
def pick2 {α : Type} (a0 a1 : α) (n : Fin 2) : α := ![a0, a1] n

theorem cols8 {α : Type} (a0 a1 a2 a3 a4 a5 a6 a7 : S128x128.Idx → α) (i : Fin 128) (l : Fin 1024) (n : Fin 8) (e : Fin 128) (h : l.val = 128 * n.val + e.val) :
    concatenate S128x1024 1 [⟨S128x128, a0⟩, ⟨S128x128, a1⟩, ⟨S128x128, a2⟩, ⟨S128x128, a3⟩, ⟨S128x128, a4⟩, ⟨S128x128, a5⟩, ⟨S128x128, a6⟩, ⟨S128x128, a7⟩] concatenates_S128x128_S128x128_S128x128_S128x128_S128x128_S128x128_S128x128_S128x128_S128x1024_d1 (ix2 i l)
      = pick8 a0 a1 a2 a3 a4 a5 a6 a7 n (ix2 i e) := by
  obtain ⟨l, hl⟩ := l
  simp only at h
  subst h
  pointwise
  fin_vals n with hn
  all_goals simp only [hn, pick8]
  all_goals (repeat rw [dif_neg (by omega)])
  all_goals (try rw [dif_pos (by omega)])
  all_goals (obtain ⟨n, hn'⟩ := n; simp only at hn; subst hn; exact congrArg _ (congrArg (ix2 i) (Fin.ext (by simp only; omega))))

theorem rows8 {α : Type} (a0 a1 a2 a3 a4 a5 a6 a7 : S128x128.Idx → α) (l : Fin 1024) (i : Fin 128) (n : Fin 8) (e : Fin 128) (h : l.val = 128 * n.val + e.val) :
    concatenate S1024x128 0 [⟨S128x128, a0⟩, ⟨S128x128, a1⟩, ⟨S128x128, a2⟩, ⟨S128x128, a3⟩, ⟨S128x128, a4⟩, ⟨S128x128, a5⟩, ⟨S128x128, a6⟩, ⟨S128x128, a7⟩] concatenates_S128x128_S128x128_S128x128_S128x128_S128x128_S128x128_S128x128_S128x128_S1024x128_d0 (ix2 l i)
      = pick8 a0 a1 a2 a3 a4 a5 a6 a7 n (ix2 e i) := by
  obtain ⟨l, hl⟩ := l
  simp only at h
  subst h
  pointwise
  fin_vals n with hn
  all_goals simp only [hn, pick8]
  all_goals (repeat rw [dif_neg (by omega)])
  all_goals (try rw [dif_pos (by omega)])
  all_goals (obtain ⟨n, hn'⟩ := n; simp only at hn; subst hn; exact congrArg _ (congrArg (fun z => ix2 z i) (Fin.ext (by simp only; omega))))

theorem ones8 {α : Type} (a0 a1 a2 a3 a4 a5 a6 a7 : S128x1.Idx → α) (l : Fin 1024) (i : Fin 1) (n : Fin 8) (e : Fin 128) (h : l.val = 128 * n.val + e.val) :
    concatenate S1024x1 0 [⟨S128x1, a0⟩, ⟨S128x1, a1⟩, ⟨S128x1, a2⟩, ⟨S128x1, a3⟩, ⟨S128x1, a4⟩, ⟨S128x1, a5⟩, ⟨S128x1, a6⟩, ⟨S128x1, a7⟩] concatenates_S128x1_S128x1_S128x1_S128x1_S128x1_S128x1_S128x1_S128x1_S1024x1_d0 (ix2 l i)
      = pick8 a0 a1 a2 a3 a4 a5 a6 a7 n (ix2 e i) := by
  obtain ⟨l, hl⟩ := l
  simp only at h
  subst h
  obtain rfl : i = 0 := Subsingleton.elim _ _
  pointwise
  fin_vals n with hn
  all_goals simp only [hn, pick8]
  all_goals (repeat rw [dif_neg (by omega)])
  all_goals (try rw [dif_pos (by omega)])
  all_goals (obtain ⟨n, hn'⟩ := n; simp only at hn; subst hn; exact congrArg _ (congrArg (fun z => ix2 z 0) (Fin.ext (by simp only; omega))))

theorem masks8 {α : Type} (a : S128x512.Idx → α) (l : Fin 1024) (k : Fin 512) (n : Fin 8) (e : Fin 128) (h : l.val = 128 * n.val + e.val) :
    concatenate S1024x512 0 [⟨S128x512, a⟩, ⟨S128x512, a⟩, ⟨S128x512, a⟩, ⟨S128x512, a⟩, ⟨S128x512, a⟩, ⟨S128x512, a⟩, ⟨S128x512, a⟩, ⟨S128x512, a⟩] concatenates_S128x512_S128x512_S128x512_S128x512_S128x512_S128x512_S128x512_S128x512_S1024x512_d0 (ix2 l k)
      = a (ix2 e k) := by
  obtain ⟨l, hl⟩ := l
  simp only at h
  subst h
  pointwise
  fin_vals n with hn
  all_goals simp only [hn]
  all_goals (repeat rw [dif_neg (by omega)])
  all_goals (try rw [dif_pos (by omega)])
  all_goals exact congrArg a (congrArg (fun z => ix2 z k) (Fin.ext (by simp only; omega)))

theorem masks4 {α : Type} (a0 a1 a2 a3 : S128x128.Idx → α) (i : Fin 128) (l : Fin 512) (n : Fin 4) (e : Fin 128) (h : l.val = 128 * n.val + e.val) :
    concatenate S128x512 1 [⟨S128x128, a0⟩, ⟨S128x128, a1⟩, ⟨S128x128, a2⟩, ⟨S128x128, a3⟩] concatenates_S128x128_S128x128_S128x128_S128x128_S128x512_d1 (ix2 i l)
      = pick4 a0 a1 a2 a3 n (ix2 i e) := by
  obtain ⟨l, hl⟩ := l
  simp only at h
  subst h
  pointwise
  fin_vals n with hn
  all_goals simp only [hn, pick4]
  all_goals (repeat rw [dif_neg (by omega)])
  all_goals (try rw [dif_pos (by omega)])
  all_goals (obtain ⟨n, hn'⟩ := n; simp only at hn; subst hn; exact congrArg _ (congrArg (ix2 i) (Fin.ext (by simp only; omega))))

theorem keys4 {α : Type} (a0 a1 a2 a3 : S128x256.Idx → α) (l : Fin 512) (k : Fin 256) (n : Fin 4) (e : Fin 128) (h : l.val = 128 * n.val + e.val) :
    concatenate S512x256 0 [⟨S128x256, a0⟩, ⟨S128x256, a1⟩, ⟨S128x256, a2⟩, ⟨S128x256, a3⟩] concatenates_S128x256_S128x256_S128x256_S128x256_S512x256_d0 (ix2 l k)
      = pick4 a0 a1 a2 a3 n (ix2 e k) := by
  obtain ⟨l, hl⟩ := l
  simp only at h
  subst h
  pointwise
  fin_vals n with hn
  all_goals simp only [hn, pick4]
  all_goals (repeat rw [dif_neg (by omega)])
  all_goals (try rw [dif_pos (by omega)])
  all_goals (obtain ⟨n, hn'⟩ := n; simp only at hn; subst hn; exact congrArg _ (congrArg (fun z => ix2 z k) (Fin.ext (by simp only; omega))))

theorem cols2 {α : Type} (a0 a1 : S128x128.Idx → α) (i : Fin 128) (l : Fin 256) (n : Fin 2) (e : Fin 128) (h : l.val = 128 * n.val + e.val) :
    concatenate S128x256 1 [⟨S128x128, a0⟩, ⟨S128x128, a1⟩] concatenates_S128x128_S128x128_S128x256_d1 (ix2 i l)
      = pick2 a0 a1 n (ix2 i e) := by
  obtain ⟨l, hl⟩ := l
  simp only at h
  subst h
  pointwise
  fin_vals n with hn
  all_goals simp only [hn, pick2]
  all_goals (repeat rw [dif_neg (by omega)])
  all_goals (try rw [dif_pos (by omega)])
  all_goals (obtain ⟨n, hn'⟩ := n; simp only at hn; subst hn; exact congrArg _ (congrArg (ix2 i) (Fin.ext (by simp only; omega))))

theorem half_apply (i l : Fin 128) : k0_pay36 (iota .tc S128x128 32 [1] iota_S128x128_d1_w32) (ix2 i l) = BitVec.ofNat 32 (l.val / 64) := by
  unfold k0_pay36
  pointwise
  revert l
  clear i
  decide +kernel

/-- The queries of a block, turned by their positions and scaled. -/
def queries (x : Vec Ideal S1x128x1024 .f32) (c s1 s2 : Vec Ideal S128x128 .f32) : FVec Ideal S128x1024 .f32 :=
  k0_pay18 (k0_pay3 s1) (k0_pay4 s2) (k0_pay5 x c s1 s2)
    (k0_pay9 (k0_pay3 s1) (k0_pay4 s2) (k0_pay6 x) (k0_pay7 x c) (k0_pay8 x))
    (k0_pay10 (k0_pay1 x) (k0_pay2 c) (k0_pay3 s1) (k0_pay4 s2))
    (k0_pay11 (k0_pay1 x) (k0_pay2 c) (k0_pay3 s1) (k0_pay4 s2))
    (k0_pay12 (k0_pay1 x) (k0_pay2 c) (k0_pay3 s1) (k0_pay4 s2))
    (k0_pay13 (k0_pay1 x) (k0_pay2 c) (k0_pay3 s1) (k0_pay4 s2))
    (k0_pay14 (k0_pay1 x) (k0_pay2 c) (k0_pay3 s1) (k0_pay4 s2))
    (k0_pay15 (k0_pay1 x)) (k0_pay16 (k0_pay1 x) (k0_pay2 c)) (k0_pay17 (k0_pay1 x))

theorem queries_apply (x : Vec Ideal S1x128x1024 .f32) (c s1 s2 : Vec Ideal S128x128 .f32) (i : Fin 128) (l : Fin 1024) (n : Fin 8) (e : Fin 128) (h : l.val = 128 * n.val + e.val)  :
    queries x c s1 s2 (ix2 i l) =
      turn (fun e => x (ix3 0 i ⟨128 * n.val + e.val, by omega⟩)) (fun e => c (ix2 i e)) (fun e => s1 (ix2 i e))
        (fun e => s2 (ix2 i e)) e * Ideal.ofBits .f32 0x3E000000#32 := by
  unfold queries k0_pay18
  rw [mulf_apply, cols8 _ _ _ _ _ _ _ _ i l n e h]
  congr 1
  unfold k0_pay5 k0_pay7 k0_pay8 k0_pay6 k0_pay16 k0_pay17 k0_pay15 k0_pay2 k0_pay3 k0_pay4 k0_pay1
  fin_cases n <;> refine (piece_apply _ _ _ _ i e).trans ?_ <;> pointwise <;> first | rfl | simp

/-- The keys of the four blocks, turned by their positions. -/
def keys (g a b d : Vec Ideal S1x128x256 .f32) (gc gs gt ac as_ at_ bc bs bt dc ds dt : Vec Ideal S128x128 .f32) : FVec Ideal S512x256 .bf16 :=
  k0_pay29 (k0_pay19 g gc gs gt) (k0_pay22 (k0_pay20 a) (k0_pay21 ac) as_ at_)
    (k0_pay24 bc) (k0_pay25 bs) (k0_pay26 bt) (k0_pay27 b bc bs bt) (k0_pay28 b) d dc ds dt

theorem keys_apply (g a b d : Vec Ideal S1x128x256 .f32) (gc gs gt ac as_ at_ bc bs bt dc ds dt : Vec Ideal S128x128 .f32)
    (κ : Fin 512) (j : Fin 4) (i : Fin 128) (hκ : κ.val = 128 * j.val + i.val) (l : Fin 256) (n : Fin 2) (e : Fin 128) (h : l.val = 128 * n.val + e.val) :
    keys g a b d gc gs gt ac as_ at_ bc bs bt dc ds dt (ix2 κ l) =
      turn (fun e => pick4 g a b d j (ix3 0 i ⟨128 * n.val + e.val, by omega⟩)) (fun e => pick4 gc ac bc dc j (ix2 i e))
        (fun e => pick4 gs as_ bs ds j (ix2 i e)) (fun e => pick4 gt at_ bt dt j (ix2 i e)) e := by
  unfold keys k0_pay29 k0_pay19 k0_pay22
  rw [show ∀ v : FVec Ideal S512x256 .f32, truncf .bf16 v bitsLt_bf16_f32 (ix2 κ l) = v (ix2 κ l) from fun _ => rfl, keys4 _ _ _ _ κ l j i hκ]
  unfold k0_pay28 k0_pay27 k0_pay26 k0_pay25 k0_pay24 k0_pay23 k0_pay20 k0_pay21
  fin_cases j <;> refine (cols2 _ _ i l n e h).trans ?_ <;> fin_cases n <;> refine (piece_apply _ _ _ _ i e).trans ?_ <;> pointwise <;> simp [pick4]

/-- The values of the four blocks. -/
def vals (g a b d : Vec Ideal S1x128x256 .f32) : FVec Ideal S512x256 .bf16 := k0_pay31 (k0_pay30 g) a b d

theorem vals_apply (g a b d : Vec Ideal S1x128x256 .f32)
    (κ : Fin 512) (j : Fin 4) (i : Fin 128) (hκ : κ.val = 128 * j.val + i.val) (l : Fin 256) :
    vals g a b d (ix2 κ l) = pick4 g a b d j (ix3 0 i l) := by
  unfold vals k0_pay31 k0_pay30
  rw [show ∀ v : FVec Ideal S512x256 .f32, truncf .bf16 v bitsLt_bf16_f32 (ix2 κ l) = v (ix2 κ l) from fun _ => rfl, keys4 _ _ _ _ κ l j i hκ]
  fin_cases j <;> simp only [pick4] <;> pointwise <;> rfl
end Cert.Attn
-- ==== Proof.Attend.lean ====
/- One row of attention with a sink over any finite set of keys: the scores `s`, the sink's score `sk`, the values `v`.
   The row depends only on the keys whose score is not `⊥`: `attend_eq` carries it from one set of keys to another along a
   map that is one to one on those keys. -/
module

public import Idealize.ShloMosaic.PureOps.Ideal

@[expose] public section

noncomputable section

namespace Cert.Attn

open Idealize.ShloMosaic

variable {ι κ : Type} [Fintype ι] [Fintype κ]

/-- The largest score of a row, the sink's among them. -/
def peak (s : ι → EReal) (sk : EReal) : EReal := max (Finset.univ.fold max ⊥ s) sk

/-- The row's denominator. -/
def mass (s : ι → EReal) (sk : EReal) : EReal :=
  (∑ i, Ideal.exp (s i - peak s sk)) + Ideal.exp (sk - peak s sk)

/-- The row's result. -/
def attend (s : ι → EReal) (sk : EReal) (v : ι → EReal) : EReal :=
  ∑ i, Ideal.div (Ideal.exp (s i - peak s sk)) (mass s sk) * v i

theorem peak_eq_sup (s : ι → EReal) (sk : EReal) : peak s sk = max (Finset.univ.sup s) sk := rfl

theorem peak_ne_top {s : ι → EReal} {sk : EReal} (hs : ∀ i, s i ≠ ⊤) (hk : sk ≠ ⊤) : peak s sk ≠ ⊤ := by
  rw [peak_eq_sup]
  refine ne_of_lt (max_lt ?_ (lt_top_iff_ne_top.mpr hk))
  exact (Finset.sup_lt_iff bot_lt_top).mpr fun i _ => lt_top_iff_ne_top.mpr (hs i)

theorem peak_ne_bot {s : ι → EReal} {sk : EReal} (hk : sk ≠ ⊥) : peak s sk ≠ ⊥ := fun h => by
  have : sk ≤ ⊥ := h ▸ le_max_right _ _
  exact hk (le_bot_iff.mp this)

theorem exp_nonneg (x : EReal) : 0 ≤ Ideal.exp x := by
  induction x with
  | bot => simp
  | top => simp
  | coe r => rw [Ideal.exp_coe]; exact_mod_cast (Real.exp_pos r).le

theorem mass_ne_zero {s : ι → EReal} {sk : EReal} (hs : ∀ i, s i ≠ ⊤) (hk : sk ≠ ⊤) (hk' : sk ≠ ⊥) :
    mass s sk ≠ 0 := by
  have h : 0 < Ideal.exp (sk - peak s sk) := by
    have h1 := peak_ne_top hs hk
    have h2 := peak_ne_bot (s := s) hk'
    generalize peak s sk = p at *
    induction p with
    | bot => exact absurd rfl h2
    | top => exact absurd rfl h1
    | coe p =>
      induction sk with
      | bot => exact absurd rfl hk'
      | top => exact absurd rfl hk
      | coe k => rw [← EReal.coe_sub, Ideal.exp_coe]; exact_mod_cast Real.exp_pos _
  exact ne_of_gt (lt_of_lt_of_le h (le_add_of_nonneg_left (Finset.sum_nonneg fun i _ => exp_nonneg _)))

theorem exp_bot_sub (p : EReal) : Ideal.exp (⊥ - p) = 0 := by
  rw [sub_eq_add_neg, EReal.bot_add, Ideal.exp_bot]

theorem zero_div_mul {d : EReal} (hd : d ≠ 0) (v : EReal) : Ideal.div 0 d * v = 0 := by
  rw [Ideal.div, if_neg hd, zero_mul, zero_mul]

/-- The row over the keys `ι` is the row over the keys `κ`: `f` is one to one on `A`, a key outside `A`, and one that `f`
    does not reach from `A`, has the score `⊥`, and `f` keeps the scores and the values. -/
theorem attend_eq [DecidableEq κ] {s v : ι → EReal} {s' v' : κ → EReal} {sk : EReal} (A : Finset ι) (f : ι → κ)
    (hf : ∀ i ∈ A, ∀ j ∈ A, f i = f j → i = j) (hs : ∀ i ∉ A, s i = ⊥) (hs' : ∀ k ∉ A.image f, s' k = ⊥)
    (hk : ∀ i ∈ A, s i = s' (f i)) (hv : ∀ i ∈ A, v i = v' (f i)) (ht : ∀ k, s' k ≠ ⊤)
    (h1 : sk ≠ ⊤) (h2 : sk ≠ ⊥) : attend s sk v = attend s' sk v' := by
  have ht' : ∀ i, s i ≠ ⊤ := fun i => by
    by_cases h : i ∈ A
    · rw [hk i h]; exact ht _
    · rw [hs i h]; exact bot_ne_top
  have hp : peak s sk = peak s' sk := by
    rw [peak_eq_sup, peak_eq_sup]
    congr 1
    apply le_antisymm
    · refine Finset.sup_le fun i _ => ?_
      by_cases h : i ∈ A
      · rw [hk i h]; exact Finset.le_sup (f := s') (Finset.mem_univ _)
      · rw [hs i h]; exact bot_le
    · refine Finset.sup_le fun k _ => ?_
      by_cases h : k ∈ A.image f
      · obtain ⟨i, hi, rfl⟩ := Finset.mem_image.mp h
        rw [← hk i hi]; exact Finset.le_sup (f := s) (Finset.mem_univ _)
      · rw [hs' k h]; exact bot_le
  have move : ∀ (F : EReal → EReal → EReal), (∀ x, F ⊥ x = 0) → ∑ i, F (s i) (v i) = ∑ k, F (s' k) (v' k) := by
    intro F hF
    rw [← Finset.sum_subset (Finset.subset_univ A) (fun i _ h => by rw [hs i h, hF]),
      ← Finset.sum_subset (Finset.subset_univ (A.image f)) (fun k _ h => by rw [hs' k h, hF]),
      Finset.sum_image hf]
    exact Finset.sum_congr rfl fun i hi => by rw [hk i hi, hv i hi]
  have hm : mass s sk = mass s' sk := by
    unfold mass
    rw [hp, move (fun x _ => Ideal.exp (x - peak s' sk)) fun _ => exp_bot_sub _]
  unfold attend
  rw [hp, hm]
  exact move (fun x y => Ideal.div (Ideal.exp (x - peak s' sk)) (mass s' sk) * y) fun y => by
    rw [exp_bot_sub, zero_div_mul (mass_ne_zero ht h1 h2)]

end Cert.Attn

end
-- ==== Proof.Core.lean ====
/- Eight pieces of 128 queries against 512 keys and values: what a row of the result is. -/
module
public import proofs.«01_k».proof.Proof.Lanes
public import proofs.«01_k».proof.Proof.Attend
@[expose] public section
set_option maxRecDepth 16384
noncomputable section
namespace Cert.Attn
open Idealize.ShloMosaic Cert.KernelIdeal Cert.KernelIdeal.Gen

/-- The literal that the mask writes reads as −∞. -/
theorem mask_value : Named.named (F := Ideal) κ "mask" (φ := .f32) 0xF149F2CA#32 = (⊥ : EReal) :=
  IdealRules.named_const.ideal_named_scalar _ _ _ _ rfl

/-- The scores of 1024 rows against 512 keys, −∞ where the mask is off. -/
def scores (Q : FVec Ideal S1024x128 .f32) (MM : IVec S1024x512 1) (k : FVec Ideal S512x128 .bf16) : FVec Ideal S1024x512 .f32 :=
  select MM (matmul (φ₁ := .bf16) (φ₂ := .bf16) dot_S1024x128_S512x128_S1024x512_1_1_0_0_n_n none (truncf .bf16 Q bitsLt_bf16_f32) k (constant S1024x512 .f32 0x00000000#32))
    (broadcast S1024x512 (Named.named κ "mask" 0xF149F2CA#32))

/-- The largest score of a row, or its sink. -/
def tops (s : FVec Ideal S1024x512 .f32) (S : FVec Ideal S1024x1 .f32) : FVec Ideal S1024x1 .f32 :=
  maximumf (shapeCast S1024x1 (multiReduction .maximumf [1] S1024 s 0xFF800000#32 reduces_S1024x512_S1024 (.inl rfl) rfl) shapeCasts_S1024_S1024x1) S

/-- The exponentials of the scores below the row's top. -/
def weights (s : FVec Ideal S1024x512 .f32) (m : FVec Ideal S1024x1 .f32) : FVec Ideal S1024x512 .f32 :=
  exp (subf s (broadcastTo S1024x512 m broadcasts_S1024x1_S1024x512))

/-- A row's weights together with its sink's. -/
def totals (w : FVec Ideal S1024x512 .f32) (S m : FVec Ideal S1024x1 .f32) : FVec Ideal S1024x1 .f32 :=
  addf (shapeCast S1024x1 (multiReduction .add [1] S1024 w 0x00000000#32 reduces_S1024x512_S1024 (.inl rfl) rfl) shapeCasts_S1024_S1024x1) (exp (subf S m))

/-- The weighted means of the values. -/
def means (w : FVec Ideal S1024x512 .f32) (t : FVec Ideal S1024x1 .f32) (v : FVec Ideal S512x128 .bf16) : FVec Ideal S1024x128 .f32 :=
  matmul (φ₁ := .bf16) (φ₂ := .bf16) dot_S1024x512_S512x128_S1024x128_1_0_0_1_n_n none
    (truncf .bf16 (divf w (broadcastTo S1024x512 t broadcasts_S1024x1_S1024x512)) bitsLt_bf16_f32) v (constant S1024x128 .f32 0x00000000#32)

theorem scores_apply (Q : FVec Ideal S1024x128 .f32) (MM : IVec S1024x512 1) (k : FVec Ideal S512x128 .bf16) (r : Fin 1024) (κ : Fin 512) :
    scores Q MM k (ix2 r κ) = if MM (ix2 r κ) = 1#1 then ∑ l : Fin 128, Q (ix2 r l) * k (ix2 κ l) else ⊥ := by
  unfold scores
  rw [mask_value]
  pointwise
  simp only [Scalar.select, zero_add]
  rfl

theorem tops_apply (s : FVec Ideal S1024x512 .f32) (S : FVec Ideal S1024x1 .f32) (r : Fin 1024) :
    tops s S (ix2 r 0) = max (Finset.univ.fold max ⊥ fun κ : Fin 512 => s (ix2 r κ)) (S (ix2 r 0)) := by
  unfold tops
  pointwise
  rfl

theorem weights_apply (s : FVec Ideal S1024x512 .f32) (m : FVec Ideal S1024x1 .f32) (r : Fin 1024) (κ : Fin 512) :
    weights s m (ix2 r κ) = Ideal.exp (s (ix2 r κ) - m (ix2 r 0)) := by
  pointwise [weights]

theorem totals_apply (w : FVec Ideal S1024x512 .f32) (S m : FVec Ideal S1024x1 .f32) (r : Fin 1024) :
    totals w S m (ix2 r 0) = (∑ κ : Fin 512, w (ix2 r κ)) + Ideal.exp (S (ix2 r 0) - m (ix2 r 0)) := by
  pointwise [totals]

theorem means_apply (w : FVec Ideal S1024x512 .f32) (t : FVec Ideal S1024x1 .f32) (v : FVec Ideal S512x128 .bf16) (r : Fin 1024) (d : Fin 128) :
    means w t v (ix2 r d) = ∑ κ : Fin 512, Ideal.div (w (ix2 r κ)) (t (ix2 r 0)) * v (ix2 κ d) := by
  pointwise [means]

theorem core_apply (M : IVec S128x512 1) (k v : FVec Ideal S512x128 .bf16) (q0 q1 : FVec Ideal S128x128 .f32) (s0 s1 : FVec Ideal S128x1 .f32)
    (q2 q3 : FVec Ideal S128x128 .f32) (s2 s3 : FVec Ideal S128x1 .f32) (q4 q5 : FVec Ideal S128x128 .f32) (s4 s5 : FVec Ideal S128x1 .f32)
    (q6 q7 : FVec Ideal S128x128 .f32) (s6 : FVec Ideal S128x1 .f32) (z : Elt Ideal .f32)
    (r : Fin 1024) (n : Fin 8) (i : Fin 128) (h : r.val = 128 * n.val + i.val) (d : Fin 128) :
    k0_pay63 M k v q0 q1 s0 s1 q2 q3 s2 s3 q4 q5 s4 s5 q6 q7 s6 z (ix2 r d) =
      attend (fun κ : Fin 512 => if M (ix2 i κ) = 1#1 then ∑ l : Fin 128, pick8 q0 q1 q2 q3 q4 q5 q6 q7 n (ix2 i l) * k (ix2 κ l) else ⊥)
        (pick8 s0 s1 s2 s3 s4 s5 s6 (broadcast S128x1 z) n (ix2 i 0)) (fun κ => v (ix2 κ d)) := by
  have hM := fun κ => masks8 M r κ n i h
  have hq := fun l => rows8 q0 q1 q2 q3 q4 q5 q6 q7 r l n i h
  have hs := ones8 s0 s1 s2 s3 s4 s5 s6 (broadcast S128x1 z) r 0 n i h
  unfold k0_pay63
  revert hM hq hs
  generalize concatenate S1024x512 0 _ _ = MM
  generalize concatenate S1024x128 0 _ _ = QQ
  generalize concatenate S1024x1 0 _ _ = SS
  intro hM hq hs
  change means (weights (scores QQ MM k) (tops (scores QQ MM k) SS)) (totals (weights (scores QQ MM k) (tops (scores QQ MM k) SS)) SS (tops (scores QQ MM k) SS)) v (ix2 r d) = _
  simp only [means_apply, totals_apply, weights_apply, tops_apply, scores_apply, hM, hq, hs]
  rfl
end Cert.Attn
-- ==== Proof.Words.lean ====
/- The distance test on 32-bit words, read over the integers. -/
module
public import proofs.«01_k».proof.Proof.Lanes
@[expose] public section
set_option maxRecDepth 16384
noncomputable section
namespace Cert.Attn
open Idealize.ShloMosaic

/-- A word that holds a small integer is within 128 of zero when its absolute value is. -/
theorem near_iff (x : BitVec 32) (z : ℤ) (hx : x.toInt = z) (hz : -100000 < z ∧ z < 100000) :
    IntOp.cmpi CmpIPredicate.sle (IntOp.absi x) 128#32 = 1#1 ↔ -128 ≤ z ∧ z ≤ 128 := by
  have hn : (-x).toInt = -z := by
    rw [BitVec.toInt_neg, hx]
    apply Int.bmod_eq_of_le <;> omega
  have h128 : (128#32 : BitVec 32).toInt = 128 := by decide
  have hm : x.msb = decide (z < 0) := by
    rw [BitVec.msb_eq_toInt, hx]
  have key : ∀ y : BitVec 32, IntOp.cmpi CmpIPredicate.sle y 128#32 = 1#1 ↔ y.toInt ≤ 128 := by
    intro y
    simp only [IntOp.cmpi, BitVec.sle, h128]
    by_cases h : y.toInt ≤ 128 <;> simp [h]
  rw [key]
  unfold IntOp.absi
  rw [hm]
  by_cases h : z < 0
  · rw [if_pos (by simpa using h), hn]
    omega
  · rw [if_neg (by simpa using h), hx]
    omega

theorem toInt_small (n : ℕ) (h : n < 100000) : (BitVec.ofNat 32 n).toInt = n := by
  rw [BitVec.toInt_eq_toNat_bmod, BitVec.toNat_ofNat, Nat.mod_eq_of_lt (by omega)]
  apply Int.bmod_eq_of_le <;> omega

theorem toInt_add_small (x y : BitVec 32) (a b : ℤ) (hx : x.toInt = a) (hy : y.toInt = b) (ha : -100000 < a ∧ a < 100000) (hb : -100000 < b ∧ b < 100000) :
    (x + y).toInt = a + b := by
  rw [BitVec.toInt_add, hx, hy]
  apply Int.bmod_eq_of_le <;> omega

theorem toInt_sub_small (x y : BitVec 32) (a b : ℤ) (hx : x.toInt = a) (hy : y.toInt = b) (ha : -100000 < a ∧ a < 100000) (hb : -100000 < b ∧ b < 100000) :
    (x - y).toInt = a - b := by
  rw [BitVec.toInt_sub, hx, hy]
  apply Int.bmod_eq_of_le <;> omega

/-- The distance test between a lane `c` of a block at offset `o` and row `i`. -/
theorem band_iff (o : BitVec 32) (z : ℤ) (ho : o.toInt = z) (hz : -1000 < z ∧ z < 1000) (i c : Fin 128) :
    IntOp.cmpi CmpIPredicate.sle (IntOp.absi (IntOp.subi (IntOp.addi o (BitVec.ofNat 32 c.val)) (BitVec.ofNat 32 i.val))) 128#32 = 1#1 ↔
      -128 ≤ z + c.val - i.val ∧ z + c.val - i.val ≤ 128 := by
  refine near_iff _ _ ?_ (by omega)
  refine toInt_sub_small _ _ _ _ (toInt_add_small _ _ _ _ ho (toInt_small _ (by omega)) (by omega) (by omega)) (toInt_small _ (by omega)) (by omega) (by omega)

theorem andi_one (a b : BitVec 1) : IntOp.andi a b = 1#1 ↔ a = 1#1 ∧ b = 1#1 := by
  revert a b; decide

open Cert.KernelIdeal Cert.KernelIdeal.Gen

/-- Which of a block's 512 keys a row may see: of the first block the last sixteen; of the three others those of a block
    that exists, no more than 128 places away. `r` is the row block, `j` the key block, `i` and `c` the places in them. -/
def seen (r : ℕ) (i : ℕ) (j c : ℕ) : Prop :=
  if j = 0 then 112 ≤ c else 3 ≤ r + j ∧ r + j ≤ 34 ∧ i + 256 ≤ 128 * j + c + 128 ∧ 128 * j + c ≤ i + 384

/-- The mask of a row block. -/
def mask (a : BitVec 32) : IVec S128x512 1 :=
  k0_pay35 (iota .tc S128x128 32 [0] iota_S128x128_d0_w32) (iota .tc S128x128 32 [1] iota_S128x128_d1_w32) k0_pay32 (k0_pay33 a) (k0_pay34 a)
    (Scalar.subi a 1#32)

theorem blocks_iff (r : Fin 33) (j : Fin 3) (w : BitVec 32) (hw : w = BitVec.ofNat 32 j.val) :
    Scalar.andi (Scalar.cmpi CmpIPredicate.sge (Scalar.addi (Scalar.subi (BitVec.ofNat 32 r.val) 1#32) w) 1#32)
      (Scalar.cmpi CmpIPredicate.sle (Scalar.addi (Scalar.subi (BitVec.ofNat 32 r.val) 1#32) w) 32#32) = 1#1 ↔
    2 ≤ r.val + j.val ∧ r.val + j.val ≤ 33 := by
  subst hw
  revert r j; decide +kernel

theorem mask_apply (r : Fin 33) (i : Fin 128) (κ : Fin 512) (j : Fin 4) (c : Fin 128) (h : κ.val = 128 * j.val + c.val) :
    mask (BitVec.ofNat 32 r.val) (ix2 i κ) = 1#1 ↔ seen r.val i.val j.val c.val := by
  unfold mask k0_pay35
  rw [masks4 _ _ _ _ i κ j c h]
  fin_vals j with hj
  · obtain ⟨j, hj'⟩ := j
    simp only at hj
    subst hj
    show k0_pay32 (ix2 i c) = 1#1 ↔ _
    simp only [seen, if_true]
    pointwise [k0_pay32]
    clear h
    revert c; decide +kernel
  · obtain ⟨j, hj'⟩ := j
    simp only at hj
    subst hj
    show k0_pay33 _ (ix2 i c) = 1#1 ↔ _
    pointwise [k0_pay33]
    rw [andi_one, band_iff _ (-128) (by decide) (by omega), blocks_iff r 0 _ (by decide)]
    simp only [seen]
    simp
    omega
  · obtain ⟨j, hj'⟩ := j
    simp only at hj
    subst hj
    show k0_pay34 _ (ix2 i c) = 1#1 ↔ _
    pointwise [k0_pay34]
    rw [andi_one]
    rw [band_iff _ 0 (by decide) (by omega), blocks_iff r 1 _ (by decide)]
    simp only [seen]
    simp
    omega
  · obtain ⟨j, hj'⟩ := j
    simp only at hj
    subst hj
    simp only [pick4]
    pointwise
    rw [andi_one, band_iff _ 128 (by decide) (by omega), blocks_iff r 2 _ (by decide)]
    simp only [seen]
    simp
    omega
end Cert.Attn
-- ==== Proof.Body.lean ====
/- One block's result at an index: lane `l` of the 1024 belongs to head `l / 64`, and what it holds is that head's attention. -/
module
public import proofs.«01_k».proof.Proof.Core
public import proofs.«01_k».proof.Proof.Words
@[expose] public section
set_option maxRecDepth 16384
noncomputable section
namespace Cert.Attn
open Idealize.ShloMosaic Cert.KernelIdeal Cert.KernelIdeal.Gen

/-- A sum over 128 lanes of which only one half is kept. -/
theorem sum_half (f : Fin 128 → EReal) (hk : Fin 2) :
    (∑ l : Fin 128, if l.val / 64 = hk.val then f l else 0) = ∑ d : Fin 64, f ⟨64 * hk.val + d.val, by omega⟩ := by
  rw [← Finset.sum_filter]
  refine (Finset.sum_bij (fun (d : Fin 64) _ => (⟨64 * hk.val + d.val, by omega⟩ : Fin 128)) ?_ ?_ ?_ ?_).symm
  · intro d _
    simp only [Finset.mem_filter, Finset.mem_univ, true_and]
    omega
  · intro a _ b _ hab
    simp only [Fin.mk.injEq] at hab
    exact Fin.ext (by omega)
  · intro l hl
    simp only [Finset.mem_filter, Finset.mem_univ, true_and] at hl
    exact ⟨⟨l.val % 64, by omega⟩, Finset.mem_univ _, Fin.ext (by simp only; omega)⟩
  · intros
    rfl

/-- One head against the block's keys: query lanes from `q`, key and value lanes from `g`. -/
def headOf (M : IVec S128x512 1) (Q : FVec Ideal S128x1024 .f32) (K V : FVec Ideal S512x256 .bf16) (i : Fin 128) (h : Fin 16) (s : EReal) (e : Fin 64) : EReal :=
  attend (fun κ : Fin 512 => if M (ix2 i κ) = 1#1 then
      ∑ d : Fin 64, Q (ix2 i ⟨64 * h.val + d.val, by omega⟩) * K (ix2 κ ⟨64 * (h.val / 4) + d.val, by omega⟩) else ⊥)
    s (fun κ => V (ix2 κ ⟨64 * (h.val / 4) + e.val, by omega⟩))

theorem pair_apply (M : IVec S128x512 1) (Q : FVec Ideal S128x1024 .f32) (K V : FVec Ideal S512x256 .bf16) (j : Fin 8)
    (k v : FVec Ideal S512x128 .bf16)
    (hk : ∀ κ l, k (ix2 κ l) = K (ix2 κ ⟨128 * (j.val / 4) + l.val, by omega⟩))
    (hv : ∀ κ l, v (ix2 κ l) = V (ix2 κ ⟨128 * (j.val / 4) + l.val, by omega⟩))
    (m : IVec S128x128 1) (hm : ∀ i l : Fin 128, m (ix2 i l) = 1#1 ↔ l.val / 64 = j.val / 2 % 2)
    (a b x y : FVec Ideal S128x128 .f32) (sa sb : EReal) (s : Fin 16 → EReal)
    (hx : ∀ i l, x (ix2 i l) = if m (ix2 i l) = 1#1 then Q (ix2 i ⟨128 * j.val + l.val, by omega⟩) else 0)
    (hy : ∀ i l, y (ix2 i l) = if m (ix2 i l) = 1#1 then Q (ix2 i ⟨128 * j.val + (l.val + 64) % 128, by omega⟩) else 0)
    (hsa : sa = s ⟨2 * j.val + j.val / 2 % 2, by omega⟩) (hsb : sb = s ⟨2 * j.val + 1 - j.val / 2 % 2, by omega⟩)
    (i c : Fin 128)
    (ha : ∀ d, a (ix2 i d) = attend (fun κ : Fin 512 => if M (ix2 i κ) = 1#1 then ∑ l : Fin 128, x (ix2 i l) * k (ix2 κ l) else ⊥) sa (fun κ => v (ix2 κ d)))
    (hb : ∀ d, b (ix2 i d) = attend (fun κ : Fin 512 => if M (ix2 i κ) = 1#1 then ∑ l : Fin 128, y (ix2 i l) * k (ix2 κ l) else ⊥) sb (fun κ => v (ix2 κ d))) :
    select m a (dynamicRotate 1 64#32 none b rotates_S128x128_d1) (ix2 i c) =
      headOf M Q K V i ⟨2 * j.val + c.val / 64, by omega⟩ (s ⟨2 * j.val + c.val / 64, by omega⟩) ⟨c.val % 64, by omega⟩ := by
  have hx' : ∀ κ, (∑ l : Fin 128, x (ix2 i l) * k (ix2 κ l)) =
      ∑ d : Fin 64, Q (ix2 i ⟨128 * j.val + (64 * (j.val / 2 % 2) + d.val), by omega⟩) * K (ix2 κ ⟨128 * (j.val / 4) + (64 * (j.val / 2 % 2) + d.val), by omega⟩) := by
    intro κ
    refine Eq.trans ?_ (sum_half (fun l => Q (ix2 i ⟨128 * j.val + l.val, by omega⟩) * K (ix2 κ ⟨128 * (j.val / 4) + l.val, by omega⟩)) ⟨j.val / 2 % 2, by omega⟩)
    refine Finset.sum_congr rfl fun l _ => ?_
    rw [hx, hk]
    simp only [hm]
    split_ifs <;> simp
  have hy' : ∀ κ, (∑ l : Fin 128, y (ix2 i l) * k (ix2 κ l)) =
      ∑ d : Fin 64, Q (ix2 i ⟨128 * j.val + (64 * (j.val / 2 % 2) + d.val + 64) % 128, by omega⟩) * K (ix2 κ ⟨128 * (j.val / 4) + (64 * (j.val / 2 % 2) + d.val), by omega⟩) := by
    intro κ
    refine Eq.trans ?_ (sum_half (fun l => Q (ix2 i ⟨128 * j.val + (l.val + 64) % 128, by omega⟩) * K (ix2 κ ⟨128 * (j.val / 4) + l.val, by omega⟩)) ⟨j.val / 2 % 2, by omega⟩)
    refine Finset.sum_congr rfl fun l _ => ?_
    rw [hy, hk]
    simp only [hm]
    split_ifs <;> simp
  have hr : dynamicRotate 1 64#32 none b rotates_S128x128_d1 (ix2 i c) = b (ix2 i ⟨(c.val + 64) % 128, by omega⟩) := by
    pointwise
    congr 2
  rw [show select m a (dynamicRotate 1 64#32 none b rotates_S128x128_d1) (ix2 i c) =
    Scalar.select (m (ix2 i c)) (a (ix2 i c)) (dynamicRotate 1 64#32 none b rotates_S128x128_d1 (ix2 i c)) from rfl, hr, ha, hb]
  simp only [hx', hy', hv]
  unfold headOf
  have e1 : (2 * j.val + c.val / 64) / 4 = j.val / 2 := by omega
  have e2 : 2 * (j.val / 4) + j.val / 2 % 2 = j.val / 2 := by omega
  by_cases hc : c.val / 64 = j.val / 2 % 2
  · rw [(hm i c).2 hc, hsa]
    refine Eq.trans (if_pos rfl) ?_
    congr 1
    · funext κ
      refine if_congr Iff.rfl (Finset.sum_congr rfl fun d _ => ?_) rfl
      congr 3 <;> refine Fin.ext ?_ <;> simp only [e1] <;> omega
    · congr 1; refine Fin.ext ?_; simp only; omega
    · funext κ
      congr 2; refine Fin.ext ?_; simp only [e1]; omega
  · have : m (ix2 i c) = 0#1 := by
      rcases BitVec.eq_zero_or_eq_one (m (ix2 i c)) with h | h
      · exact h
      · exact absurd ((hm i c).1 h) hc
    rw [this, hsb]
    refine Eq.trans (if_neg (by decide)) ?_
    congr 1
    · funext κ
      refine if_congr Iff.rfl (Finset.sum_congr rfl fun d _ => ?_) rfl
      congr 3 <;> refine Fin.ext ?_ <;> simp only [e1] <;> omega
    · congr 1; refine Fin.ext ?_; simp only; omega
    · funext κ
      congr 2; refine Fin.ext ?_; simp only [e1]; omega

theorem half_is (n : ℕ) (hn : n < 2) (i l : Fin 128) :
    cmpi .eq (k0_pay36 (iota .tc S128x128 32 [1] iota_S128x128_d1_w32)) (broadcast S128x128 (BitVec.ofNat 32 n)) (ix2 i l) = 1#1 ↔ l.val / 64 = n := by
  pointwise
  rw [half_apply]
  have h : l.val / 64 < 2 := by omega
  generalize l.val / 64 = p at h
  interval_cases n <;> interval_cases p <;> decide

theorem low_lane (Q : FVec Ideal S128x1024 .f32) (j : Fin 8) (o : ℕ) (ho : o = 128 * j.val) (hs : S128x1024.Slices ![0, o] S128x128) (m : IVec S128x128 1) (i l : Fin 128) :
    select m (extractStridedSlice S128x128 ![0, o] Q hs) (broadcast S128x128 (Scalar.ofBits (F := Ideal) .f32 0x00000000#32)) (ix2 i l) =
      if m (ix2 i l) = 1#1 then Q (ix2 i ⟨128 * j.val + l.val, by omega⟩) else 0 := by
  subst ho
  pointwise
  rfl

theorem high_lane (Q : FVec Ideal S128x1024 .f32) (j : Fin 8) (o : ℕ) (ho : o = 128 * j.val) (hs : S128x1024.Slices ![0, o] S128x128) (m : IVec S128x128 1) (i l : Fin 128) :
    select m (dynamicRotate 1 64#32 none (extractStridedSlice S128x128 ![0, o] Q hs) rotates_S128x128_d1) (broadcast S128x128 (Scalar.ofBits (F := Ideal) .f32 0x00000000#32)) (ix2 i l) =
      if m (ix2 i l) = 1#1 then Q (ix2 i ⟨128 * j.val + (l.val + 64) % 128, by omega⟩) else 0 := by
  subst ho
  have h : (l.val + 128 - 64) % 128 = (l.val + 64) % 128 := by omega
  pointwise
  simp only [h]
  rfl

/-- The block's result from its mask, turned queries, turned keys, values and sinks. -/
def body (M : IVec S128x512 1) (Q : FVec Ideal S128x1024 .f32) (K V : FVec Ideal S512x256 .bf16) (s0 s1 s2 s3 s4 s5 s6 s7 s8 s9 s10 s11 s12 s13 s14 s15 : Elt Ideal .f32) :
    FVec Ideal S1x128x1024 .bf16 :=
  let o := iota .tc S128x128 32 [1] iota_S128x128_d1_w32
  let h := k0_pay36 o
  k0_pay92 M
    (k0_pay64 M (k0_pay37 K) (k0_pay38 V) (k0_pay39 o) (k0_pay41 Q o) (k0_pay43 (k0_pay39 o) (k0_pay42 Q)) (k0_pay44 s0) (k0_pay45 s1) (k0_pay48 Q h)
      (k0_pay49 Q h) (k0_pay50 s2) (k0_pay51 s3) (k0_pay54 Q h) (k0_pay55 Q h) (k0_pay56 s5) (k0_pay57 s4) (k0_pay60 Q h) (k0_pay61 Q h) (k0_pay62 s7) s6)
    (k0_pay65 M (k0_pay37 K) (k0_pay38 V) (k0_pay41 Q o) (k0_pay43 (k0_pay39 o) (k0_pay42 Q)) (k0_pay44 s0) (k0_pay45 s1) (k0_pay46 h) (k0_pay48 Q h)
      (k0_pay49 Q h) (k0_pay50 s2) (k0_pay51 s3) (k0_pay54 Q h) (k0_pay55 Q h) (k0_pay56 s5) (k0_pay57 s4) (k0_pay60 Q h) (k0_pay61 Q h) (k0_pay62 s7) s6)
    (k0_pay66 M (k0_pay37 K) (k0_pay38 V) (k0_pay41 Q o) (k0_pay43 (k0_pay39 o) (k0_pay42 Q)) (k0_pay44 s0) (k0_pay45 s1) (k0_pay48 Q h)
      (k0_pay49 Q h) (k0_pay50 s2) (k0_pay51 s3) (k0_pay52 h) (k0_pay54 Q h) (k0_pay55 Q h) (k0_pay56 s5) (k0_pay57 s4) (k0_pay60 Q h) (k0_pay61 Q h) (k0_pay62 s7) s6)
    (k0_pay67 M (k0_pay37 K) (k0_pay38 V) (k0_pay41 Q o) (k0_pay43 (k0_pay39 o) (k0_pay42 Q)) (k0_pay44 s0) (k0_pay45 s1) (k0_pay48 Q h)
      (k0_pay49 Q h) (k0_pay50 s2) (k0_pay51 s3) (k0_pay54 Q h) (k0_pay55 Q h) (k0_pay56 s5) (k0_pay57 s4) (k0_pay58 h) (k0_pay60 Q h) (k0_pay61 Q h) (k0_pay62 s7) s6)
    (k0_pay68 K) (k0_pay69 V) (k0_pay70 h) (k0_pay72 Q h) (k0_pay73 (k0_pay70 h) (k0_pay71 Q) 64#32) (k0_pay74 s8) (k0_pay75 s9) (k0_pay76 h)
    (k0_pay78 Q h) (k0_pay79 Q h) (k0_pay80 s10) (k0_pay81 s11) (k0_pay82 h) (k0_pay84 Q h) (k0_pay85 Q h) (k0_pay86 s13) (k0_pay87 s12) (k0_pay88 h)
    (k0_pay90 Q h) (k0_pay91 Q h) s15 s14

theorem pair0 (M : IVec S128x512 1) (Q : FVec Ideal S128x1024 .f32) (K V : FVec Ideal S512x256 .bf16) (j : Fin 8)
    (k v : FVec Ideal S512x128 .bf16)
    (hk : ∀ κ l, k (ix2 κ l) = K (ix2 κ ⟨128 * (j.val / 4) + l.val, by omega⟩))
    (hv : ∀ κ l, v (ix2 κ l) = V (ix2 κ ⟨128 * (j.val / 4) + l.val, by omega⟩))
    (m : IVec S128x128 1) (hm : ∀ i l : Fin 128, m (ix2 i l) = 1#1 ↔ l.val / 64 = j.val / 2 % 2)
    (q0 q1 q2 q3 q4 q5 q6 q7 : FVec Ideal S128x128 .f32) (s0 s1 s2 s3 s4 s5 s6 : FVec Ideal S128x1 .f32) (z : Elt Ideal .f32) (s : Fin 16 → EReal)
    (hx : ∀ i l, q0 (ix2 i l) = if m (ix2 i l) = 1#1 then Q (ix2 i ⟨128 * j.val + l.val, by omega⟩) else 0)
    (hy : ∀ i l, q1 (ix2 i l) = if m (ix2 i l) = 1#1 then Q (ix2 i ⟨128 * j.val + (l.val + 64) % 128, by omega⟩) else 0)
    (i c : Fin 128)
    (hsa : (s0 (ix2 i 0)) = s ⟨2 * j.val + j.val / 2 % 2, by omega⟩) (hsb : (s1 (ix2 i 0)) = s ⟨2 * j.val + 1 - j.val / 2 % 2, by omega⟩) :
    k0_pay64 M k v m q0 q1 s0 s1 q2 q3 s2 s3 q4 q5 s4 s5 q6 q7 s6 z (ix2 i c) =
      headOf M Q K V i ⟨2 * j.val + c.val / 64, by omega⟩ (s ⟨2 * j.val + c.val / 64, by omega⟩) ⟨c.val % 64, by omega⟩ := by
  unfold k0_pay64
  have hA := core_apply M k v q0 q1 s0 s1 q2 q3 s2 s3 q4 q5 s4 s5 q6 q7 s6 z
  generalize k0_pay63 M k v q0 q1 s0 s1 q2 q3 s2 s3 q4 q5 s4 s5 q6 q7 s6 z = A at hA
  refine pair_apply M Q K V j k v hk hv m hm _ _ q0 q1 (s0 (ix2 i 0)) (s1 (ix2 i 0)) s hx hy hsa hsb i c (fun d => ?_) (fun d => ?_)
  · pointwise
    exact hA _ 0 i (by simp) d
  · pointwise
    exact hA _ 1 i (by simp) d

theorem pair1 (M : IVec S128x512 1) (Q : FVec Ideal S128x1024 .f32) (K V : FVec Ideal S512x256 .bf16) (j : Fin 8)
    (k v : FVec Ideal S512x128 .bf16)
    (hk : ∀ κ l, k (ix2 κ l) = K (ix2 κ ⟨128 * (j.val / 4) + l.val, by omega⟩))
    (hv : ∀ κ l, v (ix2 κ l) = V (ix2 κ ⟨128 * (j.val / 4) + l.val, by omega⟩))
    (m : IVec S128x128 1) (hm : ∀ i l : Fin 128, m (ix2 i l) = 1#1 ↔ l.val / 64 = j.val / 2 % 2)
    (q0 q1 q2 q3 q4 q5 q6 q7 : FVec Ideal S128x128 .f32) (s0 s1 s2 s3 s4 s5 s6 : FVec Ideal S128x1 .f32) (z : Elt Ideal .f32) (s : Fin 16 → EReal)
    (hx : ∀ i l, q2 (ix2 i l) = if m (ix2 i l) = 1#1 then Q (ix2 i ⟨128 * j.val + l.val, by omega⟩) else 0)
    (hy : ∀ i l, q3 (ix2 i l) = if m (ix2 i l) = 1#1 then Q (ix2 i ⟨128 * j.val + (l.val + 64) % 128, by omega⟩) else 0)
    (i c : Fin 128)
    (hsa : (s2 (ix2 i 0)) = s ⟨2 * j.val + j.val / 2 % 2, by omega⟩) (hsb : (s3 (ix2 i 0)) = s ⟨2 * j.val + 1 - j.val / 2 % 2, by omega⟩) :
    k0_pay65 M k v q0 q1 s0 s1 m q2 q3 s2 s3 q4 q5 s4 s5 q6 q7 s6 z (ix2 i c) =
      headOf M Q K V i ⟨2 * j.val + c.val / 64, by omega⟩ (s ⟨2 * j.val + c.val / 64, by omega⟩) ⟨c.val % 64, by omega⟩ := by
  unfold k0_pay65
  have hA := core_apply M k v q0 q1 s0 s1 q2 q3 s2 s3 q4 q5 s4 s5 q6 q7 s6 z
  generalize k0_pay63 M k v q0 q1 s0 s1 q2 q3 s2 s3 q4 q5 s4 s5 q6 q7 s6 z = A at hA
  refine pair_apply M Q K V j k v hk hv m hm _ _ q2 q3 (s2 (ix2 i 0)) (s3 (ix2 i 0)) s hx hy hsa hsb i c (fun d => ?_) (fun d => ?_)
  · pointwise
    exact hA _ 2 i (by simp) d
  · pointwise
    exact hA _ 3 i (by simp) d

theorem pair2 (M : IVec S128x512 1) (Q : FVec Ideal S128x1024 .f32) (K V : FVec Ideal S512x256 .bf16) (j : Fin 8)
    (k v : FVec Ideal S512x128 .bf16)
    (hk : ∀ κ l, k (ix2 κ l) = K (ix2 κ ⟨128 * (j.val / 4) + l.val, by omega⟩))
    (hv : ∀ κ l, v (ix2 κ l) = V (ix2 κ ⟨128 * (j.val / 4) + l.val, by omega⟩))
    (m : IVec S128x128 1) (hm : ∀ i l : Fin 128, m (ix2 i l) = 1#1 ↔ l.val / 64 = j.val / 2 % 2)
    (q0 q1 q2 q3 q4 q5 q6 q7 : FVec Ideal S128x128 .f32) (s0 s1 s2 s3 s4 s5 s6 : FVec Ideal S128x1 .f32) (z : Elt Ideal .f32) (s : Fin 16 → EReal)
    (hx : ∀ i l, q4 (ix2 i l) = if m (ix2 i l) = 1#1 then Q (ix2 i ⟨128 * j.val + l.val, by omega⟩) else 0)
    (hy : ∀ i l, q5 (ix2 i l) = if m (ix2 i l) = 1#1 then Q (ix2 i ⟨128 * j.val + (l.val + 64) % 128, by omega⟩) else 0)
    (i c : Fin 128)
    (hsa : (s4 (ix2 i 0)) = s ⟨2 * j.val + j.val / 2 % 2, by omega⟩) (hsb : (s5 (ix2 i 0)) = s ⟨2 * j.val + 1 - j.val / 2 % 2, by omega⟩) :
    k0_pay66 M k v q0 q1 s0 s1 q2 q3 s2 s3 m q4 q5 s4 s5 q6 q7 s6 z (ix2 i c) =
      headOf M Q K V i ⟨2 * j.val + c.val / 64, by omega⟩ (s ⟨2 * j.val + c.val / 64, by omega⟩) ⟨c.val % 64, by omega⟩ := by
  unfold k0_pay66
  have hA := core_apply M k v q0 q1 s0 s1 q2 q3 s2 s3 q4 q5 s4 s5 q6 q7 s6 z
  generalize k0_pay63 M k v q0 q1 s0 s1 q2 q3 s2 s3 q4 q5 s4 s5 q6 q7 s6 z = A at hA
  refine pair_apply M Q K V j k v hk hv m hm _ _ q4 q5 (s4 (ix2 i 0)) (s5 (ix2 i 0)) s hx hy hsa hsb i c (fun d => ?_) (fun d => ?_)
  · pointwise
    exact hA _ 4 i (by simp) d
  · pointwise
    exact hA _ 5 i (by simp) d

theorem pair3 (M : IVec S128x512 1) (Q : FVec Ideal S128x1024 .f32) (K V : FVec Ideal S512x256 .bf16) (j : Fin 8)
    (k v : FVec Ideal S512x128 .bf16)
    (hk : ∀ κ l, k (ix2 κ l) = K (ix2 κ ⟨128 * (j.val / 4) + l.val, by omega⟩))
    (hv : ∀ κ l, v (ix2 κ l) = V (ix2 κ ⟨128 * (j.val / 4) + l.val, by omega⟩))
    (m : IVec S128x128 1) (hm : ∀ i l : Fin 128, m (ix2 i l) = 1#1 ↔ l.val / 64 = j.val / 2 % 2)
    (q0 q1 q2 q3 q4 q5 q6 q7 : FVec Ideal S128x128 .f32) (s0 s1 s2 s3 s4 s5 s6 : FVec Ideal S128x1 .f32) (z : Elt Ideal .f32) (s : Fin 16 → EReal)
    (hx : ∀ i l, q6 (ix2 i l) = if m (ix2 i l) = 1#1 then Q (ix2 i ⟨128 * j.val + l.val, by omega⟩) else 0)
    (hy : ∀ i l, q7 (ix2 i l) = if m (ix2 i l) = 1#1 then Q (ix2 i ⟨128 * j.val + (l.val + 64) % 128, by omega⟩) else 0)
    (i c : Fin 128)
    (hsa : (s6 (ix2 i 0)) = s ⟨2 * j.val + j.val / 2 % 2, by omega⟩) (hsb : z = s ⟨2 * j.val + 1 - j.val / 2 % 2, by omega⟩) :
    k0_pay67 M k v q0 q1 s0 s1 q2 q3 s2 s3 q4 q5 s4 s5 m q6 q7 s6 z (ix2 i c) =
      headOf M Q K V i ⟨2 * j.val + c.val / 64, by omega⟩ (s ⟨2 * j.val + c.val / 64, by omega⟩) ⟨c.val % 64, by omega⟩ := by
  unfold k0_pay67
  have hA := core_apply M k v q0 q1 s0 s1 q2 q3 s2 s3 q4 q5 s4 s5 q6 q7 s6 z
  generalize k0_pay63 M k v q0 q1 s0 s1 q2 q3 s2 s3 q4 q5 s4 s5 q6 q7 s6 z = A at hA
  refine pair_apply M Q K V j k v hk hv m hm _ _ q6 q7 (s6 (ix2 i 0)) z s hx hy hsa hsb i c (fun d => ?_) (fun d => ?_)
  · pointwise
    exact hA _ 6 i (by simp) d
  · pointwise
    exact hA _ 7 i (by simp) d

theorem last_eq (v262 : IVec S128x512 1) (v362 v366 v370 v374 : FVec Ideal S128x128 .f32) (v375 v376 : FVec Ideal S512x128 .bf16) (v378 : IVec S128x128 1) (v381 : FVec Ideal S128x128 .f32) (v384 : FVec Ideal S128x128 .f32) (v386 : FVec Ideal S128x1 .f32) (v388 : FVec Ideal S128x1 .f32) (v390 : IVec S128x128 1) (v393 : FVec Ideal S128x128 .f32) (v396 : FVec Ideal S128x128 .f32) (v398 : FVec Ideal S128x1 .f32) (v400 : FVec Ideal S128x1 .f32) (v402 : IVec S128x128 1) (v405 : FVec Ideal S128x128 .f32) (v408 : FVec Ideal S128x128 .f32) (v410 : FVec Ideal S128x1 .f32) (v412 : FVec Ideal S128x1 .f32) (v414 : IVec S128x128 1) (v417 : FVec Ideal S128x128 .f32) (v420 : FVec Ideal S128x128 .f32) (v421 v423 : Elt Ideal .f32) :
    k0_pay92 v262 v362 v366 v370 v374 v375 v376 v378 v381 v384 v386 v388 v390 v393 v396 v398 v400 v402 v405 v408 v410 v412 v414 v417 v420 v421 v423 =
      shapeCast S1x128x1024 (truncf .bf16 (concatenate S128x1024 1 [⟨S128x128, v362⟩, ⟨S128x128, v366⟩, ⟨S128x128, v370⟩, ⟨S128x128, v374⟩,
        ⟨S128x128, k0_pay64 v262 v375 v376 v378 v381 v384 v386 v388 v393 v396 v398 v400 v405 v408 v410 v412 v417 v420 (broadcast S128x1 v421) v423⟩,
        ⟨S128x128, k0_pay65 v262 v375 v376 v381 v384 v386 v388 v390 v393 v396 v398 v400 v405 v408 v410 v412 v417 v420 (broadcast S128x1 v421) v423⟩,
        ⟨S128x128, k0_pay66 v262 v375 v376 v381 v384 v386 v388 v393 v396 v398 v400 v402 v405 v408 v410 v412 v417 v420 (broadcast S128x1 v421) v423⟩,
        ⟨S128x128, k0_pay67 v262 v375 v376 v381 v384 v386 v388 v393 v396 v398 v400 v405 v408 v410 v412 v414 v417 v420 (broadcast S128x1 v421) v423⟩]
        concatenates_S128x128_S128x128_S128x128_S128x128_S128x128_S128x128_S128x128_S128x128_S128x1024_d1) bitsLt_bf16_f32) shapeCasts_S128x1024_S1x128x1024 := rfl

theorem body_apply (M : IVec S128x512 1) (Q : FVec Ideal S128x1024 .f32) (K V : FVec Ideal S512x256 .bf16) (s0 s1 s2 s3 s4 s5 s6 s7 s8 s9 s10 s11 s12 s13 s14 s15 : Elt Ideal .f32)
    (i : Fin 128) (l : Fin 1024) (j : Fin 8) (c : Fin 128) (h : l.val = 128 * j.val + c.val) :
    body M Q K V s0 s1 s2 s3 s4 s5 s6 s7 s8 s9 s10 s11 s12 s13 s14 s15 (ix3 0 i l) =
      headOf M Q K V i ⟨2 * j.val + c.val / 64, by omega⟩ (![s0, s1, s2, s3, s4, s5, s6, s7, s8, s9, s10, s11, s12, s13, s14, s15] ⟨2 * j.val + c.val / 64, by omega⟩)
        ⟨c.val % 64, by omega⟩ := by
  unfold body
  rw [last_eq, show ∀ w : FVec Ideal S128x1024 .bf16, shapeCast S1x128x1024 w shapeCasts_S128x1024_S1x128x1024 (ix3 0 i l) = w (ix2 i l) from fun w => by pointwise]
  rw [show ∀ v : FVec Ideal S128x1024 .f32, truncf .bf16 v bitsLt_bf16_f32 (ix2 i l) = v (ix2 i l) from fun _ => rfl, cols8 _ _ _ _ _ _ _ _ i l j c h]
  have hlt : ∀ x : Fin 128, x.val / 64 < 2 := fun x => by omega
  obtain ⟨j, hj⟩ := j
  interval_cases j
  · rw [show ∀ a0 a1 a2 a3 a4 a5 a6 a7 : FVec Ideal S128x128 .f32, pick8 a0 a1 a2 a3 a4 a5 a6 a7 ⟨0, hj⟩ = a0 from fun _ _ _ _ _ _ _ _ => rfl]
    refine pair0 M Q K V 0 _ _ ?_ ?_ _ (half_is 0 (by decide)) _ _ _ _ _ _ _ _ _ _ _ _ _ _ _ _ (![s0, s1, s2, s3, s4, s5, s6, s7, s8, s9, s10, s11, s12, s13, s14, s15]) ?_ ?_ i c rfl rfl
    · intro κ l; unfold k0_pay37; pointwise; try rfl
    · intro κ l; unfold k0_pay38; pointwise; try rfl
    · intro i l; unfold k0_pay41 k0_pay40; exact low_lane Q 0 0 rfl _ _ i l
    · intro i l; unfold k0_pay42 k0_pay43 k0_pay40; exact high_lane Q 0 0 rfl _ _ i l
  · rw [show ∀ a0 a1 a2 a3 a4 a5 a6 a7 : FVec Ideal S128x128 .f32, pick8 a0 a1 a2 a3 a4 a5 a6 a7 ⟨1, hj⟩ = a1 from fun _ _ _ _ _ _ _ _ => rfl]
    refine pair1 M Q K V 1 _ _ ?_ ?_ _ (half_is 0 (by decide)) _ _ _ _ _ _ _ _ _ _ _ _ _ _ _ _ (![s0, s1, s2, s3, s4, s5, s6, s7, s8, s9, s10, s11, s12, s13, s14, s15]) ?_ ?_ i c rfl rfl
    · intro κ l; unfold k0_pay37; pointwise; try rfl
    · intro κ l; unfold k0_pay38; pointwise; try rfl
    · intro i l; unfold k0_pay48 k0_pay47; exact low_lane Q 1 128 rfl _ _ i l
    · intro i l; unfold k0_pay49 k0_pay47; exact high_lane Q 1 128 rfl _ _ i l
  · rw [show ∀ a0 a1 a2 a3 a4 a5 a6 a7 : FVec Ideal S128x128 .f32, pick8 a0 a1 a2 a3 a4 a5 a6 a7 ⟨2, hj⟩ = a2 from fun _ _ _ _ _ _ _ _ => rfl]
    refine pair2 M Q K V 2 _ _ ?_ ?_ _ (half_is 1 (by decide)) _ _ _ _ _ _ _ _ _ _ _ _ _ _ _ _ (![s0, s1, s2, s3, s4, s5, s6, s7, s8, s9, s10, s11, s12, s13, s14, s15]) ?_ ?_ i c rfl rfl
    · intro κ l; unfold k0_pay37; pointwise; try rfl
    · intro κ l; unfold k0_pay38; pointwise; try rfl
    · intro i l; unfold k0_pay54 k0_pay53; exact low_lane Q 2 256 rfl _ _ i l
    · intro i l; unfold k0_pay55 k0_pay53; exact high_lane Q 2 256 rfl _ _ i l
  · rw [show ∀ a0 a1 a2 a3 a4 a5 a6 a7 : FVec Ideal S128x128 .f32, pick8 a0 a1 a2 a3 a4 a5 a6 a7 ⟨3, hj⟩ = a3 from fun _ _ _ _ _ _ _ _ => rfl]
    refine pair3 M Q K V 3 _ _ ?_ ?_ _ (half_is 1 (by decide)) _ _ _ _ _ _ _ _ _ _ _ _ _ _ _ _ (![s0, s1, s2, s3, s4, s5, s6, s7, s8, s9, s10, s11, s12, s13, s14, s15]) ?_ ?_ i c rfl rfl
    · intro κ l; unfold k0_pay37; pointwise; try rfl
    · intro κ l; unfold k0_pay38; pointwise; try rfl
    · intro i l; unfold k0_pay60 k0_pay59; exact low_lane Q 3 384 rfl _ _ i l
    · intro i l; unfold k0_pay61 k0_pay59; exact high_lane Q 3 384 rfl _ _ i l
  · rw [show ∀ a0 a1 a2 a3 a4 a5 a6 a7 : FVec Ideal S128x128 .f32, pick8 a0 a1 a2 a3 a4 a5 a6 a7 ⟨4, hj⟩ = a4 from fun _ _ _ _ _ _ _ _ => rfl]
    refine pair0 M Q K V 4 _ _ ?_ ?_ _ (half_is 0 (by decide)) _ _ _ _ _ _ _ _ _ _ _ _ _ _ _ _ (![s0, s1, s2, s3, s4, s5, s6, s7, s8, s9, s10, s11, s12, s13, s14, s15]) ?_ ?_ i c rfl rfl
    · intro κ l; unfold k0_pay68; pointwise; try rfl
    · intro κ l; unfold k0_pay69; pointwise; try rfl
    · intro i l; unfold k0_pay72 k0_pay71; exact low_lane Q 4 512 rfl _ _ i l
    · intro i l; unfold k0_pay73 k0_pay71; exact high_lane Q 4 512 rfl _ _ i l
  · rw [show ∀ a0 a1 a2 a3 a4 a5 a6 a7 : FVec Ideal S128x128 .f32, pick8 a0 a1 a2 a3 a4 a5 a6 a7 ⟨5, hj⟩ = a5 from fun _ _ _ _ _ _ _ _ => rfl]
    refine pair1 M Q K V 5 _ _ ?_ ?_ _ (half_is 0 (by decide)) _ _ _ _ _ _ _ _ _ _ _ _ _ _ _ _ (![s0, s1, s2, s3, s4, s5, s6, s7, s8, s9, s10, s11, s12, s13, s14, s15]) ?_ ?_ i c rfl rfl
    · intro κ l; unfold k0_pay68; pointwise; try rfl
    · intro κ l; unfold k0_pay69; pointwise; try rfl
    · intro i l; unfold k0_pay78 k0_pay77; exact low_lane Q 5 640 rfl _ _ i l
    · intro i l; unfold k0_pay79 k0_pay77; exact high_lane Q 5 640 rfl _ _ i l
  · rw [show ∀ a0 a1 a2 a3 a4 a5 a6 a7 : FVec Ideal S128x128 .f32, pick8 a0 a1 a2 a3 a4 a5 a6 a7 ⟨6, hj⟩ = a6 from fun _ _ _ _ _ _ _ _ => rfl]
    refine pair2 M Q K V 6 _ _ ?_ ?_ _ (half_is 1 (by decide)) _ _ _ _ _ _ _ _ _ _ _ _ _ _ _ _ (![s0, s1, s2, s3, s4, s5, s6, s7, s8, s9, s10, s11, s12, s13, s14, s15]) ?_ ?_ i c rfl rfl
    · intro κ l; unfold k0_pay68; pointwise; try rfl
    · intro κ l; unfold k0_pay69; pointwise; try rfl
    · intro i l; unfold k0_pay84 k0_pay83; exact low_lane Q 6 768 rfl _ _ i l
    · intro i l; unfold k0_pay85 k0_pay83; exact high_lane Q 6 768 rfl _ _ i l
  · rw [show ∀ a0 a1 a2 a3 a4 a5 a6 a7 : FVec Ideal S128x128 .f32, pick8 a0 a1 a2 a3 a4 a5 a6 a7 ⟨7, hj⟩ = a7 from fun _ _ _ _ _ _ _ _ => rfl]
    refine pair3 M Q K V 7 _ _ ?_ ?_ _ (half_is 1 (by decide)) _ _ _ _ _ _ _ _ _ _ _ _ _ _ _ _ (![s0, s1, s2, s3, s4, s5, s6, s7, s8, s9, s10, s11, s12, s13, s14, s15]) ?_ ?_ i c rfl rfl
    · intro κ l; unfold k0_pay68; pointwise; try rfl
    · intro κ l; unfold k0_pay69; pointwise; try rfl
    · intro i l; unfold k0_pay90 k0_pay89; exact low_lane Q 7 896 rfl _ _ i l
    · intro i l; unfold k0_pay91 k0_pay89; exact high_lane Q 7 896 rfl _ _ i l
end Cert.Attn
-- ==== Proof.Rope.lean ====
/- The rotation of a 64-lane row by its position, and what the kernel's tables make of a row. -/
module
public import proofs.«01_k».proof.Proof.Lanes
@[expose] public section
set_option maxRecDepth 16384
noncomputable section
namespace Cert.Attn
open Idealize.ShloMosaic

/-- The rotation's frequency number `f`: 500000 to the power `-2 f / 16`. -/
def freq (f : ℕ) : EReal :=
  Ideal.pow (Ideal.ofBits .f32 0x48F42400#32)
    (Ideal.div (-(FloatOps.sitofp (F := Ideal) .f32 (BitVec.ofNat 32 f)) * Ideal.ofBits .f32 0x40000000#32) (Ideal.ofBits .f32 0x41800000#32))

/-- The angle of frequency `f` at position `t`. -/
def angle (t f : ℕ) : EReal := FloatOps.sitofp (F := Ideal) .f32 (BitVec.ofNat 32 t) * freq f

/-- A row turned by position `t`: the first eight lanes and the next eight are the two coordinates of eight planes, the
    other lanes stay. -/
def rot (x : Fin 64 → EReal) (t : ℕ) (d : Fin 64) : EReal :=
  if _ : d.val < 8 then x d * Ideal.cos (angle t d.val) - x ⟨d.val + 8, by omega⟩ * Ideal.sin (angle t d.val)
  else if _ : d.val < 16 then x d * Ideal.cos (angle t (d.val - 8)) + x ⟨d.val - 8, by omega⟩ * Ideal.sin (angle t (d.val - 8))
  else x d

/-- The three table rows of position `t`, over one 64-lane head. -/
def cosRow (t : ℕ) (d : ℕ) : EReal := if d < 8 then Ideal.cos (angle t d) else if d - 8 < 8 then Ideal.cos (angle t (d - 8)) else 1
def sinRow (t : ℕ) (d : ℕ) : EReal := if d < 8 then 0 else if d - 8 < 8 then Ideal.sin (angle t (d - 8)) else 0
def negRow (t : ℕ) (d : ℕ) : EReal := if d < 8 then -Ideal.sin (angle t d) else 0

/-- Two heads side by side against the tables: each is turned on its own. -/
theorem turn_eq (x : Fin 128 → EReal) (t : ℕ) (e : Fin 128) :
    turn x (fun e => cosRow t (e.val % 64)) (fun e => sinRow t (e.val % 64)) (fun e => negRow t (e.val % 64)) e =
      rot (fun d => x ⟨64 * (e.val / 64) + d.val, by omega⟩) t ⟨e.val % 64, by omega⟩ := by
  have h0 : 64 * (e.val / 64) + e.val % 64 = e.val := by omega
  unfold turn rot cosRow sinRow negRow
  simp only
  by_cases h8 : e.val % 64 < 8
  · have h1 : (e.val + 8) % 128 = 64 * (e.val / 64) + (e.val % 64 + 8) := by omega
    rw [if_pos h8, if_pos h8, if_pos h8, dif_pos h8]
    simp only [h0, h1, mul_zero, add_zero, mul_neg, sub_eq_add_neg]
  · by_cases h16 : e.val % 64 < 16
    · have h1 : (e.val + 120) % 128 = 64 * (e.val / 64) + (e.val % 64 - 8) := by omega
      rw [if_neg h8, if_neg h8, if_neg h8, dif_neg h8, dif_pos h16, if_pos (by omega), if_pos (by omega)]
      simp only [h0, h1, mul_zero, add_zero]
    · rw [if_neg h8, if_neg h8, if_neg h8, dif_neg h8, dif_neg h16, if_neg (by omega), if_neg (by omega)]
      simp only [h0, mul_zero, add_zero, mul_one]

end Cert.Attn
-- ==== Proof.Host.lean ====
/- What the host code leaves for the kernel: the projection with its columns put in order and 112 rows in front, and the three tables. -/
module
public import proofs.«01_k».proof.Proof.Rope
public import proofs.«01_k».proof.Proof.Words
public import proofs.«01_k».proof.Proof.Gen.KernelIdeal.Frame
public import Idealize.ShloMosaic.Lib.Pipeline.ValueKit
public import Idealize.ShloMosaic.Lib.StableHlo.RunRead
@[expose] public section
set_option maxRecDepth 16384
noncomputable section
namespace Cert.Attn
open Idealize.ShloMosaic Cert.KernelIdeal Cert.KernelIdeal.Gen Idealize.ShloMosaic.Pipeline
open Idealize.SL.Sem Idealize.ShloMosaic.TcCoe
variable (m : (ℓ : Loc nD Cert.KernelIdeal.τ Cert.KernelIdeal.sig) → Buf (Elt Ideal) ℓ)

/-- The projection and the sinks as the run starts. -/
abbrev projOf (c : Dev nD) : Vec Ideal S12x4112x8704 .f32 := m ((c.tc : Thread nD τ).loc main_arg0)
abbrev sinksOf (c : Dev nD) : Vec Ideal S16 .f32 := m ((c.tc : Thread nD τ).loc main_arg1)

/-- The position of a padded row, as the host computes it. -/
theorem pos_word (t : ℕ) (h : t < 4112) : IntOp.maxsi (IntOp.subi (BitVec.ofNat 32 (112 + t)) 112#32) 0#32 = BitVec.ofNat 32 t := by
  apply BitVec.eq_of_toInt_eq
  have h1 : (IntOp.subi (BitVec.ofNat 32 (112 + t)) 112#32).toInt = t := by
    have := toInt_sub_small (BitVec.ofNat 32 (112 + t)) 112#32 (112 + t : ℕ) 112 (toInt_small _ (by omega)) (by decide) (by omega) (by omega)
    unfold IntOp.subi
    rw [this]
    omega
  have h2 : IntOp.maxsi (IntOp.subi (BitVec.ofNat 32 (112 + t)) 112#32) 0#32 = IntOp.subi (BitVec.ofNat 32 (112 + t)) 112#32 := by
    unfold IntOp.maxsi
    simp only [BitVec.slt, h1]
    simp
    rintro rfl
    decide
  rw [h2, h1, toInt_small _ (by omega)]

theorem cos_table (c : Dev nD) (t : Fin 4112) (l : Fin 128) : V m c main_v42 (ix2 ⟨112 + t.val, by omega⟩ l) = cosRow t.val (l.val % 64) := by
  unfold_abbrev_sides
  after_reads_simp
  pointwise
  after_reads_simp
  pointwise
  simp only [pos_word t.val t.isLt]
  rfl

theorem sin_table (c : Dev nD) (t : Fin 4112) (l : Fin 128) : V m c main_v45 (ix2 ⟨112 + t.val, by omega⟩ l) = sinRow t.val (l.val % 64) := by
  unfold_abbrev_sides
  after_reads_simp
  pointwise
  after_reads_simp
  pointwise
  simp only [pos_word t.val t.isLt]
  rfl

theorem neg_table (c : Dev nD) (t : Fin 4112) (l : Fin 128) : V m c main_v48 (ix2 ⟨112 + t.val, by omega⟩ l) = negRow t.val (l.val % 64) := by
  unfold_abbrev_sides
  after_reads_simp
  pointwise
  after_reads_simp
  pointwise
  simp only [pos_word t.val t.isLt]
  unfold negRow
  by_cases h : l.val % 64 < 8
  · rw [if_pos h, dif_pos h]
    rfl
  · rw [if_neg h, dif_neg h]
    simp

theorem ordered_query {α : Type} (a0 a1 a2 a3 a4 a5 a6 a7 : S12x4112x1024.Idx → α) (a8 a9 : S12x4112x256.Idx → α) (u : S_.Idx → α) (b : Fin 12) (p : Fin 4112) (l : Fin 1024) :
    pad S12x4224x8704 ![0, 112, 0] ![0, 0, 0] ![0, 0, 0]
      (concatenate S12x4112x8704 2 [⟨S12x4112x1024, a0⟩, ⟨S12x4112x1024, a1⟩, ⟨S12x4112x1024, a2⟩, ⟨S12x4112x1024, a3⟩, ⟨S12x4112x1024, a4⟩, ⟨S12x4112x1024, a5⟩, ⟨S12x4112x1024, a6⟩, ⟨S12x4112x1024, a7⟩, ⟨S12x4112x256, a8⟩, ⟨S12x4112x256, a9⟩]
        concatenates_S12x4112x1024_S12x4112x1024_S12x4112x1024_S12x4112x1024_S12x4112x1024_S12x4112x1024_S12x4112x1024_S12x4112x1024_S12x4112x256_S12x4112x256_S12x4112x8704_d2)
      u pads_S12x4112x8704_S12x4224x8704_000_11200_000 h_S_ (ix3 b ⟨112 + p.val, by omega⟩ ⟨l.val, by omega⟩) = a0 (ix3 b p l) := by
  pointwise
  rw [dif_pos (by omega)]
theorem ordered_key {α : Type} (a0 a1 a2 a3 a4 a5 a6 a7 : S12x4112x1024.Idx → α) (a8 a9 : S12x4112x256.Idx → α) (u : S_.Idx → α) (b : Fin 12) (p : Fin 4112) (l : Fin 256) :
    pad S12x4224x8704 ![0, 112, 0] ![0, 0, 0] ![0, 0, 0]
      (concatenate S12x4112x8704 2 [⟨S12x4112x1024, a0⟩, ⟨S12x4112x1024, a1⟩, ⟨S12x4112x1024, a2⟩, ⟨S12x4112x1024, a3⟩, ⟨S12x4112x1024, a4⟩, ⟨S12x4112x1024, a5⟩, ⟨S12x4112x1024, a6⟩, ⟨S12x4112x1024, a7⟩, ⟨S12x4112x256, a8⟩, ⟨S12x4112x256, a9⟩]
        concatenates_S12x4112x1024_S12x4112x1024_S12x4112x1024_S12x4112x1024_S12x4112x1024_S12x4112x1024_S12x4112x1024_S12x4112x1024_S12x4112x256_S12x4112x256_S12x4112x8704_d2)
      u pads_S12x4112x8704_S12x4224x8704_000_11200_000 h_S_ (ix3 b ⟨112 + p.val, by omega⟩ ⟨8192 + l.val, by omega⟩) = a8 (ix3 b p l) := by
  pointwise
  rw [dif_pos (by omega)]
  repeat rw [dif_neg (by omega)]
  rw [dif_pos (by omega)]
  exact congrArg (fun z => a8 (ix3 b p z)) (Fin.ext (by simp only; omega))
theorem ordered_value {α : Type} (a0 a1 a2 a3 a4 a5 a6 a7 : S12x4112x1024.Idx → α) (a8 a9 : S12x4112x256.Idx → α) (u : S_.Idx → α) (b : Fin 12) (p : Fin 4112) (l : Fin 256) :
    pad S12x4224x8704 ![0, 112, 0] ![0, 0, 0] ![0, 0, 0]
      (concatenate S12x4112x8704 2 [⟨S12x4112x1024, a0⟩, ⟨S12x4112x1024, a1⟩, ⟨S12x4112x1024, a2⟩, ⟨S12x4112x1024, a3⟩, ⟨S12x4112x1024, a4⟩, ⟨S12x4112x1024, a5⟩, ⟨S12x4112x1024, a6⟩, ⟨S12x4112x1024, a7⟩, ⟨S12x4112x256, a8⟩, ⟨S12x4112x256, a9⟩]
        concatenates_S12x4112x1024_S12x4112x1024_S12x4112x1024_S12x4112x1024_S12x4112x1024_S12x4112x1024_S12x4112x1024_S12x4112x1024_S12x4112x256_S12x4112x256_S12x4112x8704_d2)
      u pads_S12x4112x8704_S12x4224x8704_000_11200_000 h_S_ (ix3 b ⟨112 + p.val, by omega⟩ ⟨8448 + l.val, by omega⟩) = a9 (ix3 b p l) := by
  pointwise
  rw [dif_pos (by omega)]
  repeat rw [dif_neg (by omega)]
  exact congrArg (fun z => a9 (ix3 b p z)) (Fin.ext (by simp only; omega))
theorem query_cols (c : Dev nD) (b : Fin 12) (p : Fin 4112) (l : Fin 1024) :
    V m c main_v11 (ix3 b ⟨112 + p.val, by omega⟩ ⟨l.val, by omega⟩) = projOf m c (ix3 b p ⟨l.val, by omega⟩) := by
  unfold_abbrev_sides
  after_reads_simp
  refine (ordered_query _ _ _ _ _ _ _ _ _ _ _ b p l).trans ?_
  dsimp only [Matrix.cons_val]
  after_reads_simp
  pointwise

theorem key_cols (c : Dev nD) (b : Fin 12) (p : Fin 4112) (l : Fin 256) :
    V m c main_v11 (ix3 b ⟨112 + p.val, by omega⟩ ⟨8192 + l.val, by omega⟩) = projOf m c (ix3 b p ⟨1024 + l.val, by omega⟩) := by
  unfold_abbrev_sides
  after_reads_simp
  refine (ordered_key _ _ _ _ _ _ _ _ _ _ _ b p l).trans ?_
  dsimp only [Matrix.cons_val]
  after_reads_simp
  pointwise

theorem value_cols (c : Dev nD) (b : Fin 12) (p : Fin 4112) (l : Fin 256) :
    V m c main_v11 (ix3 b ⟨112 + p.val, by omega⟩ ⟨8448 + l.val, by omega⟩) = projOf m c (ix3 b p ⟨1280 + l.val, by omega⟩) := by
  unfold_abbrev_sides
  after_reads_simp
  refine (ordered_value _ _ _ _ _ _ _ _ _ _ _ b p l).trans ?_
  dsimp only [Matrix.cons_val]
  after_reads_simp
  pointwise

end Cert.Attn
-- ==== Proof.Spec.lean ====
/- The layer's attention at one element: sixteen query heads of 64 lanes over four key heads, each key either one of the first
   sixteen positions or at most 128 positions away, a sink's score beside the keys'. -/
module
public import proofs.«01_k».proof.Proof.Rope
public import proofs.«01_k».proof.Proof.Attend
@[expose] public section
set_option maxRecDepth 16384
noncomputable section
namespace Cert.Attn
open Idealize.ShloMosaic

/-- The query lane, key lane and value lane of a projection's row. -/
def qRow (P : Fin 12 → Fin 4112 → Fin 8704 → EReal) (b : Fin 12) (t : Fin 4112) (h : Fin 16) : Fin 64 → EReal :=
  fun d => P b t ⟨64 * h.val + d.val, by omega⟩
def kRow (P : Fin 12 → Fin 4112 → Fin 8704 → EReal) (b : Fin 12) (t : Fin 4112) (g : Fin 4) : Fin 64 → EReal :=
  fun d => P b t ⟨1024 + (64 * g.val + d.val), by omega⟩
def vRow (P : Fin 12 → Fin 4112 → Fin 8704 → EReal) (b : Fin 12) (t : Fin 4112) (g : Fin 4) : Fin 64 → EReal :=
  fun d => P b t ⟨1280 + (64 * g.val + d.val), by omega⟩

/-- The scaled product of a key and a query, each turned by its position. -/
def score (P : Fin 12 → Fin 4112 → Fin 8704 → EReal) (b : Fin 12) (h : Fin 16) (t t' : Fin 4112) : EReal :=
  (∑ d : Fin 64, rot (kRow P b t' ⟨h.val / 4, by omega⟩) t'.val d * rot (qRow P b t h) t.val d) * Ideal.ofBits .f32 0x3E000000#32

/-- The keys a position sees. -/
def near (t t' : Fin 4112) : Prop := t'.val < 16 ∨ (t'.val ≤ t.val + 128 ∧ t.val ≤ t'.val + 128)

instance (t t' : Fin 4112) : Decidable (near t t') := by unfold near; infer_instance

/-- Lane `e` of head `h` at position `t`. -/
def result (P : Fin 12 → Fin 4112 → Fin 8704 → EReal) (S : Fin 16 → EReal) (b : Fin 12) (t : Fin 4112) (h : Fin 16) (e : Fin 64) : EReal :=
  attend (fun t' : Fin 4112 => if near t t' then score P b h t t' else ⊥) (S h) (fun t' => vRow P b t' ⟨h.val / 4, by omega⟩ e)

/-! ## The scores are real numbers when the queries and keys are -/

/-- Neither infinity. -/
def Real' (x : EReal) : Prop := ∃ r : ℝ, x = r

theorem Real'.ne_top {x : EReal} (h : Real' x) : x ≠ ⊤ := by
  obtain ⟨r, rfl⟩ := h
  exact EReal.coe_ne_top r
theorem Real'.ne_bot {x : EReal} (h : Real' x) : x ≠ ⊥ := by
  obtain ⟨r, rfl⟩ := h
  exact EReal.coe_ne_bot r
theorem Real'.mul {x y : EReal} (hx : Real' x) (hy : Real' y) : Real' (x * y) := by
  obtain ⟨a, rfl⟩ := hx
  obtain ⟨b, rfl⟩ := hy
  exact ⟨a * b, (EReal.coe_mul a b).symm⟩
theorem Real'.add {x y : EReal} (hx : Real' x) (hy : Real' y) : Real' (x + y) := by
  obtain ⟨a, rfl⟩ := hx
  obtain ⟨b, rfl⟩ := hy
  exact ⟨a + b, (EReal.coe_add a b).symm⟩
theorem Real'.sub {x y : EReal} (hx : Real' x) (hy : Real' y) : Real' (x - y) := by
  obtain ⟨a, rfl⟩ := hx
  obtain ⟨b, rfl⟩ := hy
  exact ⟨a - b, (EReal.coe_sub a b).symm⟩
theorem Real'.neg {x : EReal} (hx : Real' x) : Real' (-x) := by
  obtain ⟨a, rfl⟩ := hx
  exact ⟨-a, (EReal.coe_neg a).symm⟩
theorem Real'.sum {ι : Type} (s : Finset ι) (f : ι → EReal) (h : ∀ i ∈ s, Real' (f i)) : Real' (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem real_word (w : BitVec 32) : Real' (FloatOps.sitofp (F := Ideal) .f32 w) := ⟨_, rfl⟩

theorem eighth : Ideal.ofBits .f32 0x3E000000#32 = ((1 / 8 : ℝ) : EReal) := by
  simp [Ideal.ofBits, Ideal.ieee, -EReal.coe_mul]
  norm_num
theorem two : Ideal.ofBits .f32 0x40000000#32 = ((2 : ℝ) : EReal) := by
  simp [Ideal.ofBits, Ideal.ieee, -EReal.coe_mul]
  norm_num
theorem sixteen : Ideal.ofBits .f32 0x41800000#32 = ((16 : ℝ) : EReal) := by
  simp [Ideal.ofBits, Ideal.ieee, -EReal.coe_mul]
  norm_num
theorem base : Ideal.ofBits .f32 0x48F42400#32 = ((500000 : ℝ) : EReal) := by
  simp [Ideal.ofBits, Ideal.ieee, -EReal.coe_mul]
  norm_num

theorem real_freq (f : ℕ) : Real' (freq f) := by
  unfold freq
  rw [base, two, sixteen, Ideal.div_coe (by norm_num)]
  obtain ⟨r, hr⟩ := ((real_word (BitVec.ofNat 32 f)).neg.mul ⟨2, rfl⟩).mul ⟨1 / 16, rfl⟩
  rw [hr, Ideal.pow_coe_coe]
  exact ⟨_, rfl⟩

theorem real_angle (t f : ℕ) : Real' (angle t f) := (real_word _).mul (real_freq f)

theorem real_cos (t f : ℕ) : Real' (Ideal.cos (angle t f)) := by
  obtain ⟨r, hr⟩ := real_angle t f
  rw [hr]
  exact ⟨_, rfl⟩
theorem real_sin (t f : ℕ) : Real' (Ideal.sin (angle t f)) := by
  obtain ⟨r, hr⟩ := real_angle t f
  rw [hr]
  exact ⟨_, rfl⟩

theorem real_rot (x : Fin 64 → EReal) (hx : ∀ d, Real' (x d)) (t : ℕ) (d : Fin 64) : Real' (rot x t d) := by
  unfold rot
  split
  · exact ((hx _).mul (real_cos _ _)).sub ((hx _).mul (real_sin _ _))
  · split
    · exact ((hx _).mul (real_cos _ _)).add ((hx _).mul (real_sin _ _))
    · exact hx _

theorem real_score (P : Fin 12 → Fin 4112 → Fin 8704 → EReal) (hP : ∀ b t (l : Fin 1280), Real' (P b t ⟨l.val, by omega⟩)) (b : Fin 12) (h : Fin 16) (t t' : Fin 4112) :
    Real' (score P b h t t') := by
  refine (Real'.sum _ _ fun d _ => (real_rot _ (fun e => ?_) _ _).mul (real_rot _ (fun e => ?_) _ _)).mul ⟨_, eighth⟩
  · exact hP b t' ⟨1024 + (64 * (h.val / 4) + e.val), by omega⟩
  · exact hP b t ⟨64 * h.val + e.val, by omega⟩

/-- Scaling the queries by an eighth scales the product. -/
theorem scale_sum (q k : Fin 64 → EReal) :
    (∑ d, q d * Ideal.ofBits .f32 0x3E000000#32 * k d) = (∑ d, k d * q d) * Ideal.ofBits .f32 0x3E000000#32 := by
  rw [eighth]
  have h : ∀ s : Finset (Fin 64), (∑ d ∈ s, q d * ((1 / 8 : ℝ) : EReal) * k d) = (∑ d ∈ s, k d * q d) * ((1 / 8 : ℝ) : EReal) := by
    intro s
    induction s using Finset.induction_on with
    | empty => simp
    | insert a s ha ih =>
      rw [Finset.sum_insert ha, Finset.sum_insert ha, ih, EReal.right_distrib_of_nonneg_of_ne_top (by norm_num) (EReal.coe_ne_top _)]
      congr 1
      rw [mul_right_comm, mul_comm (q a)]
  exact h _

end Cert.Attn
-- ==== Proof.Blocks.lean ====
/- What one grid point writes, at an element: the layer's attention at that element's position. -/
module
public import proofs.«01_k».proof.Proof.Body
public import proofs.«01_k».proof.Proof.Host
public import proofs.«01_k».proof.Proof.Spec
@[expose] public section
set_option maxRecDepth 16384
noncomputable section
namespace Cert.Attn
open Idealize.ShloMosaic Cert.KernelIdeal Cert.KernelIdeal.Gen Idealize.ShloMosaic.Pipeline
open Idealize.SL.Sem Idealize.ShloMosaic.TcCoe
variable (m : (ℓ : Loc nD Cert.KernelIdeal.τ Cert.KernelIdeal.sig) → Buf (Elt Ideal) ℓ)

theorem idx0 : ∀ t, win0_0.index t = ![0] := by decide +kernel
theorem idx1 : ∀ t, win0_1.index t = ![(grid0.coords t 0).val, (grid0.coords t 1).val, 0] := by decide +kernel
theorem idx2 : ∀ t, win0_2.index t = ![(grid0.coords t 0).val, 0, 32] := by decide +kernel
theorem idx3 : ∀ t, win0_3.index t = ![(grid0.coords t 0).val, (grid0.coords t 1).val - 1, 32] := by decide +kernel
theorem idx4 : ∀ t, win0_4.index t = ![(grid0.coords t 0).val, (grid0.coords t 1).val, 32] := by decide +kernel
theorem idx5 : ∀ t, win0_5.index t = ![(grid0.coords t 0).val, min 32 ((grid0.coords t 1).val + 1), 32] := by decide +kernel
theorem idx6 : ∀ t, win0_6.index t = ![(grid0.coords t 0).val, 0, 33] := by decide +kernel
theorem idx7 : ∀ t, win0_7.index t = ![(grid0.coords t 0).val, (grid0.coords t 1).val - 1, 33] := by decide +kernel
theorem idx8 : ∀ t, win0_8.index t = ![(grid0.coords t 0).val, (grid0.coords t 1).val, 33] := by decide +kernel
theorem idx9 : ∀ t, win0_9.index t = ![(grid0.coords t 0).val, min 32 ((grid0.coords t 1).val + 1), 33] := by decide +kernel
theorem idx13 : ∀ t, win0_13.index t = ![(grid0.coords t 0).val, (grid0.coords t 1).val, 0] := by decide +kernel

theorem idx10 : ∀ t, win0_10.index t = ![0, 0] := by decide +kernel
theorem idx11 : ∀ t, win0_11.index t = ![0, 0] := by decide +kernel
theorem idx12 : ∀ t, win0_12.index t = ![0, 0] := by decide +kernel
theorem off1 : ∀ t, k0_off1 (grid0.coords t) = ![128 * (grid0.coords t 1).val, 0] := fun t => k0_off1_eq _
theorem off2_0 : ∀ t, k0_off2 (grid0.coords t) 0#32 = ![128 * ((grid0.coords t 1).val - 1), 0] := by decide +kernel
theorem off2_1 : ∀ t, k0_off2 (grid0.coords t) 1#32 = ![128 * (grid0.coords t 1).val, 0] := by decide +kernel
theorem off2_2 : ∀ t, k0_off2 (grid0.coords t) 2#32 = ![128 * min 32 ((grid0.coords t 1).val + 1), 0] := by decide +kernel

/-- The block row of a grid point. -/
abbrev rowBlock (t : Fin cfg0.N) : Fin 33 := grid0.coords t 1
abbrev batch (t : Fin cfg0.N) : Fin 12 := grid0.coords t 0

/-! ## The windows' blocks at an index -/

theorem q_block (c : Dev nD) (t : Fin cfg0.N) (i : Fin 128) (l : Fin 1024) :
    X0_1 m c t (ix3 0 i l) = V m c main_v11 (ix3 (batch t) ⟨128 * (rowBlock t).val + i.val, by omega⟩ ⟨l.val, by omega⟩) := by
  have hr : (grid0.coords t 1).val < 33 := (rowBlock t).isLt
  unfold batch rowBlock
  unfold X0_1 Pipeline.Window.fill
  rw [dif_pos (moved0_1 t _)]
  blk_ext [iblk, V, idx1 t]
theorem block2 (c : Dev nD) (t : Fin cfg0.N) (i : Fin 128) (l : Fin 256) :
    iblk m c 2 t (ix3 0 i l) = V m c main_v11 (ix3 (batch t) ⟨i.val, by have := (rowBlock t).isLt; omega⟩ ⟨8192 + l.val, by omega⟩) := by
  have hr : (grid0.coords t 1).val < 33 := (rowBlock t).isLt
  unfold batch
  blk_ext [iblk, V, idx2 t]
theorem block3 (c : Dev nD) (t : Fin cfg0.N) (i : Fin 128) (l : Fin 256) :
    iblk m c 3 t (ix3 0 i l) = V m c main_v11 (ix3 (batch t) ⟨128 * ((rowBlock t).val - 1) + i.val, by have := (rowBlock t).isLt; omega⟩ ⟨8192 + l.val, by omega⟩) := by
  have hr : (grid0.coords t 1).val < 33 := (rowBlock t).isLt
  unfold batch rowBlock
  blk_ext [iblk, V, idx3 t]
theorem block4 (c : Dev nD) (t : Fin cfg0.N) (i : Fin 128) (l : Fin 256) :
    iblk m c 4 t (ix3 0 i l) = V m c main_v11 (ix3 (batch t) ⟨128 * (rowBlock t).val + i.val, by have := (rowBlock t).isLt; omega⟩ ⟨8192 + l.val, by omega⟩) := by
  have hr : (grid0.coords t 1).val < 33 := (rowBlock t).isLt
  unfold batch rowBlock
  blk_ext [iblk, V, idx4 t]
theorem block5 (c : Dev nD) (t : Fin cfg0.N) (i : Fin 128) (l : Fin 256) :
    iblk m c 5 t (ix3 0 i l) = V m c main_v11 (ix3 (batch t) ⟨128 * min 32 ((rowBlock t).val + 1) + i.val, by have := (rowBlock t).isLt; omega⟩ ⟨8192 + l.val, by omega⟩) := by
  have hr : (grid0.coords t 1).val < 33 := (rowBlock t).isLt
  unfold batch rowBlock
  blk_ext [iblk, V, idx5 t]
theorem block6 (c : Dev nD) (t : Fin cfg0.N) (i : Fin 128) (l : Fin 256) :
    iblk m c 6 t (ix3 0 i l) = V m c main_v11 (ix3 (batch t) ⟨i.val, by have := (rowBlock t).isLt; omega⟩ ⟨8448 + l.val, by omega⟩) := by
  have hr : (grid0.coords t 1).val < 33 := (rowBlock t).isLt
  unfold batch
  blk_ext [iblk, V, idx6 t]
theorem block7 (c : Dev nD) (t : Fin cfg0.N) (i : Fin 128) (l : Fin 256) :
    iblk m c 7 t (ix3 0 i l) = V m c main_v11 (ix3 (batch t) ⟨128 * ((rowBlock t).val - 1) + i.val, by have := (rowBlock t).isLt; omega⟩ ⟨8448 + l.val, by omega⟩) := by
  have hr : (grid0.coords t 1).val < 33 := (rowBlock t).isLt
  unfold batch rowBlock
  blk_ext [iblk, V, idx7 t]
theorem block8 (c : Dev nD) (t : Fin cfg0.N) (i : Fin 128) (l : Fin 256) :
    iblk m c 8 t (ix3 0 i l) = V m c main_v11 (ix3 (batch t) ⟨128 * (rowBlock t).val + i.val, by have := (rowBlock t).isLt; omega⟩ ⟨8448 + l.val, by omega⟩) := by
  have hr : (grid0.coords t 1).val < 33 := (rowBlock t).isLt
  unfold batch rowBlock
  blk_ext [iblk, V, idx8 t]
theorem block9 (c : Dev nD) (t : Fin cfg0.N) (i : Fin 128) (l : Fin 256) :
    iblk m c 9 t (ix3 0 i l) = V m c main_v11 (ix3 (batch t) ⟨128 * min 32 ((rowBlock t).val + 1) + i.val, by have := (rowBlock t).isLt; omega⟩ ⟨8448 + l.val, by omega⟩) := by
  have hr : (grid0.coords t 1).val < 33 := (rowBlock t).isLt
  unfold batch rowBlock
  blk_ext [iblk, V, idx9 t]
theorem block10 (c : Dev nD) (t : Fin cfg0.N) (p : Fin 4224) (l : Fin 128) : iblk m c 10 t (ix2 p l) = V m c main_v42 (ix2 p l) := by
  blk_ext [iblk, V, idx10 t]
theorem block11 (c : Dev nD) (t : Fin cfg0.N) (p : Fin 4224) (l : Fin 128) : iblk m c 11 t (ix2 p l) = V m c main_v45 (ix2 p l) := by
  blk_ext [iblk, V, idx11 t]
theorem block12 (c : Dev nD) (t : Fin cfg0.N) (p : Fin 4224) (l : Fin 128) : iblk m c 12 t (ix2 p l) = V m c main_v48 (ix2 p l) := by
  blk_ext [iblk, V, idx12 t]
theorem block0 (c : Dev nD) (t : Fin cfg0.N) (n : Fin 16) : iblk m c 0 t (ix1 n) = sinksOf m c (ix1 n) := by
  refine Eq.trans ?_ (congrFun (V_main_arg1 m c) (ix1 n))
  blk_ext [iblk, V, idx0 t]

/-! ## The tables' rows -/

/-- A table's 128 rows at offset `o`. -/
def rowsAt (T : Vec Ideal S4224x128 .f32) (o : Fin 2 → ℕ) (h : ∀ a, o a + S128x128.size a ≤ S4224x128.size a) : Vec Ideal S128x128 .f32 :=
  View.ld T (Rect.unit o ![128, 128] h)

theorem rowsAt_apply (T : Vec Ideal S4224x128 .f32) (o : Fin 2 → ℕ) (h : ∀ a, o a + S128x128.size a ≤ S4224x128.size a) (p : ℕ) (ho : o = ![p, 0]) (i e : Fin 128)
    (hp : p + i.val < 4224) : rowsAt T o h (ix2 i e) = T (ix2 ⟨p + i.val, hp⟩ e) := by
  subst ho
  unfold rowsAt
  refine View.ld_unit_apply_of T ![p, 0] ![128, 128] h _ _ fun a => ?_
  match a with
  | ⟨0, _⟩ => rfl
  | ⟨1, _⟩ => exact (Nat.zero_add _).symm

end Cert.Attn
-- ==== Proof.Keys.lean ====
/- The lanes one grid point works on: the query of its position, and the key and value of every position its mask lets through. -/
module
public import proofs.«01_k».proof.Proof.Blocks
@[expose] public section
set_option maxRecDepth 16384
noncomputable section
namespace Cert.Attn
open Idealize.ShloMosaic Cert.KernelIdeal Cert.KernelIdeal.Gen Idealize.ShloMosaic.Pipeline
open Idealize.SL.Sem Idealize.ShloMosaic.TcCoe
variable (m : (ℓ : Loc nD Cert.KernelIdeal.τ Cert.KernelIdeal.sig) → Buf (Elt Ideal) ℓ)

/-- The position of the key in place `c` of key block `j`, for row block `r`. -/
def keyPos (r : Fin 33) (j : Fin 4) (c : Fin 128) : Fin 4112 :=
  ⟨min 4111 (if j.val = 0 then c.val - 112 else 128 * r.val + 128 * j.val + c.val - 368), by omega⟩

theorem seen_cases (r : Fin 33) (i : Fin 128) (j : Fin 4) (c : Fin 128) (h : seen r.val i.val j.val c.val) :
    (j = 0 ∧ 0 + c.val = 112 + (keyPos r j c).val) ∨ (j = 1 ∧ 128 * (r.val - 1) + c.val = 112 + (keyPos r j c).val) ∨
      (j = 2 ∧ 128 * r.val + c.val = 112 + (keyPos r j c).val) ∨ (j = 3 ∧ 128 * min 32 (r.val + 1) + c.val = 112 + (keyPos r j c).val) := by
  obtain ⟨j, hj⟩ := j
  interval_cases j <;> simp [seen, keyPos, Fin.ext_iff] at h ⊢ <;> omega

/-! ## The tables' rows at a position -/

theorem rows_at (T : Vec Ideal S4224x128 .f32) (F : ℕ → ℕ → EReal)
    (hT : ∀ (p : Fin 4112) (l : Fin 128), T (ix2 ⟨112 + p.val, by omega⟩ l) = F p.val (l.val % 64))
    (o : Fin 2 → ℕ) (h : ∀ a, o a + S128x128.size a ≤ S4224x128.size a) (p : ℕ) (ho : o = ![p, 0]) (q : Fin 4112) (i e : Fin 128)
    (hq : p + i.val = 112 + q.val) : rowsAt T o h (ix2 i e) = F q.val (e.val % 64) := by
  rw [rowsAt_apply T o h p ho i e (by omega), ← hT q e]
  exact congrArg (fun z => T (ix2 z e)) (Fin.ext hq)

theorem key_rows (T : Vec Ideal S4224x128 .f32) (F : ℕ → ℕ → EReal)
    (hT : ∀ (p : Fin 4112) (l : Fin 128), T (ix2 ⟨112 + p.val, by omega⟩ l) = F p.val (l.val % 64))
    (t : Fin cfg0.N) (h0 : ∀ a, ![0, 0] a + S128x128.size a ≤ S4224x128.size a)
    (h1 : ∀ a, k0_off2 (grid0.coords t) 0#32 a + S128x128.size a ≤ S4224x128.size a)
    (h2 : ∀ a, k0_off2 (grid0.coords t) 1#32 a + S128x128.size a ≤ S4224x128.size a)
    (h3 : ∀ a, k0_off2 (grid0.coords t) 2#32 a + S128x128.size a ≤ S4224x128.size a)
    (i : Fin 128) (j : Fin 4) (c e : Fin 128) (hs : seen (rowBlock t).val i.val j.val c.val) :
    pick4 (rowsAt T ![0, 0] h0) (rowsAt T (k0_off2 (grid0.coords t) 0#32) h1) (rowsAt T (k0_off2 (grid0.coords t) 1#32) h2)
      (rowsAt T (k0_off2 (grid0.coords t) 2#32) h3) j (ix2 c e) = F (keyPos (rowBlock t) j c).val (e.val % 64) := by
  rcases seen_cases _ _ _ _ hs with ⟨hj, hq⟩ | ⟨hj, hq⟩ | ⟨hj, hq⟩ | ⟨hj, hq⟩ <;> subst hj
  · exact rows_at T F hT _ h0 0 rfl _ c e hq
  · exact rows_at T F hT _ h1 _ (off2_0 t) _ c e hq
  · exact rows_at T F hT _ h2 _ (off2_1 t) _ c e hq
  · exact rows_at T F hT _ h3 _ (off2_2 t) _ c e hq

/-! ## The projection's columns at a position -/

/-- The projection at a batch member, a position and a column. -/
def projAt (c : Dev nD) (b : Fin 12) (t : Fin 4112) (l : Fin 8704) : EReal := projOf m c (ix3 b t l)

theorem row_at (x : S12x4224x8704.Idx → EReal) (b : Fin 12) (p p' : Fin 4224) (l : Fin 8704) (h : p.val = p'.val) : x (ix3 b p l) = x (ix3 b p' l) := by
  rw [Fin.ext h]

theorem key_block (c : Dev nD) (t : Fin cfg0.N) (i : Fin 128) (j : Fin 4) (k : Fin 128) (hs : seen (rowBlock t).val i.val j.val k.val) (l : Fin 256) :
    pick4 (iblk m c 2 t) (iblk m c 3 t) (iblk m c 4 t) (iblk m c 5 t) j (ix3 0 k l) =
      projAt m c (batch t) (keyPos (rowBlock t) j k) ⟨1024 + l.val, by omega⟩ := by
  rcases seen_cases _ _ _ _ hs with ⟨hj, hq⟩ | ⟨hj, hq⟩ | ⟨hj, hq⟩ | ⟨hj, hq⟩ <;> subst hj
  · change iblk m c 2 t (ix3 0 k l) = _
    refine (block2 m c t k l).trans (Eq.trans ?_ (key_cols m c (batch t) (keyPos (rowBlock t) 0 k) l))
    exact row_at _ _ _ _ _ ((Nat.zero_add _).symm.trans hq)
  · change iblk m c 3 t (ix3 0 k l) = _
    refine (block3 m c t k l).trans (Eq.trans ?_ (key_cols m c (batch t) (keyPos (rowBlock t) 1 k) l))
    exact row_at _ _ _ _ _ hq
  · change iblk m c 4 t (ix3 0 k l) = _
    refine (block4 m c t k l).trans (Eq.trans ?_ (key_cols m c (batch t) (keyPos (rowBlock t) 2 k) l))
    exact row_at _ _ _ _ _ hq
  · change iblk m c 5 t (ix3 0 k l) = _
    refine (block5 m c t k l).trans (Eq.trans ?_ (key_cols m c (batch t) (keyPos (rowBlock t) 3 k) l))
    exact row_at _ _ _ _ _ hq

theorem value_block (c : Dev nD) (t : Fin cfg0.N) (i : Fin 128) (j : Fin 4) (k : Fin 128) (hs : seen (rowBlock t).val i.val j.val k.val) (l : Fin 256) :
    pick4 (iblk m c 6 t) (iblk m c 7 t) (iblk m c 8 t) (iblk m c 9 t) j (ix3 0 k l) =
      projAt m c (batch t) (keyPos (rowBlock t) j k) ⟨1280 + l.val, by omega⟩ := by
  rcases seen_cases _ _ _ _ hs with ⟨hj, hq⟩ | ⟨hj, hq⟩ | ⟨hj, hq⟩ | ⟨hj, hq⟩ <;> subst hj
  · change iblk m c 6 t (ix3 0 k l) = _
    refine (block6 m c t k l).trans (Eq.trans ?_ (value_cols m c (batch t) (keyPos (rowBlock t) 0 k) l))
    exact row_at _ _ _ _ _ ((Nat.zero_add _).symm.trans hq)
  · change iblk m c 7 t (ix3 0 k l) = _
    refine (block7 m c t k l).trans (Eq.trans ?_ (value_cols m c (batch t) (keyPos (rowBlock t) 1 k) l))
    exact row_at _ _ _ _ _ hq
  · change iblk m c 8 t (ix3 0 k l) = _
    refine (block8 m c t k l).trans (Eq.trans ?_ (value_cols m c (batch t) (keyPos (rowBlock t) 2 k) l))
    exact row_at _ _ _ _ _ hq
  · change iblk m c 9 t (ix3 0 k l) = _
    refine (block9 m c t k l).trans (Eq.trans ?_ (value_cols m c (batch t) (keyPos (rowBlock t) 3 k) l))
    exact row_at _ _ _ _ _ hq

theorem query_block (c : Dev nD) (t : Fin cfg0.N) (i : Fin 128) (q : Fin 4112) (hq : 128 * (rowBlock t).val + i.val = 112 + q.val) (l : Fin 1024) :
    X0_1 m c t (ix3 0 i l) = projAt m c (batch t) q ⟨l.val, by omega⟩ :=
  (q_block m c t i l).trans ((congrArg (fun z => V m c main_v11 (ix3 (batch t) z _)) (Fin.ext hq)).trans (query_cols m c _ _ l))

/-! ## One lane of a head -/

/-- A half of 128 lanes turned by its position. -/
theorem turn_lane (x c s1 s2 : Fin 128 → EReal) (q : ℕ) (u : Fin 2) (d : Fin 64) (y : Fin 64 → EReal)
    (hc : ∀ e, c e = cosRow q (e.val % 64)) (h1 : ∀ e, s1 e = sinRow q (e.val % 64)) (h2 : ∀ e, s2 e = negRow q (e.val % 64))
    (hx : ∀ d : Fin 64, x ⟨64 * u.val + d.val, by omega⟩ = y d) : turn x c s1 s2 ⟨64 * u.val + d.val, by omega⟩ = rot y q d := by
  rw [funext hc, funext h1, funext h2, turn_eq]
  have hu : (64 * u.val + d.val) / 64 = u.val := by omega
  have hd : (64 * u.val + d.val) % 64 = d.val := by omega
  simp only [hu, hd, hx]

theorem cos_rows (c : Dev nD) (t : Fin cfg0.N) (p : Fin 4112) (l : Fin 128) : iblk m c 10 t (ix2 ⟨112 + p.val, by omega⟩ l) = cosRow p.val (l.val % 64) :=
  (block10 m c t _ l).trans (cos_table m c p l)
theorem sin_rows (c : Dev nD) (t : Fin cfg0.N) (p : Fin 4112) (l : Fin 128) : iblk m c 11 t (ix2 ⟨112 + p.val, by omega⟩ l) = sinRow p.val (l.val % 64) :=
  (block11 m c t _ l).trans (sin_table m c p l)
theorem neg_rows (c : Dev nD) (t : Fin cfg0.N) (p : Fin 4112) (l : Fin 128) : iblk m c 12 t (ix2 ⟨112 + p.val, by omega⟩ l) = negRow p.val (l.val % 64) :=
  (block12 m c t _ l).trans (neg_table m c p l)

theorem query_lane (c : Dev nD) (t : Fin cfg0.N) (i : Fin 128) (q : Fin 4112) (hq : 128 * (rowBlock t).val + i.val = 112 + q.val)
    (h1 : ∀ a, k0_off1 (grid0.coords t) a + S128x128.size a ≤ S4224x128.size a) (h : Fin 16) (d : Fin 64) :
    queries (X0_1 m c t) (rowsAt (iblk m c 10 t) (k0_off1 (grid0.coords t)) h1) (rowsAt (iblk m c 11 t) (k0_off1 (grid0.coords t)) h1)
        (rowsAt (iblk m c 12 t) (k0_off1 (grid0.coords t)) h1) (ix2 i ⟨64 * h.val + d.val, by omega⟩) =
      rot (qRow (projAt m c) (batch t) q h) q.val d * Ideal.ofBits .f32 0x3E000000#32 := by
  rw [queries_apply _ _ _ _ i _ ⟨h.val / 2, by omega⟩ ⟨64 * (h.val % 2) + d.val, by omega⟩ (by simp only; omega)]
  refine congrArg (· * Ideal.ofBits .f32 0x3E000000#32) ?_
  refine turn_lane _ _ _ _ q.val ⟨h.val % 2, by omega⟩ d _ (fun e => ?_) (fun e => ?_) (fun e => ?_) fun d => ?_
  · exact rows_at _ cosRow (cos_rows m c t) _ h1 _ (off1 t) q i e hq
  · exact rows_at _ sinRow (sin_rows m c t) _ h1 _ (off1 t) q i e hq
  · exact rows_at _ negRow (neg_rows m c t) _ h1 _ (off1 t) q i e hq
  · refine (query_block m c t i q hq _).trans ?_
    exact congrArg (projAt m c (batch t) q) (Fin.ext (by simp only; omega))

theorem key_lane (c : Dev nD) (t : Fin cfg0.N) (h0 : ∀ a, ![0, 0] a + S128x128.size a ≤ S4224x128.size a)
    (h1 : ∀ a, k0_off2 (grid0.coords t) 0#32 a + S128x128.size a ≤ S4224x128.size a)
    (h2 : ∀ a, k0_off2 (grid0.coords t) 1#32 a + S128x128.size a ≤ S4224x128.size a)
    (h3 : ∀ a, k0_off2 (grid0.coords t) 2#32 a + S128x128.size a ≤ S4224x128.size a)
    (i : Fin 128) (κ : Fin 512) (j : Fin 4) (k : Fin 128) (hκ : κ.val = 128 * j.val + k.val) (hs : seen (rowBlock t).val i.val j.val k.val)
    (g : Fin 4) (d : Fin 64) :
    keys (iblk m c 2 t) (iblk m c 3 t) (iblk m c 4 t) (iblk m c 5 t)
        (rowsAt (iblk m c 10 t) ![0, 0] h0) (rowsAt (iblk m c 11 t) ![0, 0] h0) (rowsAt (iblk m c 12 t) ![0, 0] h0)
        (rowsAt (iblk m c 10 t) (k0_off2 (grid0.coords t) 0#32) h1) (rowsAt (iblk m c 11 t) (k0_off2 (grid0.coords t) 0#32) h1) (rowsAt (iblk m c 12 t) (k0_off2 (grid0.coords t) 0#32) h1)
        (rowsAt (iblk m c 10 t) (k0_off2 (grid0.coords t) 1#32) h2) (rowsAt (iblk m c 11 t) (k0_off2 (grid0.coords t) 1#32) h2) (rowsAt (iblk m c 12 t) (k0_off2 (grid0.coords t) 1#32) h2)
        (rowsAt (iblk m c 10 t) (k0_off2 (grid0.coords t) 2#32) h3) (rowsAt (iblk m c 11 t) (k0_off2 (grid0.coords t) 2#32) h3) (rowsAt (iblk m c 12 t) (k0_off2 (grid0.coords t) 2#32) h3)
        (ix2 κ ⟨64 * g.val + d.val, by omega⟩) =
      rot (kRow (projAt m c) (batch t) (keyPos (rowBlock t) j k) g) (keyPos (rowBlock t) j k).val d := by
  rw [keys_apply _ _ _ _ _ _ _ _ _ _ _ _ _ _ _ _ κ j k hκ _ ⟨g.val / 2, by omega⟩ ⟨64 * (g.val % 2) + d.val, by omega⟩ (by simp only; omega)]
  refine turn_lane _ _ _ _ _ ⟨g.val % 2, by omega⟩ d _ (fun e => ?_) (fun e => ?_) (fun e => ?_) fun d => ?_
  · exact key_rows _ cosRow (cos_rows m c t) t h0 h1 h2 h3 i j k e hs
  · exact key_rows _ sinRow (sin_rows m c t) t h0 h1 h2 h3 i j k e hs
  · exact key_rows _ negRow (neg_rows m c t) t h0 h1 h2 h3 i j k e hs
  · refine (key_block m c t i j k hs _).trans ?_
    exact congrArg (projAt m c (batch t) _) (Fin.ext (by simp only; omega))

theorem value_lane (c : Dev nD) (t : Fin cfg0.N) (i : Fin 128) (κ : Fin 512) (j : Fin 4) (k : Fin 128) (hκ : κ.val = 128 * j.val + k.val)
    (hs : seen (rowBlock t).val i.val j.val k.val) (g : Fin 4) (e : Fin 64) :
    vals (iblk m c 6 t) (iblk m c 7 t) (iblk m c 8 t) (iblk m c 9 t) (ix2 κ ⟨64 * g.val + e.val, by omega⟩) =
      vRow (projAt m c) (batch t) (keyPos (rowBlock t) j k) g e :=
  (vals_apply _ _ _ _ κ j k hκ _).trans (value_block m c t i j k hs _)

/-- The sink of a head. -/
theorem sink_at (c : Dev nD) (t : Fin cfg0.N) (n : Fin 16) (hin : ∀ a, ![n.val] a + ![1] a ≤ S16.size a) (y : Shape.Idx ⟨1, ![1]⟩) :
    View.ld (iblk m c 0 t) (Rect.unit ![n.val] ![1] hin) y = sinksOf m c (ix1 n) := by
  refine (View.ld_unit_apply_of (iblk m c 0 t) ![n.val] ![1] hin y (ix1 n) fun a => ?_).trans (block0 m c t n)
  fin_cases a
  have := (y 0).isLt
  have h1 : (y 0).val < 1 := this
  show n.val = n.val + (y 0).val
  omega
end Cert.Attn
-- ==== Proof.Point.lean ====
/- What one grid point writes at one element is the layer's attention at that element's position, when the projection's query, key and
   value columns and the sinks are real numbers. -/
module
public import proofs.«01_k».proof.Proof.Keys
@[expose] public section
set_option maxRecDepth 16384
noncomputable section
namespace Cert.Attn
open Idealize.ShloMosaic Cert.KernelIdeal Cert.KernelIdeal.Gen Idealize.ShloMosaic.Pipeline
open Idealize.SL.Sem Idealize.ShloMosaic.TcCoe
variable (m : (ℓ : Loc nD Cert.KernelIdeal.τ Cert.KernelIdeal.sig) → Buf (Elt Ideal) ℓ)

/-- The key block and the place in it of a key of the window. -/
def blockOf (κ : Fin 512) : Fin 4 := ⟨κ.val / 128, by omega⟩
def placeOf (κ : Fin 512) : Fin 128 := ⟨κ.val % 128, by omega⟩
theorem split_key (κ : Fin 512) : κ.val = 128 * (blockOf κ).val + (placeOf κ).val := by
  simp only [blockOf, placeOf]
  omega

/-- The position of a key of the window. -/
def posOf (r : Fin 33) (κ : Fin 512) : Fin 4112 := keyPos r (blockOf κ) (placeOf κ)

theorem seen_iff (r i j c : ℕ) : seen r i j c ↔
    (j = 0 ∧ 112 ≤ c) ∨ (j ≠ 0 ∧ 3 ≤ r + j ∧ r + j ≤ 34 ∧ i + 256 ≤ 128 * j + c + 128 ∧ 128 * j + c ≤ i + 384) := by
  unfold seen
  by_cases h : j = 0 <;> simp [h]

theorem posOf_val (r : Fin 33) (κ : Fin 512) : (κ.val / 128 = 0 ∧ (posOf r κ).val = min 4111 (κ.val % 128 - 112)) ∨
    (κ.val / 128 ≠ 0 ∧ (posOf r κ).val = min 4111 (128 * r.val + 128 * (κ.val / 128) + κ.val % 128 - 368)) := by
  unfold posOf keyPos blockOf placeOf
  by_cases h : κ.val / 128 = 0 <;> simp [h]

/-- No position stands twice among the keys a row sees. -/
theorem posOf_inj (r : Fin 33) (i : Fin 128) (κ κ' : Fin 512) (h : seen r.val i.val (blockOf κ).val (placeOf κ).val)
    (h' : seen r.val i.val (blockOf κ').val (placeOf κ').val) (e : posOf r κ = posOf r κ') : κ = κ' := by
  have e := Fin.ext_iff.1 e
  have h1 := posOf_val r κ
  have h2 := posOf_val r κ'
  rw [seen_iff] at h h'
  simp only [blockOf, placeOf] at h h'
  apply Fin.ext
  omega

/-- A key of the window that is seen is near, -/
theorem near_of_seen (r : Fin 33) (i : Fin 128) (q : Fin 4112) (hq : 128 * r.val + i.val = 112 + q.val) (κ : Fin 512)
    (h : seen r.val i.val (blockOf κ).val (placeOf κ).val) : near q (posOf r κ) := by
  have h1 := posOf_val r κ
  rw [seen_iff] at h
  simp only [blockOf, placeOf] at h
  unfold near
  omega

/-- and every near position has a key of the window that is seen. -/
theorem seen_of_near (r : Fin 33) (i : Fin 128) (q : Fin 4112) (hq : 128 * r.val + i.val = 112 + q.val) (t' : Fin 4112) (h : near q t') :
    ∃ κ : Fin 512, seen r.val i.val (blockOf κ).val (placeOf κ).val ∧ posOf r κ = t' := by
  unfold near at h
  by_cases ht : t'.val < 16
  · refine ⟨⟨112 + t'.val, by omega⟩, ?_, ?_⟩
    · rw [seen_iff]
      simp only [blockOf, placeOf]
      omega
    · have h1 := posOf_val r ⟨112 + t'.val, by omega⟩
      simp only at h1
      apply Fin.ext
      omega
  · have h2 : t'.val + 368 - 128 * r.val < 512 := by omega
    refine ⟨⟨t'.val + 368 - 128 * r.val, h2⟩, ?_, ?_⟩
    · rw [seen_iff]
      simp only [blockOf, placeOf]
      omega
    · have h1 := posOf_val r ⟨t'.val + 368 - 128 * r.val, h2⟩
      simp only at h1
      apply Fin.ext
      omega

/-- One head of a grid point. -/
theorem head_eq (P : Fin 12 → Fin 4112 → Fin 8704 → EReal) (hP : ∀ b t (l : Fin 1280), Real' (P b t ⟨l.val, by omega⟩)) (S : Fin 16 → EReal) (hS : ∀ h, Real' (S h))
    (b : Fin 12) (r : Fin 33) (i : Fin 128) (q : Fin 4112) (hq : 128 * r.val + i.val = 112 + q.val) (h : Fin 16) (e : Fin 64)
    (M : IVec S128x512 1) (Q : FVec Ideal S128x1024 .f32) (K V : FVec Ideal S512x256 .bf16)
    (hM : ∀ κ, M (ix2 i κ) = 1#1 ↔ seen r.val i.val (blockOf κ).val (placeOf κ).val)
    (hQ : ∀ d : Fin 64, Q (ix2 i ⟨64 * h.val + d.val, by omega⟩) = rot (qRow P b q h) q.val d * Ideal.ofBits .f32 0x3E000000#32)
    (hK : ∀ κ, seen r.val i.val (blockOf κ).val (placeOf κ).val → ∀ (g : Fin 4) (d : Fin 64),
      K (ix2 κ ⟨64 * g.val + d.val, by omega⟩) = rot (kRow P b (posOf r κ) g) (posOf r κ).val d)
    (hV : ∀ κ, seen r.val i.val (blockOf κ).val (placeOf κ).val → ∀ (g : Fin 4) (e : Fin 64),
      V (ix2 κ ⟨64 * g.val + e.val, by omega⟩) = vRow P b (posOf r κ) g e) :
    headOf M Q K V i h (S h) e = result P S b q h e := by
  unfold headOf result
  refine attend_eq (Finset.univ.filter fun κ => M (ix2 i κ) = 1#1) (posOf r) ?_ ?_ ?_ ?_ ?_ ?_ (hS h).ne_top (hS h).ne_bot
  · intro κ hκ κ' hκ' heq
    simp only [Finset.mem_filter, Finset.mem_univ, true_and] at hκ hκ'
    exact posOf_inj r i κ κ' ((hM κ).1 hκ) ((hM κ').1 hκ') heq
  · intro κ hκ
    simp only [Finset.mem_filter, Finset.mem_univ, true_and] at hκ
    exact if_neg hκ
  · intro t' ht'
    refine if_neg fun hn => ht' ?_
    obtain ⟨κ, hs, hp⟩ := seen_of_near r i q hq t' hn
    exact Finset.mem_image.2 ⟨κ, Finset.mem_filter.2 ⟨Finset.mem_univ κ, (hM κ).2 hs⟩, hp⟩
  · intro κ hκ
    simp only [Finset.mem_filter, Finset.mem_univ, true_and] at hκ
    have hs := (hM κ).1 hκ
    simp only [if_pos hκ, if_pos (near_of_seen r i q hq κ hs)]
    unfold score
    rw [← scale_sum]
    exact Finset.sum_congr rfl fun d _ => congrArg₂ (· * ·) (hQ d) (hK κ hs ⟨h.val / 4, by omega⟩ d)
  · intro κ hκ
    simp only [Finset.mem_filter, Finset.mem_univ, true_and] at hκ
    exact hV κ ((hM κ).1 hκ) ⟨h.val / 4, by omega⟩ e
  · intro t'
    by_cases hn : near q t'
    · rw [if_pos hn]
      exact (real_score P hP b h q t').ne_top
    · rw [if_neg hn]
      exact bot_ne_top

/-- All the heads of a grid point. -/
theorem body_result (P : Fin 12 → Fin 4112 → Fin 8704 → EReal) (hP : ∀ b t (l : Fin 1280), Real' (P b t ⟨l.val, by omega⟩)) (S : Fin 16 → EReal) (hS : ∀ h, Real' (S h))
    (b : Fin 12) (r : Fin 33) (i : Fin 128) (q : Fin 4112) (hq : 128 * r.val + i.val = 112 + q.val) (l : Fin 1024)
    (M : IVec S128x512 1) (Q : FVec Ideal S128x1024 .f32) (K V : FVec Ideal S512x256 .bf16) (s0 s1 s2 s3 s4 s5 s6 s7 s8 s9 s10 s11 s12 s13 s14 s15 : Elt Ideal .f32)
    (hM : ∀ κ, M (ix2 i κ) = 1#1 ↔ seen r.val i.val (blockOf κ).val (placeOf κ).val)
    (hQ : ∀ (h : Fin 16) (d : Fin 64), Q (ix2 i ⟨64 * h.val + d.val, by omega⟩) = rot (qRow P b q h) q.val d * Ideal.ofBits .f32 0x3E000000#32)
    (hK : ∀ κ, seen r.val i.val (blockOf κ).val (placeOf κ).val → ∀ (g : Fin 4) (d : Fin 64),
      K (ix2 κ ⟨64 * g.val + d.val, by omega⟩) = rot (kRow P b (posOf r κ) g) (posOf r κ).val d)
    (hV : ∀ κ, seen r.val i.val (blockOf κ).val (placeOf κ).val → ∀ (g : Fin 4) (e : Fin 64),
      V (ix2 κ ⟨64 * g.val + e.val, by omega⟩) = vRow P b (posOf r κ) g e)
    (hs : ∀ n, ![s0, s1, s2, s3, s4, s5, s6, s7, s8, s9, s10, s11, s12, s13, s14, s15] n = S n) :
    body M Q K V s0 s1 s2 s3 s4 s5 s6 s7 s8 s9 s10 s11 s12 s13 s14 s15 (ix3 0 i l) = result P S b q ⟨l.val / 64, by omega⟩ ⟨l.val % 64, by omega⟩ := by
  have hh : (⟨2 * (l.val / 128) + l.val % 128 / 64, by omega⟩ : Fin 16) = ⟨l.val / 64, by omega⟩ := Fin.ext (by simp only; omega)
  have he : (⟨l.val % 128 % 64, by omega⟩ : Fin 64) = ⟨l.val % 64, by omega⟩ := Fin.ext (by simp only; omega)
  rw [body_apply _ _ _ _ _ _ _ _ _ _ _ _ _ _ _ _ _ _ _ _ i l ⟨l.val / 128, by omega⟩ ⟨l.val % 128, by omega⟩ (by simp only; omega), hs]
  simp only [hh, he]
  exact head_eq P hP S hS b r i q hq _ _ M Q K V hM (hQ _) hK hV

set_option maxHeartbeats 1000000 in
theorem point_apply (c : Dev nD) (hP : ∀ b t (l : Fin 1280), Real' (projAt m c b t ⟨l.val, by omega⟩)) (hS : ∀ h : Fin 16, Real' (sinksOf m c (ix1 h)))
    (t : Fin cfg0.N) (i : Fin 128) (q : Fin 4112) (hq : 128 * (rowBlock t).val + i.val = 112 + q.val) (l : Fin 1024) :
    (dats m 0 c).after 13 t (ix3 0 i l) =
      result (projAt m c) (fun h => sinksOf m c (ix1 h)) (batch t) q ⟨l.val / 64, by omega⟩ ⟨l.val % 64, by omega⟩ := by
  rw [after0_13]; unfold outsAt0; frame_out
  change body (mask (BitVec.ofNat 32 (grid0.coords t 1).val))
    (queries (X0_1 m c t) (rowsAt (iblk m c 10 t) (k0_off1 (grid0.coords t)) _) (rowsAt (iblk m c 11 t) (k0_off1 (grid0.coords t)) _) (rowsAt (iblk m c 12 t) (k0_off1 (grid0.coords t)) _))
    (keys (iblk m c 2 t) (iblk m c 3 t) (iblk m c 4 t) (iblk m c 5 t)
      (rowsAt (iblk m c 10 t) ![0, 0] _) (rowsAt (iblk m c 11 t) ![0, 0] _) (rowsAt (iblk m c 12 t) ![0, 0] _)
      (rowsAt (iblk m c 10 t) (k0_off2 (grid0.coords t) 0#32) _) (rowsAt (iblk m c 11 t) (k0_off2 (grid0.coords t) 0#32) _) (rowsAt (iblk m c 12 t) (k0_off2 (grid0.coords t) 0#32) _)
      (rowsAt (iblk m c 10 t) (k0_off2 (grid0.coords t) 1#32) _) (rowsAt (iblk m c 11 t) (k0_off2 (grid0.coords t) 1#32) _) (rowsAt (iblk m c 12 t) (k0_off2 (grid0.coords t) 1#32) _)
      (rowsAt (iblk m c 10 t) (k0_off2 (grid0.coords t) 2#32) _) (rowsAt (iblk m c 11 t) (k0_off2 (grid0.coords t) 2#32) _) (rowsAt (iblk m c 12 t) (k0_off2 (grid0.coords t) 2#32) _))
    (vals (iblk m c 6 t) (iblk m c 7 t) (iblk m c 8 t) (iblk m c 9 t))
    _ _ _ _ _ _ _ _ _ _ _ _ _ _ _ _ (ix3 0 i l) = _
  refine body_result (projAt m c) hP _ hS (batch t) (rowBlock t) i q hq l _ _ _ _ _ _ _ _ _ _ _ _ _ _ _ _ _ _ _ _ ?_ ?_ ?_ ?_ ?_
  · exact fun κ => mask_apply _ i κ _ _ (split_key κ)
  · exact fun h d => query_lane m c t i q hq _ h d
  · exact fun κ hs g d => key_lane m c t _ _ _ _ i κ _ _ (split_key κ) hs g d
  · exact fun κ hs g e => value_lane m c t i κ _ _ (split_key κ) hs g e
  · intro n
    fin_cases n
    exacts [sink_at m c t 0 _ _, sink_at m c t 1 _ _, sink_at m c t 2 _ _, sink_at m c t 3 _ _, sink_at m c t 4 _ _, sink_at m c t 5 _ _, sink_at m c t 6 _ _, sink_at m c t 7 _ _,
      sink_at m c t 8 _ _, sink_at m c t 9 _ _, sink_at m c t 10 _ _, sink_at m c t 11 _ _, sink_at m c t 12 _ _, sink_at m c t 13 _ _, sink_at m c t 14 _ _, sink_at m c t 15 _ _]
end Cert.Attn
-- ==== Proof.Arrays.lean ====
/- The kernel's result array, element by element. -/
module
public import proofs.«01_k».proof.Proof.Point
public import Idealize.ShloMosaic.Lib.Pipeline.ValueKit
public import Idealize.ShloMosaic.Lib.StableHlo.RunRead
@[expose] public section
set_option maxRecDepth 16384
noncomputable section
namespace Cert.Attn
open Idealize.ShloMosaic Cert.KernelIdeal Cert.KernelIdeal.Gen Idealize.ShloMosaic.Pipeline
open Idealize.SL.Sem Idealize.ShloMosaic.TcCoe
variable (m : (ℓ : Loc nD Cert.KernelIdeal.τ Cert.KernelIdeal.sig) → Buf (Elt Ideal) ℓ)

/-- What the padded result array holds at an index that is not padding. -/
def Holds (c : Dev nD) (i : S12x4224x1024.Idx) (v : EReal) : Prop :=
  ∀ (q : Fin 4112), (i 1).val = 112 + q.val → v = result (projAt m c) (fun h => sinksOf m c (ix1 h)) (i 0) q ⟨(i 2).val / 64, by have : (i 2).val < 1024 := (i 2).isLt; omega⟩ ⟨(i 2).val % 64, by omega⟩

theorem place (t : Fin cfg0.N) (z : Fin 1) (i : Fin 128) (l : Fin 1024) : (win0_13.blk t).view.emb (ix3 z i l) = ix3 (batch t) ⟨128 * (rowBlock t).val + i.val, by have := (rowBlock t).isLt; omega⟩ l := by
  have hr : (grid0.coords t 1).val < 33 := (rowBlock t).isLt
  unfold batch rowBlock
  blk_ext [idx13 t]

theorem point_holds (c : Dev nD) (hP : ∀ b t (l : Fin 1280), Real' (projAt m c b t ⟨l.val, by omega⟩)) (hS : ∀ h : Fin 16, Real' (sinksOf m c (ix1 h)))
    (t : Fin cfg0.N) (z : Fin 1) (i : Fin 128) (l : Fin 1024) : Holds m c ((win0_13.blk t).view.emb (ix3 z i l)) ((dats m 0 c).after 13 t (ix3 z i l)) := by
  rw [place t z i l]
  intro q hq
  obtain rfl : z = 0 := Subsingleton.elim _ _
  exact point_apply m c hP hS t i q hq l

theorem array_holds (c : Dev nD) (hP : ∀ b t (l : Fin 1280), Real' (projAt m c b t ⟨l.val, by omega⟩)) (hS : ∀ h : Fin 16, Real' (sinksOf m c (ix1 h)))
    (i : S12x4224x1024.Idx) : Holds m c i ((dats m 0 c).arrAt 13 cfg0.N i) := by
  refine (dats m 0 c).arrAt_forall_of_covers 13 (fun i v => Holds m c i v) (by decide +kernel) (fun t hf y => ?_) i
  blk_simp
  have hy : y = ix3 (n0 := 1) (n1 := 128) (n2 := 1024) (y 0) (y 1) (y 2) := eq_ix3 (n0 := 1) (n1 := 128) (n2 := 1024) y
  rw [hy]
  exact point_holds m c hP hS t (y 0) (y 1) (y 2)

/-- The result's element. -/
theorem tail_apply (c : Dev nD) (b : Fin 12) (t : Fin 4112) (l : Fin 1024) :
    afterTail₀ cfgs (dats m) 0 (V0 m) [hostOps1] c main_v50 (ix3 b t l) = (dats m 0 c).arrAt 13 cfg0.N (ix3 b ⟨112 + t.val, by omega⟩ l) := by
  unfold afterTail₀
  simp only [List.flatten_cons, List.flatten_nil, List.append_nil]
  after_results
  refine (congrArg (fun a => extractStridedSlice S12x4112x1024 ![0, 112, 0] a slices_S12x4224x1024_S12x4112x1024_0_112_0 (ix3 b t l))
    ((dats m 0 c).withArrays_arrAt sharedIn0 (V0 m c) (A_eq m c) 13)).trans ?_
  pointwise
end Cert.Attn
-- ==== Proof.Ref.lean ====
/- The reference at an element: it is the layer's attention there. -/
module
public import proofs.«01_k».proof.Proof.Spec
public import proofs.«01_k».proof.Proof.Words
public import proofs.«01_k».proof.Proof.Gen.ReferenceIdeal.Read
public import Idealize.ShloMosaic.Lib.Pointwise
@[expose] public section
set_option maxRecDepth 16384
noncomputable section
namespace Cert.Attn
open Idealize.ShloMosaic Cert.ReferenceIdeal Cert.ReferenceIdeal.Gen Cert.ReferenceIdeal.Read
variable (P : Vec Ideal S12x4112x8704 .f32) (S : Vec Ideal S16 .f32)

/-- The two arguments by coordinates. -/
def pOf : Fin 12 → Fin 4112 → Fin 8704 → EReal := fun b t l => P (ix3 b t l)
def sOf : Fin 16 → EReal := fun h => S (ix1 h)

theorem angle_q (t : Fin 4112) (f : Fin 8) : val_main_v18 (F := Ideal) (ix2 t f) = angle t.val f.val := by
  pointwise [val_main_v18, val_main_v17, val_main_v16, val_main_v15, val_main_v14, val_main_v13, val_main_v12, val_main_v11, val_main_v10, val_main_v9, val_main_v8, val_main_v7, val_main_v6, val_main_v5, val_main_v0]
  rfl

theorem angle_k (t : Fin 4112) (f : Fin 8) : val_main_v54 (F := Ideal) (ix2 t f) = angle t.val f.val := by
  pointwise [val_main_v54, val_main_v53, val_main_v52, val_main_v51, val_main_v50, val_main_v49, val_main_v48, val_main_v47, val_main_v46, val_main_v45, val_main_v44, val_main_v43, val_main_v42, val_main_v41, val_main_v0]
  rfl

theorem rot_q (b : Fin 12) (t : Fin 4112) (h : Fin 16) (d : Fin 64) : val_main_v38 (F := Ideal) P (ix4 b t h d) = rot (qRow (pOf P) b t h) t d := by
  unfold val_main_v38
  pointwise
  unfold val_main_v36
  pointwise [val_main_v37, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v4, val_main_v1]
  simp only [angle_q]
  unfold rot qRow pOf
  by_cases h8 : d.val < 8
  · rw [dif_pos (by omega), dif_pos h8, dif_pos h8]
    simp only [mul_comm h.val 64, Nat.add_comm 8 d.val]
  · by_cases h16 : d.val < 16
    · rw [dif_pos h16, dif_neg h8, dif_neg h8, dif_pos h16]
      have e : 8 + (d.val - 8) = d.val := by omega
      simp only [mul_comm h.val 64, e]
    · rw [dif_neg h16, dif_neg h8, dif_neg h16]
      have e : 16 + (d.val - 16) = d.val := by omega
      simp only [mul_comm h.val 64, e]

theorem rot_k (b : Fin 12) (t : Fin 4112) (g : Fin 4) (d : Fin 64) : val_main_v74 (F := Ideal) P (ix4 b t g d) = rot (kRow (pOf P) b t g) t d := by
  unfold val_main_v74
  pointwise
  unfold val_main_v72
  pointwise [val_main_v73, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v40, val_main_v2]
  simp only [angle_k]
  unfold rot kRow pOf
  by_cases h8 : d.val < 8
  · rw [dif_pos (by omega), dif_pos h8, dif_pos h8]
    simp only [mul_comm g.val 64, Nat.add_comm 8 d.val]
  · by_cases h16 : d.val < 16
    · rw [dif_pos h16, dif_neg h8, dif_neg h8, dif_pos h16]
      have e : 8 + (d.val - 8) = d.val := by omega
      simp only [mul_comm g.val 64, e]
    · rw [dif_neg h16, dif_neg h8, dif_neg h16]
      have e : 16 + (d.val - 16) = d.val := by omega
      simp only [mul_comm g.val 64, e]

theorem value_ref (b : Fin 12) (t : Fin 4112) (g : Fin 4) (d : Fin 64) : val_main_v75 (F := Ideal) P (ix4 b t g d) = vRow (pOf P) b t g d := by
  pointwise [val_main_v75, val_main_v3]
  simp only [mul_comm g.val 64]
  rfl

theorem query_ref (b : Fin 12) (t : Fin 4112) (g n : Fin 4) (d : Fin 64) :
    val_main_v39 (F := Ideal) P (ix5 b t g n d) = rot (qRow (pOf P) b t ⟨4 * g.val + n.val, by omega⟩) t d := by
  rw [← rot_q P]
  unfold val_main_v39
  generalize val_main_v38 (F := Ideal) P = A
  pointwise
  simp only [mul_comm g.val 4]

theorem score_ref (b : Fin 12) (g n : Fin 4) (t t' : Fin 4112) :
    val_main_v79 (F := Ideal) P (ix5 b g n t t') = score (pOf P) b ⟨4 * g.val + n.val, by omega⟩ t t' := by
  have e : (⟨(4 * g.val + n.val) / 4, by omega⟩ : Fin 4) = g := Fin.ext (by simp only; omega)
  unfold val_main_v79
  have hd : val_main_v77 (F := Ideal) P (ix5 b g n t t') = ∑ x : Fin 64, val_main_v74 (F := Ideal) P (ix4 b t' g x) * val_main_v39 (F := Ideal) P (ix5 b t g n x) := by
    unfold val_main_v77 val_main_v76
    generalize val_main_v74 (F := Ideal) P = A
    generalize val_main_v39 (F := Ideal) P = B
    pointwise
  have hc : val_main_v78 (F := Ideal) (ix5 b g n t t') = Ideal.ofBits .f32 0x3E000000#32 := by
    pointwise [val_main_v78]
    rfl
  show val_main_v77 (F := Ideal) P (ix5 b g n t t') * val_main_v78 (F := Ideal) (ix5 b g n t t') = _
  rw [hd, hc]
  unfold score
  congr 1
  refine Finset.sum_congr rfl fun x _ => ?_
  rw [rot_k, query_ref]
  simp only [e]

theorem ori_one (a b : BitVec 1) : IntOp.ori a b = 1#1 ↔ a = 1#1 ∨ b = 1#1 := by
  revert a b; decide

theorem slt_small (n : ℕ) (h : n < 100000) : IntOp.cmpi CmpIPredicate.slt (BitVec.ofNat 32 n) 16#32 = 1#1 ↔ n < 16 := by
  have h16 : (16#32 : BitVec 32).toInt = 16 := by decide
  simp only [IntOp.cmpi, BitVec.slt, toInt_small n h, h16]
  by_cases hn : n < 16
  · have : (n : ℤ) < 16 := by omega
    simp [hn, this]
  · have : ¬ (n : ℤ) < 16 := by omega
    simp [hn, this]

theorem near_ref (t t' : Fin 4112) : val_main_v92 (F := Ideal) (ix2 t t') = 1#1 ↔ near t t' := by
  pointwise [val_main_v92, val_main_v91, val_main_v90, val_main_v89, val_main_v88, val_main_v87, val_main_v86, val_main_v85, val_main_v84, val_main_v83, val_main_v82, val_main_v81, val_main_v80, val_main_v0]
  rw [ori_one]
  unfold near
  refine or_congr (slt_small t'.val (by omega)) ?_
  refine (near_iff _ ((t'.val : ℤ) - t.val) ?_ (by omega)).trans (by omega)
  exact toInt_sub_small _ _ _ _ (toInt_small _ (by omega)) (toInt_small _ (by omega)) (by omega) (by omega)

theorem neg_inf : Ideal.ofBits .f32 0xFF800000#32 = ⊥ := by
  simp [Ideal.ofBits, Ideal.ieee]

/-- The masked scores of one row. -/
def seenScore (b : Fin 12) (g n : Fin 4) (t t' : Fin 4112) : EReal :=
  if near t t' then score (pOf P) b ⟨4 * g.val + n.val, by omega⟩ t t' else ⊥

theorem masked_ref (b : Fin 12) (g n : Fin 4) (t t' : Fin 4112) : val_main_v93 (F := Ideal) P (ix5 b g n t t') = seenScore P b g n t t' := by
  unfold val_main_v93 val_main_call0_v1 val_main_call0_v2
  have hs := score_ref P b g n t t'
  have hn := near_ref t t'
  generalize val_main_v79 (F := Ideal) P = A at hs
  generalize val_main_v92 (F := Ideal) = M at hn
  have hb : val_main_call0_v0 (F := Ideal) ix0 = ⊥ := neg_inf
  generalize val_main_call0_v0 (F := Ideal) = Z at hb
  pointwise
  rw [hs, hb]
  unfold seenScore
  by_cases h : near t t'
  · rw [if_pos h, hn.mpr h]
    rfl
  · rw [if_neg h]
    have : M (ix2 t t') ≠ 1#1 := fun e => h (hn.mp e)
    show (if M (ix2 t t') = 1#1 then _ else _) = _
    rw [if_neg this]

theorem max_last (A : FVec Ideal S12x4x4x4112x4112 .f32) (z : FVec Ideal S_ .f32) (b : Fin 12) (g n : Fin 4) (t : Fin 4112) (f : Fin 4112 → EReal)
    (hz : z (Shape.Idx.first h_S_) = (⊥ : EReal)) (hf : ∀ x, A (ix5 b g n t x) = f x) :
    Host.reduce FloatOps.maximumf A z reducesTo_S12x4x4x4112x4112_S12x4x4x4112_d4 h_S_ (ix4 b g n t) = (Finset.univ.sup f : EReal) := by
  pointwise
  simp only [hz, hf]
  exact Finset.sup_def.symm

theorem add_last (A : FVec Ideal S12x4x4x4112x4112 .f32) (z : FVec Ideal S_ .f32) (b : Fin 12) (g n : Fin 4) (t : Fin 4112) :
    Host.reduceAdd A z reducesTo_S12x4x4x4112x4112_S12x4x4x4112_d4 h_S_ (ix4 b g n t)
      = z (Shape.Idx.first h_S_) + ∑ x : Fin 4112, A (ix5 b g n t x) := by
  pointwise

theorem sink_ref (b : Fin 12) (g n : Fin 4) (t : Fin 4112) :
    val_main_v99 (F := Ideal) S (ix5 b g n t 0) = sOf S ⟨4 * g.val + n.val, by omega⟩ := by
  pointwise [val_main_v99, val_main_v98, val_main_v95, val_main_v94]
  simp only [mul_comm g.val 4]
  rfl

theorem sink_ref' (b : Fin 12) (g n : Fin 4) (t : Fin 4112) :
    val_main_v107 (F := Ideal) S (ix5 b g n t 0) = sOf S ⟨4 * g.val + n.val, by omega⟩ := by
  pointwise [val_main_v107, val_main_v106, val_main_v95, val_main_v94]
  simp only [mul_comm g.val 4]
  rfl

theorem max_ref (b : Fin 12) (g n : Fin 4) (t : Fin 4112) : val_main_v96 (F := Ideal) P (ix4 b g n t) = (Finset.univ.sup (seenScore P b g n t) : EReal) := by
  unfold val_main_v96
  have hm := fun x => masked_ref P b g n t x
  generalize val_main_v93 (F := Ideal) P = A at hm
  exact max_last A _ b g n t _ neg_inf hm

theorem max_ref' (b : Fin 12) (g n : Fin 4) (t : Fin 4112) : val_main_v97 (F := Ideal) P (ix5 b g n t 0) = (Finset.univ.sup (seenScore P b g n t) : EReal) := by
  have h := max_ref P b g n t
  unfold val_main_v97
  generalize val_main_v96 (F := Ideal) P = A at h
  generalize Finset.univ.sup (seenScore P b g n t) = w at h ⊢
  pointwise
  exact h

theorem max_word (a c : EReal) : FloatOps.maximumf (F := Ideal) (φ := .f32) a c = max a c := rfl

theorem peak_ref (b : Fin 12) (g n : Fin 4) (t : Fin 4112) :
    val_main_v100 (F := Ideal) P S (ix5 b g n t 0) = peak (seenScore P b g n t) (sOf S ⟨4 * g.val + n.val, by omega⟩) :=
  (val_main_v100_apply (F := Ideal) P S (ix5 b g n t 0)).trans
    ((congrArg₂ (FloatOps.maximumf (F := Ideal) (φ := .f32)) (max_ref' P b g n t) (sink_ref S b g n t)).trans
      ((max_word _ _).trans (peak_eq_sup _ _).symm))

theorem exp_ref (b : Fin 12) (g n : Fin 4) (t t' : Fin 4112) :
    val_main_v103 (F := Ideal) P S (ix5 b g n t t') =
      Ideal.exp (seenScore P b g n t t' - peak (seenScore P b g n t) (sOf S ⟨4 * g.val + n.val, by omega⟩)) := by
  unfold val_main_v103 val_main_v102 val_main_v101
  have h1 := masked_ref P b g n t t'
  have h2 := peak_ref P S b g n t
  generalize val_main_v93 (F := Ideal) P = A at h1
  generalize val_main_v100 (F := Ideal) P S = B at h2
  pointwise
  rw [h1, h2]

theorem mass_ref (b : Fin 12) (g n : Fin 4) (t : Fin 4112) :
    val_main_v110 (F := Ideal) P S (ix5 b g n t 0) = mass (seenScore P b g n t) (sOf S ⟨4 * g.val + n.val, by omega⟩) := by
  have h1 : val_main_v105 (F := Ideal) P S (ix5 b g n t 0) =
      ∑ x : Fin 4112, Ideal.exp (seenScore P b g n t x - peak (seenScore P b g n t) (sOf S ⟨4 * g.val + n.val, by omega⟩)) := by
    have h : val_main_v104 (F := Ideal) P S (ix4 b g n t) =
        ∑ x : Fin 4112, Ideal.exp (seenScore P b g n t x - peak (seenScore P b g n t) (sOf S ⟨4 * g.val + n.val, by omega⟩)) := by
      unfold val_main_v104
      have hm := fun x => exp_ref P S b g n t x
      generalize val_main_v103 (F := Ideal) P S = A at hm
      rw [add_last]
      have hz : val_main_cst_9 (F := Ideal) (Shape.Idx.first h_S_) = 0 := Ideal.ofBits_zero_f32
      rw [hz, zero_add]
      exact Finset.sum_congr rfl fun x _ => hm x
    unfold val_main_v105
    generalize val_main_v104 (F := Ideal) P S = A at h
    pointwise
    exact h
  have h2 := sink_ref' S b g n t
  have h3 := peak_ref P S b g n t
  unfold val_main_v110 val_main_v109 val_main_v108
  generalize val_main_v105 (F := Ideal) P S = A at h1
  generalize val_main_v107 (F := Ideal) S = B at h2
  generalize val_main_v100 (F := Ideal) P S = C at h3
  pointwise
  rw [h1, h2, h3]
  rfl

theorem weight_ref (b : Fin 12) (g n : Fin 4) (t t' : Fin 4112) :
    val_main_v112 (F := Ideal) P S (ix5 b g n t t') =
      Ideal.div (Ideal.exp (seenScore P b g n t t' - peak (seenScore P b g n t) (sOf S ⟨4 * g.val + n.val, by omega⟩)))
        (mass (seenScore P b g n t) (sOf S ⟨4 * g.val + n.val, by omega⟩)) := by
  unfold val_main_v112 val_main_v111
  have h1 := exp_ref P S b g n t t'
  have h2 := mass_ref P S b g n t
  generalize val_main_v103 (F := Ideal) P S = A at h1
  generalize val_main_v110 (F := Ideal) P S = B at h2
  pointwise
  rw [h1, h2]

/-- The reference's result. -/
theorem ref_apply (b : Fin 12) (t : Fin 4112) (l : Fin 1024) :
    val_main_v116 (F := Ideal) P S (ix3 b t l) = result (pOf P) (sOf S) b t ⟨l.val / 64, by omega⟩ ⟨l.val % 64, by omega⟩ := by
  have hd : val_main_v116 (F := Ideal) P S (ix3 b t l) =
      ∑ x : Fin 4112, val_main_v75 (F := Ideal) P (ix4 b x ⟨l.val / 256, by omega⟩ ⟨l.val % 64, by omega⟩) *
        val_main_v112 (F := Ideal) P S (ix5 b ⟨l.val / 256, by omega⟩ ⟨l.val / 64 % 4, by omega⟩ t x) := by
    unfold val_main_v116 val_main_v115 val_main_v114 val_main_v113
    generalize val_main_v75 (F := Ideal) P = A
    generalize val_main_v112 (F := Ideal) P S = B
    pointwise
  rw [hd]
  have e : (⟨4 * (l.val / 256) + l.val / 64 % 4, by omega⟩ : Fin 16) = ⟨l.val / 64, by omega⟩ := Fin.ext (by simp only; omega)
  have e' : l.val / 64 / 4 = l.val / 256 := by omega
  unfold result attend
  refine Finset.sum_congr rfl fun x _ => ?_
  rw [value_ref, weight_ref, mul_comm]
  unfold seenScore
  simp only [e, e']

end Cert.Attn
-- ==== Proof.Equation.lean ====
/- The kernel's and the reference's runs end with the same result. -/
module
public import proofs.«01_k».proof.Defs
public import proofs.«01_k».proof.Proof.Arrays
public import proofs.«01_k».proof.Proof.Ref
public import proofs.«01_k».proof.Proof.Gen.ReferenceIdeal.Run
public import proofs.«01_k».proof.Proof.Gen.Pre_finite
public import proofs.«01_k».proof.Proof.Gen.Kernel.Frame
public import Idealize.ShloMosaic.Lib.Pointwise
public import Idealize.ShloMosaic.Lib.Quiescent
@[expose] public section
set_option maxRecDepth 16384
noncomputable section
namespace Cert.Attn
open Idealize.ShloMosaic Cert.KernelIdeal Cert.KernelIdeal.Gen Idealize.ShloMosaic.Pipeline
open Idealize.SL.Sem Idealize.ShloMosaic.TcCoe
variable (m : (ℓ : Loc nD Cert.KernelIdeal.τ Cert.KernelIdeal.sig) → Buf (Elt Ideal) ℓ)

/-! ## What the precondition says -/

theorem inf_top : Ideal.ofBits .f32 0x7F800000#32 = ⊤ := by
  simp [Ideal.ofBits, Ideal.ieee, -EReal.coe_mul]

/-- Of absolute value below infinity: a real number. -/
theorem real_of_abs (x : EReal) (h : BitVec.ofBool (decide (FloatOps.absf (F := Ideal) (φ := .f32) x < Ideal.ofBits .f32 0x7F800000#32)) = 1#1) : Real' x := by
  rw [inf_top] at h
  have h' : FloatOps.absf (F := Ideal) (φ := .f32) x < (⊤ : EReal) := by
    by_contra hn
    simp [hn] at h
  have h2 : max x (-x) < (⊤ : EReal) := h'
  rw [max_lt_iff] at h2
  induction x using EReal.rec with
  | bot => simp at h2
  | top => simp at h2
  | coe r => exact ⟨r, rfl⟩

theorem real_proj (x0 : FVec Ideal Pre_finite.S12x4112x8704 .f32) (x1 : FVec Ideal Pre_finite.S16 .f32)
    (h : (Cert.Pre_finite.fn (F := Ideal) x0 x1).1 = fun _ => 1#1) (b : Fin 12) (t : Fin 4112) (l : Fin 1280) : Real' (x0 (ix3 b t ⟨l.val, by omega⟩)) := by
  have h := congrFun h (ix3 b t l)
  unfold Cert.Pre_finite.fn at h
  pointwise at h
  exact real_of_abs _ h

theorem real_sink (x0 : FVec Ideal Pre_finite.S12x4112x8704 .f32) (x1 : FVec Ideal Pre_finite.S16 .f32)
    (h : (Cert.Pre_finite.fn (F := Ideal) x0 x1).2 = fun _ => 1#1) (n : Fin 16) : Real' (x1 (ix1 n)) := by
  have h := congrFun h (ix1 n)
  unfold Cert.Pre_finite.fn at h
  pointwise at h
  exact real_of_abs _ h

/-! ## The result -/

/-- The kernel's result is the reference's of the same arguments. -/
theorem results_eq (hpre : Cert.Pre_KernelIdeal_finite m) (c : Dev nD) :
    (afterTail₀ cfgs (dats m) 0 (V0 m) [hostOps1] c main_v50 : S12x4112x1024.Idx → EReal) =
      Cert.ReferenceIdeal.Read.val_main_v116 (F := Ideal) (projOf m c) (sinksOf m c) := by
  funext i
  rw [eq_ix3 i]
  refine (tail_apply m c _ _ _).trans ?_
  refine Eq.trans ?_ (ref_apply (projOf m c) (sinksOf m c) _ _ _).symm
  exact array_holds m c (real_proj _ _ (hpre c).1) (real_sink _ _ (hpre c).2) _ _ rfl

theorem kernel_run (g : Dev nD → PrngReg) (hpre : Cert.Pre_KernelIdeal_finite m) :
    θ_run (Cert.KernelIdeal.defs (F := Ideal)) (onTc (τ := Cert.KernelIdeal.τ) (Cert.KernelIdeal.main (F := Ideal))) ⟨m, fun _ => 0, g⟩ (fun r => ∀ c : Dev nD,
      r.2.mem ((c.tc : Thread nD Cert.KernelIdeal.τ).loc main_v50) = Cert.ReferenceIdeal.Read.val_main_v116 (F := Ideal) (projOf m c) (sinksOf m c)
      ∧ r.2.mem ((c.tc : Thread nD Cert.KernelIdeal.τ).loc main_arg0) = m ((c.tc : Thread nD Cert.KernelIdeal.τ).loc main_arg0)
      ∧ r.2.mem ((c.tc : Thread nD Cert.KernelIdeal.τ).loc main_arg1) = m ((c.tc : Thread nD Cert.KernelIdeal.τ).loc main_arg1)) :=
  (θ_run _ _ _).mono (fun _ h c => ⟨((h.1 c).2 main_v50 (by decide)).trans (results_eq m hpre c), h.2 c⟩)
    (θ_run_and (run_main m g) (unchanged m g))

theorem algebraic : Cert.algebraic_KernelIdeal_ReferenceIdeal_pre_finite := by
  intro m g m' g' hpre hagree
  refine ⟨_, kernel_run m g hpre, ?_⟩
  refine (θ_run Cert.ReferenceIdeal.defs _ _).mono (fun _ h c => ⟨(h c).1.trans ?_, (h c).2⟩) (Cert.ReferenceIdeal.Value.run (F := Ideal) m' g')
  refine (Cert.ReferenceIdeal.Read.val_main_v116_eq m' c).trans ?_
  rw [(hagree c).1, (hagree c).2]

/-! ## The frames -/

theorem reference_frame (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, sem_eq_zero_of_no_sems (by decide) r.2⟩) (Cert.ReferenceIdeal.Value.run (F := Ideal) m ρ)
end Cert.Attn
-- ==== Proof.Norm.lean ====
/- Root-mean-square scaling of a row, shared by the projection, the merge and the last norm. -/
module
public import Idealize.ShloMosaic.Lib.Pointwise
@[expose] public section
noncomputable section
namespace Cert.Norm
open Idealize.ShloMosaic

/-- An element of a row scaled to unit mean square, then by its gain. The mean's divisor and the small term are the words the programs spell. -/
def scaled {n : ℕ} (len : BitVec 32) (x g : Fin n → EReal) (k : Fin n) : EReal :=
  x k * Ideal.rsqrt (Ideal.div (∑ j : Fin n, x j * x j) (Ideal.ofBits .f32 len) + Ideal.ofBits .f32 0x358637BD#32) * g k
end Cert.Norm
-- ==== Proof.Inproj.lean ====
/- The input projection: the kernel's result is the reference's, element by element. -/
module
public import proofs.«01_k».proof.Defs
public import proofs.«01_k».proof.Proof.Norm
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.StableHlo.RunRead
public import Idealize.ShloMosaic.Lib.Quiescent
@[expose] public section
set_option maxRecDepth 16384
noncomputable section
namespace Cert.Inproj
open Idealize.ShloMosaic Cert.Kernel2Ideal Cert.Kernel2Ideal.Gen Idealize.ShloMosaic.Pipeline
open Idealize.SL.Sem Idealize.ShloMosaic.TcCoe
open Cert.Norm
variable (m : (ℓ : Loc nD Cert.Kernel2Ideal.τ Cert.Kernel2Ideal.sig) → Buf (Elt Ideal) ℓ)

/-- The projection of row `p` at column `j`. -/
def proj (x : S50688x1024.Idx → EReal) (g : S1024.Idx → EReal) (w : S1024x8704.Idx → EReal) (p : Fin 50688) (j : Fin 8704) : EReal :=
  ∑ k : Fin 1024, scaled 0x44800000#32 (fun k => x (ix2 p k)) (fun k => g (ix1 k)) k * w (ix2 k j)

theorem pay_apply (x : Vec Ideal S512x1024 .f32) (g : Vec Ideal S1x1024 .f32) (w : Vec Ideal S1024x2176 .bf16) (i : Fin 512) (j : Fin 2176) :
    k0_pay1 x g w (ix2 i j) = ∑ k : Fin 1024, scaled 0x44800000#32 (fun k => x (ix2 i k)) (fun k => g (ix2 0 k)) k * w (ix2 k j) := by
  pointwise [k0_pay1]
  rfl

theorem ref_apply (x : S50688x1024.Idx → EReal) (g : S1024.Idx → EReal) (w : S1024x8704.Idx → EReal) (p : Fin 50688) (j : Fin 8704) :
    Cert.Reference2Ideal.Read.val_main_v13 (F := Ideal) x g w (ix2 p j) = proj x g w p j := by
  open Cert.Reference2Ideal.Read in
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem idx0 : ∀ t, win0_0.index t = ![(grid0.coords t 1).val, 0] := by decide +kernel
theorem idx1 : ∀ t, win0_1.index t = ![0, 0] := by decide +kernel
theorem idx2 : ∀ t, win0_2.index t = ![0, (grid0.coords t 0).val] := by decide +kernel
theorem idx3 : ∀ t, win0_3.index t = ![(grid0.coords t 1).val, (grid0.coords t 0).val] := by decide +kernel

/-- The row block and the column block of a grid point. -/
abbrev rowBlock (t : Fin cfg0.N) : Fin 99 := grid0.coords t 1
abbrev colBlock (t : Fin cfg0.N) : Fin 4 := grid0.coords t 0

theorem block0 (c : Dev nD) (t : Fin cfg0.N) (i : Fin 512) (k : Fin 1024) :
    iblk m c 0 t (ix2 i k) = V m c main_arg0 (ix2 ⟨512 * (rowBlock t).val + i.val, by omega⟩ k) := by
  have hr : (grid0.coords t 1).val < 99 := (rowBlock t).isLt
  unfold rowBlock
  blk_ext [iblk, V, idx0 t]
theorem block1 (c : Dev nD) (t : Fin cfg0.N) (z : Fin 1) (k : Fin 1024) :
    iblk m c 1 t (ix2 z k) = V m c main_v0 (ix2 z k) := by
  blk_ext [iblk, V, idx1 t]
theorem block2 (c : Dev nD) (t : Fin cfg0.N) (k : Fin 1024) (j : Fin 2176) :
    iblk m c 2 t (ix2 k j) = V m c main_v1 (ix2 k ⟨2176 * (colBlock t).val + j.val, by omega⟩) := by
  have hr : (grid0.coords t 0).val < 4 := (colBlock t).isLt
  unfold colBlock
  blk_ext [iblk, V, idx2 t]
theorem place (t : Fin cfg0.N) (i : Fin 512) (j : Fin 2176) :
    (win0_3.blk t).view.emb (ix2 i j) = ix2 ⟨512 * (rowBlock t).val + i.val, by omega⟩ ⟨2176 * (colBlock t).val + j.val, by omega⟩ := by
  have hr : (grid0.coords t 1).val < 99 := (rowBlock t).isLt
  have hc : (grid0.coords t 0).val < 4 := (colBlock t).isLt
  unfold rowBlock colBlock
  blk_ext [idx3 t]

theorem gain (c : Dev nD) (k : Fin 1024) : V m c main_v0 (ix2 0 k) = m ((c : Thread nD τ).loc main_arg1) (ix1 k) := by
  unfold_abbrev_sides
  after_reads_simp
  pointwise
theorem weight (c : Dev nD) (k : Fin 1024) (j : Fin 8704) : V m c main_v1 (ix2 k j) = m ((c : Thread nD τ).loc main_arg2) (ix2 k j) := by
  unfold_abbrev_sides
  after_reads_simp
  pointwise

theorem point_apply (c : Dev nD) (t : Fin cfg0.N) (i : Fin 512) (j : Fin 2176) :
    (dats m 0 c).after 3 t (ix2 i j) = proj (m ((c : Thread nD τ).loc main_arg0)) (m ((c : Thread nD τ).loc main_arg1)) (m ((c : Thread nD τ).loc main_arg2))
      ⟨512 * (rowBlock t).val + i.val, by omega⟩ ⟨2176 * (colBlock t).val + j.val, by omega⟩ := by
  rw [after0_3]
  unfold out0_3
  frame_out
  refine (pay_apply _ _ _ i j).trans ?_
  unfold proj
  simp only [block0, block1, block2]
  exact Finset.sum_congr rfl fun k _ => congrArg₂ (· * ·)
    (congrArg₂ (fun x g => scaled 0x44800000#32 x g k) (funext fun _ => congrFun (V_main_arg0 m c) _) (funext fun j => gain m c j)) (weight m c k _)

theorem array_eq (c : Dev nD) : (dats m 0 c).arrAt 3 cfg0.N = Cert.Reference2Ideal.Read.val_main_v13 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have hy : y = ix2 (n0 := 512) (n1 := 2176) (y 0) (y 1) := eq_ix2 (n0 := 512) (n1 := 2176) y
  rw [hy]
  refine (point_apply m c t (y 0) (y 1)).trans ?_
  rw [← ref_apply]
  exact congrArg _ (place t (y 0) (y 1)).symm
theorem kernel_run (g : Dev nD → PrngReg) :
    θ_run (Cert.Kernel2Ideal.defs (F := Ideal)) (onTc (τ := Cert.Kernel2Ideal.τ) (Cert.Kernel2Ideal.main (F := Ideal))) ⟨m, fun _ => 0, g⟩ (fun r => ∀ c : Dev nD,
      r.2.mem ((c.tc : Thread nD Cert.Kernel2Ideal.τ).loc main_v2) = Cert.Reference2Ideal.Read.val_main_v13 (F := Ideal) (m ((c : Thread nD τ).loc main_arg0)) (m ((c : Thread nD τ).loc main_arg1)) (m ((c : Thread nD τ).loc main_arg2))
      ∧ r.2.mem ((c.tc : Thread nD Cert.Kernel2Ideal.τ).loc main_arg0) = m ((c.tc : Thread nD Cert.Kernel2Ideal.τ).loc main_arg0)
      ∧ r.2.mem ((c.tc : Thread nD Cert.Kernel2Ideal.τ).loc main_arg1) = m ((c.tc : Thread nD Cert.Kernel2Ideal.τ).loc main_arg1)
      ∧ r.2.mem ((c.tc : Thread nD Cert.Kernel2Ideal.τ).loc main_arg2) = m ((c.tc : Thread nD Cert.Kernel2Ideal.τ).loc main_arg2)) :=
  (θ_run _ _ _).mono (fun _ h c => ⟨(h c).1.trans (array_eq m c), (h c).2⟩) (Cert.Kernel2Ideal.Value.run_blocks m g)

theorem algebraic : Cert.algebraic_Kernel2Ideal_Reference2Ideal := by
  intro m g m' g' _ hagree
  refine ⟨_, kernel_run m g, ?_⟩
  refine (θ_run Cert.Reference2Ideal.defs _ _).mono (fun _ h c => ⟨(h c).1.trans ?_, (h c).2⟩) (Cert.Reference2Ideal.Value.run (F := Ideal) m' g')
  refine (Cert.Reference2Ideal.Read.val_main_v13_eq _ _ _).trans ?_
  rw [(hagree c).1, (hagree c).2.1, (hagree c).2.2]

theorem reference_frame (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0) :=
  (θ_run Cert.Reference2Ideal.defs _ _).mono (fun r h => ⟨fun c => (h c).2, sem_eq_zero_of_no_sems (by decide) r.2⟩) (Cert.Reference2Ideal.Value.run (F := Ideal) m ρ)
end Cert.Inproj
-- ==== Proof.MergeBody.lean ====
/- The merge's arithmetic: one row of the kernel's block, from the rows it reads. -/
module
public import proofs.«01_k».proof.Proof.Norm
public import proofs.«01_k».proof.Proof.Gen.Kernel3Ideal.Skeleton
public import Idealize.ShloMosaic.Lib.Tactic.IndexArith
@[expose] public section
set_option maxRecDepth 16384
noncomputable section
namespace Cert.Merge
open Idealize.ShloMosaic Cert.Kernel3Ideal Cert.Kernel3Ideal.Gen
open Cert.Norm

/-- The head of a column and the place in it. -/
def headOf (l : Fin 1024) : Fin 8 := ⟨l.val / 128, by omega⟩
def laneOf (l : Fin 1024) : Fin 128 := ⟨l.val % 128, by omega⟩
def colOf (n : Fin 8) (e : Fin 128) : Fin 1024 := ⟨128 * n.val + e.val, by omega⟩
theorem colOf_split (l : Fin 1024) : l.val = 128 * (headOf l).val + (laneOf l).val := by
  simp only [headOf, laneOf]
  omega

/-- The state's read-out, scaled head by head and gated. -/
def gated (o g z : Fin 1024 → EReal) (l : Fin 1024) : EReal :=
  scaled 0x43000000#32 (fun e => o (colOf (headOf l) e)) (fun e => g (colOf (headOf l) e)) (laneOf l) * (z l * Ideal.logistic (z l))

/-- The two branches, each through its weight and its gate. -/
def merged (a o g z ga gh : Fin 1024 → EReal) (wa wh : Fin 1024 → Fin 1024 → EReal) (l : Fin 1024) : EReal :=
  Ideal.logistic (ga l) * ∑ k, a k * wa k l + Ideal.logistic (gh l) * ∑ k, gated o g z k * wh k l

/-- The row that leaves the merge. -/
def mergeRow (h a o g z ga gh : Fin 1024 → EReal) (wa wh wo : Fin 1024 → Fin 1024 → EReal) (l : Fin 1024) : EReal :=
  h l + ∑ k, merged a o g z ga gh wa wh k * wo k l

/-- One head of a block, scaled. -/
def headPiece (x : FVec Ideal S256x128 .f32) (g : FVec Ideal S1x128 .f32) : FVec Ideal S256x128 .f32 :=
  mulf (mulf x (broadcastTo S256x128 (rsqrt (addf (divf (shapeCast S256x1 (multiReduction .add [1] S256 (mulf x x) 0x00000000#32 reduces_S256x128_S256 (.inl rfl) rfl) shapeCasts_S256_S256x1)
    (broadcast S256x1 (Scalar.ofBits .f32 0x43000000#32))) (broadcast S256x1 (Scalar.ofBits .f32 0x358637BD#32)))) broadcasts_S256x1_S256x128)) (broadcastTo S256x128 g broadcasts_S1x128_S256x128)

theorem headPiece_apply (x : FVec Ideal S256x128 .f32) (g : FVec Ideal S1x128 .f32) (i : Fin 256) (e : Fin 128) :
    headPiece x g (ix2 i e) = scaled 0x43000000#32 (fun e => x (ix2 i e)) (fun e => g (ix2 0 e)) e := by
  pointwise [headPiece]
  rfl

/-- The one of eight that a number picks. -/
def pick {α : Type} (a0 a1 a2 a3 a4 a5 a6 a7 : α) (n : Fin 8) : α := ![a0, a1, a2, a3, a4, a5, a6, a7] n

theorem heads_apply {α : Type} (a0 a1 a2 a3 a4 a5 a6 a7 : S256x128.Idx → α) (i : Fin 256) (l : Fin 1024) (n : Fin 8) (e : Fin 128) (h : l.val = 128 * n.val + e.val) :
    concatenate S256x1024 1 [⟨S256x128, a0⟩, ⟨S256x128, a1⟩, ⟨S256x128, a2⟩, ⟨S256x128, a3⟩, ⟨S256x128, a4⟩, ⟨S256x128, a5⟩, ⟨S256x128, a6⟩, ⟨S256x128, a7⟩] concatenates_S256x128_S256x128_S256x128_S256x128_S256x128_S256x128_S256x128_S256x128_S256x1024_d1 (ix2 i l)
      = pick a0 a1 a2 a3 a4 a5 a6 a7 n (ix2 i e) := by
  obtain ⟨l, hl⟩ := l
  simp only at h
  subst h
  pointwise
  fin_vals n with hn
  all_goals simp only [hn, pick]
  all_goals (repeat rw [dif_neg (by omega)])
  all_goals (try rw [dif_pos (by omega)])
  all_goals (obtain ⟨n, hn'⟩ := n; simp only at hn; subst hn; exact congrArg _ (congrArg (ix2 i) (Fin.ext (by simp only; omega))))

/-- The columns of a head, cut out of a block and out of the gains. -/
theorem cut_apply {α : Type} (x : S256x1024.Idx → α) (n : Fin 8) (h : S256x1024.Slices ![0, 128 * n.val] S256x128) (i : Fin 256) (e : Fin 128) :
    extractStridedSlice S256x128 ![0, 128 * n.val] x h (ix2 i e) = x (ix2 i (colOf n e)) := by
  pointwise
  rfl
theorem cutGain_apply {α : Type} (x : S1x1024.Idx → α) (n : Fin 8) (h : S1x1024.Slices ![0, 128 * n.val] S1x128) (e : Fin 128) :
    extractStridedSlice S1x128 ![0, 128 * n.val] x h (ix2 0 e) = x (ix2 0 (colOf n e)) := by
  pointwise
  rfl

theorem cut_ok (n : Fin 8) : S256x1024.Slices ![0, 128 * n.val] S256x128 := by
  revert n
  decide
theorem cutGain_ok (n : Fin 8) : S1x1024.Slices ![0, 128 * n.val] S1x128 := by
  revert n
  decide

/-- A head's piece of the sum of the two directions. -/
def headOfSum (o : FVec Ideal S256x1024 .f32) (g : FVec Ideal S1x1024 .f32) (n : Fin 8) : FVec Ideal S256x128 .f32 :=
  headPiece (extractStridedSlice S256x128 ![0, 128 * n.val] o (cut_ok n)) (extractStridedSlice S1x128 ![0, 128 * n.val] g (cutGain_ok n))

theorem headOfSum_apply (o : FVec Ideal S256x1024 .f32) (g : FVec Ideal S1x1024 .f32) (n : Fin 8) (i : Fin 256) (e : Fin 128) :
    headOfSum o g n (ix2 i e) = scaled 0x43000000#32 (fun e => o (ix2 i (colOf n e))) (fun e => g (ix2 0 (colOf n e))) e := by
  refine (headPiece_apply _ _ i e).trans ?_
  simp only [cut_apply, cutGain_apply]

theorem pick_headOfSum (o : FVec Ideal S256x1024 .f32) (g : FVec Ideal S1x1024 .f32) (n : Fin 8) :
    pick (headOfSum o g 0) (headOfSum o g 1) (headOfSum o g 2) (headOfSum o g 3) (headOfSum o g 4) (headOfSum o g 5) (headOfSum o g 6) (headOfSum o g 7) n = headOfSum o g n := by
  fin_cases n <;> rfl

/-- The second branch's product with its weight. -/
theorem second_apply (o1 o2 : Vec Ideal S256x1024 .f32) (g : Vec Ideal S1x1024 .f32) (z : Vec Ideal S256x1024 .f32) (w : Vec Ideal S1024x1024 .bf16) (i : Fin 256) (l : Fin 1024) :
    k0_pay16 (k0_pay2 o1 o2) (k0_pay3 g) (k0_pay4 z) (k0_pay5 o1 o2 g) (k0_pay6 o1 o2 g) (k0_pay10 (k0_pay7 o1 o2) (k0_pay8 g) (k0_pay9 o1 o2) (Scalar.ofBits .f32 0x358637BD#32))
      (k0_pay11 (k0_pay2 o1 o2) (k0_pay3 g)) (k0_pay12 (k0_pay2 o1 o2) (k0_pay3 g)) (k0_pay13 (k0_pay2 o1 o2) (k0_pay3 g)) (k0_pay14 (k0_pay2 o1 o2)) (k0_pay15 (k0_pay3 g)) w (ix2 i l)
      = ∑ k : Fin 1024, gated (fun l => o1 (ix2 i l) + o2 (ix2 i l)) (fun l => g (ix2 0 l)) (fun l => z (ix2 i l)) k * w (ix2 k l) := by
  have hs : k0_pay16 (k0_pay2 o1 o2) (k0_pay3 g) (k0_pay4 z) (k0_pay5 o1 o2 g) (k0_pay6 o1 o2 g) (k0_pay10 (k0_pay7 o1 o2) (k0_pay8 g) (k0_pay9 o1 o2) (Scalar.ofBits .f32 0x358637BD#32))
      (k0_pay11 (k0_pay2 o1 o2) (k0_pay3 g)) (k0_pay12 (k0_pay2 o1 o2) (k0_pay3 g)) (k0_pay13 (k0_pay2 o1 o2) (k0_pay3 g)) (k0_pay14 (k0_pay2 o1 o2)) (k0_pay15 (k0_pay3 g)) w =
      matmul dot_S256x1024_S1024x1024_S256x1024_1_0_0_1_n_n none (truncf .bf16 (mulf (concatenate S256x1024 1 [⟨S256x128, headOfSum (k0_pay2 o1 o2) (k0_pay3 g) 0⟩, ⟨S256x128, headOfSum (k0_pay2 o1 o2) (k0_pay3 g) 1⟩, ⟨S256x128, headOfSum (k0_pay2 o1 o2) (k0_pay3 g) 2⟩, ⟨S256x128, headOfSum (k0_pay2 o1 o2) (k0_pay3 g) 3⟩, ⟨S256x128, headOfSum (k0_pay2 o1 o2) (k0_pay3 g) 4⟩, ⟨S256x128, headOfSum (k0_pay2 o1 o2) (k0_pay3 g) 5⟩, ⟨S256x128, headOfSum (k0_pay2 o1 o2) (k0_pay3 g) 6⟩, ⟨S256x128, headOfSum (k0_pay2 o1 o2) (k0_pay3 g) 7⟩] concatenates_S256x128_S256x128_S256x128_S256x128_S256x128_S256x128_S256x128_S256x128_S256x1024_d1)
        (mulf (k0_pay4 z) (logistic (k0_pay4 z)))) bitsLt_bf16_f32) (shapeCast S1024x1024 w shapeCasts_S1024x1024_S1024x1024) (constant S256x1024 .f32 0x00000000#32) := rfl
  rw [hs]
  have hc (k : Fin 1024) := heads_apply (headOfSum (k0_pay2 o1 o2) (k0_pay3 g) 0) (headOfSum (k0_pay2 o1 o2) (k0_pay3 g) 1) (headOfSum (k0_pay2 o1 o2) (k0_pay3 g) 2) (headOfSum (k0_pay2 o1 o2) (k0_pay3 g) 3) (headOfSum (k0_pay2 o1 o2) (k0_pay3 g) 4) (headOfSum (k0_pay2 o1 o2) (k0_pay3 g) 5) (headOfSum (k0_pay2 o1 o2) (k0_pay3 g) 6) (headOfSum (k0_pay2 o1 o2) (k0_pay3 g) 7) i k (headOf k) (laneOf k) (colOf_split k)
  simp only [pick_headOfSum, headOfSum_apply] at hc
  generalize concatenate S256x1024 1 [⟨S256x128, headOfSum (k0_pay2 o1 o2) (k0_pay3 g) 0⟩, ⟨S256x128, headOfSum (k0_pay2 o1 o2) (k0_pay3 g) 1⟩, ⟨S256x128, headOfSum (k0_pay2 o1 o2) (k0_pay3 g) 2⟩, ⟨S256x128, headOfSum (k0_pay2 o1 o2) (k0_pay3 g) 3⟩, ⟨S256x128, headOfSum (k0_pay2 o1 o2) (k0_pay3 g) 4⟩, ⟨S256x128, headOfSum (k0_pay2 o1 o2) (k0_pay3 g) 5⟩, ⟨S256x128, headOfSum (k0_pay2 o1 o2) (k0_pay3 g) 6⟩, ⟨S256x128, headOfSum (k0_pay2 o1 o2) (k0_pay3 g) 7⟩] concatenates_S256x128_S256x128_S256x128_S256x128_S256x128_S256x128_S256x128_S256x128_S256x1024_d1 = heads at hc
  pointwise [k0_pay4]
  simp only [hc]
  pointwise [k0_pay2, k0_pay3]
  rfl

/-- The first branch's product, gated. -/
theorem first_apply (a : Vec Ideal S256x1024 .bf16) (w : Vec Ideal S1024x1024 .bf16) (ga : Vec Ideal S256x1024 .f32) (i : Fin 256) (l : Fin 1024) :
    k0_pay17 a w ga (ix2 i l) = Ideal.logistic (ga (ix2 i l)) * ∑ k : Fin 1024, a (ix2 i k) * w (ix2 k l) := by
  pointwise [k0_pay17]

theorem last_apply (s f gh h : FVec Ideal S256x1024 .f32) (w : Vec Ideal S1024x1024 .bf16) (i : Fin 256) (l : Fin 1024) :
    k0_pay1 s f gh h w (ix2 i l) = h (ix2 i l) + ∑ k : Fin 1024, (f (ix2 i k) + Ideal.logistic (gh (ix2 i k)) * s (ix2 i k)) * w (ix2 k l) := by
  pointwise [k0_pay1]
end Cert.Merge
-- ==== Proof.MergeRef.lean ====
/- The merge's reference at an element. -/
module
public import proofs.«01_k».proof.Proof.MergeBody
public import proofs.«01_k».proof.Proof.Gen.Reference3Ideal.Read
@[expose] public section
set_option maxRecDepth 16384
noncomputable section
namespace Cert.Merge
open Idealize.ShloMosaic Cert.Kernel3Ideal Cert.Kernel3Ideal.Gen
open Cert.Norm

/-! ## The reference -/

theorem gated_eq (o g z : Fin 1024 → EReal) (l : Fin 1024) :
    gated o g z l = o l * Ideal.rsqrt (Ideal.div (∑ e : Fin 128, o ⟨l.val / 128 * 128 + e.val, by omega⟩ * o ⟨l.val / 128 * 128 + e.val, by omega⟩) (Ideal.ofBits .f32 0x43000000#32)
      + Ideal.ofBits .f32 0x358637BD#32) * g l * (z l * Ideal.div 1 (1 + Ideal.exp (-z l))) := by
  have hl : colOf (headOf l) (laneOf l) = l := Fin.ext (colOf_split l).symm
  unfold gated scaled
  simp only [hl]
  simp only [colOf, headOf, mul_comm 128]
  rfl

theorem ref_apply (a : S50688x1024.Idx → EReal) (o1 o2 : S50688x1024.Idx → EReal) (g : S1024.Idx → EReal) (P : S50688x8704.Idx → EReal) (h : S50688x1024.Idx → EReal)
    (wa wh wo : S1024x1024.Idx → EReal) (p : Fin 50688) (l : Fin 1024) :
    Cert.Reference3Ideal.Read.val_main_v41 (F := Ideal) a o1 o2 g P h wa wh wo (ix2 p l) =
      mergeRow (fun l => h (ix2 p l)) (fun l => a (ix2 p l)) (fun l => o1 (ix2 p l) + o2 (ix2 p l)) (fun l => g (ix1 l)) (fun l => P (ix2 p ⟨5632 + l.val, by omega⟩))
        (fun l => P (ix2 p ⟨6656 + l.val, by omega⟩)) (fun l => P (ix2 p ⟨7680 + l.val, by omega⟩)) (fun k l => wa (ix2 k l)) (fun k l => wh (ix2 k l)) (fun k l => wo (ix2 k l)) l := by
  open Cert.Reference3Ideal.Read in
  pointwise [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_call0_v0, val_main_call0_v1, val_main_call0_v2, val_main_call0_v3, val_main_call0_v4, val_main_call0_v5, val_main_cst, val_main_cst_0, val_main_cst_1, val_main_cst_2, val_main_cst_3, val_main_cst_4, val_main_cst_5, val_main_call0_cst, val_main_call0_cst_0]
  unfold mergeRow merged
  simp only [gated_eq]
  rfl
end Cert.Merge
-- ==== Proof.Merge.lean ====
/- The merge: the kernel's result is the reference's, element by element. -/
module
public import proofs.«01_k».proof.Defs
public import proofs.«01_k».proof.Proof.MergeRef
public import proofs.«01_k».proof.Proof.Gen.Kernel3Ideal.Value
public import proofs.«01_k».proof.Proof.Gen.Reference3Ideal.Run
public import Idealize.ShloMosaic.Lib.Pipeline.ValueKit
public import Idealize.ShloMosaic.Lib.StableHlo.RunRead
public import Idealize.ShloMosaic.Lib.Quiescent
@[expose] public section
set_option maxRecDepth 16384
noncomputable section
namespace Cert.Merge
open Idealize.ShloMosaic Cert.Kernel3Ideal Cert.Kernel3Ideal.Gen Idealize.ShloMosaic.Pipeline
open Idealize.SL.Sem Idealize.ShloMosaic.TcCoe
open Cert.Norm
variable (m : (ℓ : Loc nD Cert.Kernel3Ideal.τ Cert.Kernel3Ideal.sig) → Buf (Elt Ideal) ℓ)

/-! ## The windows' blocks -/

theorem idx0 : ∀ t, win0_0.index t = ![(grid0.coords t 0).val, 0] := by decide +kernel
theorem idx1 : ∀ t, win0_1.index t = ![(grid0.coords t 0).val, 0] := by decide +kernel
theorem idx2 : ∀ t, win0_2.index t = ![(grid0.coords t 0).val, 0] := by decide +kernel
theorem idx3 : ∀ t, win0_3.index t = ![(grid0.coords t 0).val, 7] := by decide +kernel
theorem idx4 : ∀ t, win0_4.index t = ![0, 0] := by decide +kernel
theorem idx5 : ∀ t, win0_5.index t = ![(grid0.coords t 0).val, 1] := by decide +kernel
theorem idx6 : ∀ t, win0_6.index t = ![(grid0.coords t 0).val, 2] := by decide +kernel
theorem idx7 : ∀ t, win0_7.index t = ![(grid0.coords t 0).val, 0] := by decide +kernel
theorem idx8 : ∀ t, win0_8.index t = ![0, 0] := by decide +kernel
theorem idx9 : ∀ t, win0_9.index t = ![0, 0] := by decide +kernel
theorem idx10 : ∀ t, win0_10.index t = ![0, 0] := by decide +kernel
theorem idx11 : ∀ t, win0_11.index t = ![(grid0.coords t 0).val, 0] := by decide +kernel

/-- The row block of a grid point, and a row of it in the whole array. -/
abbrev rowBlock (t : Fin cfg0.N) : Fin 198 := grid0.coords t 0
def rowOf (t : Fin cfg0.N) (i : Fin 256) : Fin 50688 := ⟨256 * (rowBlock t).val + i.val, by omega⟩

theorem block0 (c : Dev nD) (t : Fin cfg0.N) (i : Fin 256) (l : Fin 1024) :
    iblk m c 0 t (ix2 i l) = V m c main_arg0 (ix2 (rowOf t i) l) := by
  have hr : (grid0.coords t 0).val < 198 := (rowBlock t).isLt
  unfold rowOf rowBlock
  blk_ext [iblk, V, idx0 t]
theorem block1 (c : Dev nD) (t : Fin cfg0.N) (i : Fin 256) (l : Fin 1024) :
    iblk m c 1 t (ix2 i l) = V m c main_arg1 (ix2 (rowOf t i) l) := by
  have hr : (grid0.coords t 0).val < 198 := (rowBlock t).isLt
  unfold rowOf rowBlock
  blk_ext [iblk, V, idx1 t]
theorem block2 (c : Dev nD) (t : Fin cfg0.N) (i : Fin 256) (l : Fin 1024) :
    iblk m c 2 t (ix2 i l) = V m c main_arg2 (ix2 (rowOf t i) l) := by
  have hr : (grid0.coords t 0).val < 198 := (rowBlock t).isLt
  unfold rowOf rowBlock
  blk_ext [iblk, V, idx2 t]
theorem block7 (c : Dev nD) (t : Fin cfg0.N) (i : Fin 256) (l : Fin 1024) :
    iblk m c 7 t (ix2 i l) = V m c main_arg5 (ix2 (rowOf t i) l) := by
  have hr : (grid0.coords t 0).val < 198 := (rowBlock t).isLt
  unfold rowOf rowBlock
  blk_ext [iblk, V, idx7 t]
theorem block3 (c : Dev nD) (t : Fin cfg0.N) (i : Fin 256) (l : Fin 1024) :
    X0_3 m c t (ix2 i l) = V m c main_v10 (ix2 (rowOf t i) ⟨7168 + l.val, by omega⟩) := by
  have hr : (grid0.coords t 0).val < 198 := (rowBlock t).isLt
  unfold rowOf rowBlock
  unfold X0_3 Pipeline.Window.fill
  rw [dif_pos (moved0_3 t _)]
  blk_ext [iblk, V, idx3 t]
theorem block5 (c : Dev nD) (t : Fin cfg0.N) (i : Fin 256) (l : Fin 1024) :
    X0_5 m c t (ix2 i l) = V m c main_v10 (ix2 (rowOf t i) ⟨1024 + l.val, by omega⟩) := by
  have hr : (grid0.coords t 0).val < 198 := (rowBlock t).isLt
  unfold rowOf rowBlock
  unfold X0_5 Pipeline.Window.fill
  rw [dif_pos (moved0_5 t _)]
  blk_ext [iblk, V, idx5 t]
theorem block6 (c : Dev nD) (t : Fin cfg0.N) (i : Fin 256) (l : Fin 1024) :
    X0_6 m c t (ix2 i l) = V m c main_v10 (ix2 (rowOf t i) ⟨2048 + l.val, by omega⟩) := by
  have hr : (grid0.coords t 0).val < 198 := (rowBlock t).isLt
  unfold rowOf rowBlock
  unfold X0_6 Pipeline.Window.fill
  rw [dif_pos (moved0_6 t _)]
  blk_ext [iblk, V, idx6 t]
theorem block4 (c : Dev nD) (t : Fin cfg0.N) (l : Fin 1024) :
    iblk m c 4 t (ix2 0 l) = V m c main_v11 (ix2 0 l) := by
  blk_ext [iblk, V, idx4 t]
theorem block8 (c : Dev nD) (t : Fin cfg0.N) (k l : Fin 1024) :
    iblk m c 8 t (ix2 k l) = V m c main_v12 (ix2 k l) := by
  blk_ext [iblk, V, idx8 t]
theorem block9 (c : Dev nD) (t : Fin cfg0.N) (k l : Fin 1024) :
    iblk m c 9 t (ix2 k l) = V m c main_v13 (ix2 k l) := by
  blk_ext [iblk, V, idx9 t]
theorem block10 (c : Dev nD) (t : Fin cfg0.N) (k l : Fin 1024) :
    iblk m c 10 t (ix2 k l) = V m c main_v14 (ix2 k l) := by
  blk_ext [iblk, V, idx10 t]
theorem place (t : Fin cfg0.N) (i : Fin 256) (l : Fin 1024) : (win0_11.blk t).view.emb (ix2 i l) = ix2 (rowOf t i) l := by
  have hr : (grid0.coords t 0).val < 198 := (rowBlock t).isLt
  unfold rowOf rowBlock
  blk_ext [idx11 t]

/-! ## What the host prepares -/

theorem gain (c : Dev nD) (l : Fin 1024) : V m c main_v11 (ix2 0 l) = m ((c : Thread nD τ).loc main_arg3) (ix1 l) := by
  unfold_abbrev_sides
  after_reads_simp
  pointwise
theorem weight6 (c : Dev nD) (k l : Fin 1024) : V m c main_v12 (ix2 k l) = m ((c : Thread nD τ).loc main_arg6) (ix2 k l) := by
  unfold_abbrev_sides
  after_reads_simp
  pointwise
theorem weight7 (c : Dev nD) (k l : Fin 1024) : V m c main_v13 (ix2 k l) = m ((c : Thread nD τ).loc main_arg7) (ix2 k l) := by
  unfold_abbrev_sides
  after_reads_simp
  pointwise
theorem weight8 (c : Dev nD) (k l : Fin 1024) : V m c main_v14 (ix2 k l) = m ((c : Thread nD τ).loc main_arg8) (ix2 k l) := by
  unfold_abbrev_sides
  after_reads_simp
  pointwise
theorem ordered_z {α : Type} (a0 a1 a2 a3 a4 a5 a6 a7 : S50688x1024.Idx → α) (a8 a9 : S50688x256.Idx → α) (p : Fin 50688) (l : Fin 1024) :
    concatenate S50688x8704 1 [⟨S50688x1024, a0⟩, ⟨S50688x1024, a1⟩, ⟨S50688x1024, a2⟩, ⟨S50688x1024, a3⟩, ⟨S50688x1024, a4⟩, ⟨S50688x1024, a5⟩, ⟨S50688x1024, a6⟩, ⟨S50688x1024, a7⟩, ⟨S50688x256, a8⟩, ⟨S50688x256, a9⟩]
      concatenates_S50688x1024_S50688x1024_S50688x1024_S50688x1024_S50688x1024_S50688x1024_S50688x1024_S50688x1024_S50688x256_S50688x256_S50688x8704_d1 (ix2 p ⟨7168 + l.val, by omega⟩) = a7 (ix2 p l) := by
  pointwise
  repeat rw [dif_neg (by omega)]
  rw [dif_pos (by omega)]
  exact congrArg (fun z => a7 (ix2 p z)) (Fin.ext (by simp only; omega))
theorem z_cols (c : Dev nD) (p : Fin 50688) (l : Fin 1024) :
    V m c main_v10 (ix2 p ⟨7168 + l.val, by omega⟩) = m ((c : Thread nD τ).loc main_arg4) (ix2 p ⟨5632 + l.val, by omega⟩) := by
  unfold_abbrev_sides
  after_reads_simp
  refine (ordered_z _ _ _ _ _ _ _ _ _ _ p l).trans ?_
  dsimp only [Matrix.cons_val]
  after_reads_simp
  pointwise
theorem ordered_ga {α : Type} (a0 a1 a2 a3 a4 a5 a6 a7 : S50688x1024.Idx → α) (a8 a9 : S50688x256.Idx → α) (p : Fin 50688) (l : Fin 1024) :
    concatenate S50688x8704 1 [⟨S50688x1024, a0⟩, ⟨S50688x1024, a1⟩, ⟨S50688x1024, a2⟩, ⟨S50688x1024, a3⟩, ⟨S50688x1024, a4⟩, ⟨S50688x1024, a5⟩, ⟨S50688x1024, a6⟩, ⟨S50688x1024, a7⟩, ⟨S50688x256, a8⟩, ⟨S50688x256, a9⟩]
      concatenates_S50688x1024_S50688x1024_S50688x1024_S50688x1024_S50688x1024_S50688x1024_S50688x1024_S50688x1024_S50688x256_S50688x256_S50688x8704_d1 (ix2 p ⟨1024 + l.val, by omega⟩) = a1 (ix2 p l) := by
  pointwise
theorem ga_cols (c : Dev nD) (p : Fin 50688) (l : Fin 1024) :
    V m c main_v10 (ix2 p ⟨1024 + l.val, by omega⟩) = m ((c : Thread nD τ).loc main_arg4) (ix2 p ⟨6656 + l.val, by omega⟩) := by
  unfold_abbrev_sides
  after_reads_simp
  refine (ordered_ga _ _ _ _ _ _ _ _ _ _ p l).trans ?_
  dsimp only [Matrix.cons_val]
  after_reads_simp
  pointwise
theorem ordered_gh {α : Type} (a0 a1 a2 a3 a4 a5 a6 a7 : S50688x1024.Idx → α) (a8 a9 : S50688x256.Idx → α) (p : Fin 50688) (l : Fin 1024) :
    concatenate S50688x8704 1 [⟨S50688x1024, a0⟩, ⟨S50688x1024, a1⟩, ⟨S50688x1024, a2⟩, ⟨S50688x1024, a3⟩, ⟨S50688x1024, a4⟩, ⟨S50688x1024, a5⟩, ⟨S50688x1024, a6⟩, ⟨S50688x1024, a7⟩, ⟨S50688x256, a8⟩, ⟨S50688x256, a9⟩]
      concatenates_S50688x1024_S50688x1024_S50688x1024_S50688x1024_S50688x1024_S50688x1024_S50688x1024_S50688x1024_S50688x256_S50688x256_S50688x8704_d1 (ix2 p ⟨2048 + l.val, by omega⟩) = a2 (ix2 p l) := by
  pointwise
  repeat rw [dif_neg (by omega)]
  rw [dif_pos (by omega)]
  exact congrArg (fun z => a2 (ix2 p z)) (Fin.ext (by simp only; omega))
theorem gh_cols (c : Dev nD) (p : Fin 50688) (l : Fin 1024) :
    V m c main_v10 (ix2 p ⟨2048 + l.val, by omega⟩) = m ((c : Thread nD τ).loc main_arg4) (ix2 p ⟨7680 + l.val, by omega⟩) := by
  unfold_abbrev_sides
  after_reads_simp
  refine (ordered_gh _ _ _ _ _ _ _ _ _ _ p l).trans ?_
  dsimp only [Matrix.cons_val]
  after_reads_simp
  pointwise

/-! ## The result -/

/-- The result as the reference writes it, over the kernel's own arguments. -/
abbrev expected (c : Dev nD) : S50688x1024.Idx → EReal :=
  Cert.Reference3Ideal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

theorem body_apply (o1 o2 : Vec Ideal S256x1024 .f32) (g : Vec Ideal S1x1024 .f32) (z ga gh h : Vec Ideal S256x1024 .f32) (a : Vec Ideal S256x1024 .bf16) (wa wh wo : Vec Ideal S1024x1024 .bf16)
    (i : Fin 256) (l : Fin 1024) :
    k0_pay1 (k0_pay16 (k0_pay2 o1 o2) (k0_pay3 g) (k0_pay4 z) (k0_pay5 o1 o2 g) (k0_pay6 o1 o2 g) (k0_pay10 (k0_pay7 o1 o2) (k0_pay8 g) (k0_pay9 o1 o2) (Scalar.ofBits .f32 0x358637BD#32))
      (k0_pay11 (k0_pay2 o1 o2) (k0_pay3 g)) (k0_pay12 (k0_pay2 o1 o2) (k0_pay3 g)) (k0_pay13 (k0_pay2 o1 o2) (k0_pay3 g)) (k0_pay14 (k0_pay2 o1 o2)) (k0_pay15 (k0_pay3 g)) wh) (k0_pay17 a wa ga) gh h wo (ix2 i l)
      = mergeRow (fun l => h (ix2 i l)) (fun l => a (ix2 i l)) (fun l => o1 (ix2 i l) + o2 (ix2 i l)) (fun l => g (ix2 0 l)) (fun l => z (ix2 i l)) (fun l => ga (ix2 i l)) (fun l => gh (ix2 i l))
        (fun k l => wa (ix2 k l)) (fun k l => wh (ix2 k l)) (fun k l => wo (ix2 k l)) l := by
  refine (last_apply _ _ _ _ _ i l).trans ?_
  simp only [first_apply, second_apply]
  rfl

theorem mergeRow_congr {h h' a a' o o' g g' z z' ga ga' gh gh' : Fin 1024 → EReal} {wa wa' wh wh' wo wo' : Fin 1024 → Fin 1024 → EReal}
    (eh : ∀ l, h l = h' l) (ea : ∀ l, a l = a' l) (eo : ∀ l, o l = o' l) (eg : ∀ l, g l = g' l) (ez : ∀ l, z l = z' l) (ega : ∀ l, ga l = ga' l) (egh : ∀ l, gh l = gh' l) (ewa : ∀ k l, wa k l = wa' k l) (ewh : ∀ k l, wh k l = wh' k l) (ewo : ∀ k l, wo k l = wo' k l) (l : Fin 1024) :
    mergeRow h a o g z ga gh wa wh wo l = mergeRow h' a' o' g' z' ga' gh' wa' wh' wo' l := by
  obtain rfl := funext eh
  obtain rfl := funext ea
  obtain rfl := funext eo
  obtain rfl := funext eg
  obtain rfl := funext ez
  obtain rfl := funext ega
  obtain rfl := funext egh
  obtain rfl := funext fun k => funext (ewa k)
  obtain rfl := funext fun k => funext (ewh k)
  obtain rfl := funext fun k => funext (ewo k)
  rfl

theorem point_apply (c : Dev nD) (t : Fin cfg0.N) (i : Fin 256) (l : Fin 1024) : (dats m 0 c).after 11 t (ix2 i l) = expected m c (ix2 (rowOf t i) l) := by
  rw [after0_11]
  unfold outsAt0
  frame_out
  refine (body_apply _ _ _ _ _ _ _ _ _ _ _ i l).trans (Eq.trans ?_ (ref_apply _ _ _ _ _ _ _ _ _ (rowOf t i) l).symm)
  simp only [block0, block1, block2, block3, block4, block5, block6, block7, block8, block9, block10]
  exact mergeRow_congr (fun _ => congrFun (V_main_arg5 m c) _) (fun _ => congrFun (V_main_arg0 m c) _) (fun _ => congrArg₂ (fun x y : EReal => x + y) (congrFun (V_main_arg1 m c) _) (congrFun (V_main_arg2 m c) _))
    (gain m c) (z_cols m c _) (ga_cols m c _) (gh_cols m c _) (weight6 m c) (weight7 m c) (weight8 m c) l

theorem array_eq (c : Dev nD) : (dats m 0 c).arrAt 11 cfg0.N = expected m c := by
  refine (dats m 0 c).arrAt_eq_of_covers 11 _ (by decide +kernel) fun t hf y => ?_
  blk_simp
  have hy : y = ix2 (n0 := 256) (n1 := 1024) (y 0) (y 1) := eq_ix2 (n0 := 256) (n1 := 1024) y
  rw [hy]
  exact (point_apply m c t (y 0) (y 1)).trans (congrArg _ (place t (y 0) (y 1)).symm)

theorem kernel_run (g : Dev nD → PrngReg) :
    θ_run (Cert.Kernel3Ideal.defs (F := Ideal)) (onTc (τ := Cert.Kernel3Ideal.τ) (Cert.Kernel3Ideal.main (F := Ideal))) ⟨m, fun _ => 0, g⟩ (fun r => ∀ c : Dev nD,
      r.2.mem ((c.tc : Thread nD Cert.Kernel3Ideal.τ).loc main_v15) = expected m c
      ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)) :=
  (θ_run _ _ _).mono (fun _ h c => ⟨(h c).1.trans (array_eq m c), (h c).2⟩) (Cert.Kernel3Ideal.Value.run_blocks m g)

theorem algebraic : Cert.algebraic_Kernel3Ideal_Reference3Ideal := by
  intro m g m' g' _ hagree
  refine ⟨_, kernel_run m g, ?_⟩
  refine (θ_run Cert.Reference3Ideal.defs _ _).mono (fun _ h c => ⟨(h c).1.trans ?_, (h c).2⟩) (Cert.Reference3Ideal.Value.run (F := Ideal) m' g')
  refine (Cert.Reference3Ideal.Read.val_main_v41_eq _ _ _ _ _ _ _ _ _).trans ?_
  obtain ⟨h0, h1, h2, h3, h4, h5, h6, h7, h8⟩ := hagree c
  unfold expected
  rw [h0, h1, h2, h3, h4, h5, h6, h7, h8]

theorem reference_frame (m : (ℓ : Loc Cert.Reference3Ideal.nD Cert.Reference3Ideal.τ Cert.Reference3Ideal.sig) → Buf (Elt Ideal) ℓ) (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0) :=
  (θ_run Cert.Reference3Ideal.defs _ _).mono (fun r h => ⟨fun c => (h c).2, sem_eq_zero_of_no_sems (by decide) r.2⟩) (Cert.Reference3Ideal.Value.run (F := Ideal) m ρ)
end Cert.Merge
-- ==== Proof.Rank.lean ====
/- The order of a column's entries, greatest first and equal ones by position: a position's rank, the position of a given rank, what is
   left of a column after its first entries are struck out, and when a part of a column has the whole column's first entries. -/
module

public import Idealize.ShloMosaic.Lib.SortPrefix
public import Mathlib.Data.EReal.Operations
public import Mathlib.Data.Fintype.Card

@[expose] public section

namespace Cert.Route

open Idealize.ShloMosaic

noncomputable section

/-- Position `i` comes before position `j`: its entry is greater, or equal and `i` is lower. -/
def Before {n : ℕ} (x : Fin n → EReal) (i j : Fin n) : Prop := x j < x i ∨ (x i = x j ∧ i < j)

variable {n : ℕ} (x : Fin n → EReal)

theorem Before.irrefl (i : Fin n) : ¬ Before x i i := by
  rintro (h | h)
  · exact lt_irrefl _ h
  · exact lt_irrefl _ h.2

variable {x} in
theorem Before.trans {i j k : Fin n} (h : Before x i j) (h' : Before x j k) : Before x i k := by
  rcases h with h | ⟨e, l⟩ <;> rcases h' with h' | ⟨e', l'⟩
  · exact Or.inl (h'.trans h)
  · exact Or.inl (e' ▸ h)
  · exact Or.inl (e ▸ h')
  · exact Or.inr ⟨e.trans e', l.trans l'⟩

theorem Before.total {i j : Fin n} (h : i ≠ j) : Before x i j ∨ Before x j i := by
  rcases lt_trichotomy (x i) (x j) with h1 | h1 | h1
  · exact Or.inr (Or.inl h1)
  · rcases lt_or_gt_of_ne h with h2 | h2
    · exact Or.inl (Or.inr ⟨h1, h2⟩)
    · exact Or.inr (Or.inr ⟨h1.symm, h2⟩)
  · exact Or.inl (Or.inl h1)

open scoped Classical in
/-- The positions before `j`. -/
def earlier (j : Fin n) : Finset (Fin n) := Finset.univ.filter fun i => Before x i j

theorem mem_earlier (i j : Fin n) : i ∈ earlier x j ↔ Before x i j := by simp [earlier]

/-- The number of positions before `j`. -/
def rank (j : Fin n) : ℕ := (earlier x j).card

theorem rank_lt_rank {i j : Fin n} (h : Before x i j) : rank x i < rank x j := by
  refine Finset.card_lt_card ((Finset.ssubset_iff_of_subset fun k hk => ?_).mpr ⟨i, ?_, ?_⟩)
  · rw [mem_earlier] at hk ⊢
    exact hk.trans h
  · rwa [mem_earlier]
  · rw [mem_earlier]
    exact Before.irrefl x i

theorem before_iff (i j : Fin n) : Before x i j ↔ rank x i < rank x j := by
  refine ⟨rank_lt_rank x, fun h => ?_⟩
  by_cases e : i = j
  · subst e; exact absurd h (lt_irrefl _)
  · rcases Before.total x e with h' | h'
    · exact h'
    · exact absurd (rank_lt_rank x h') (by omega)

theorem rank_injective : Function.Injective (rank x) := fun i j h => by
  by_contra e
  rcases Before.total x e with h' | h'
  · exact absurd (rank_lt_rank x h') (by omega)
  · exact absurd (rank_lt_rank x h') (by omega)

theorem rank_lt (j : Fin n) : rank x j < n := by
  have h : earlier x j ⊂ Finset.univ := (Finset.ssubset_iff_of_subset (Finset.subset_univ _)).mpr
    ⟨j, Finset.mem_univ _, fun h => Before.irrefl x j ((mem_earlier x j j).mp h)⟩
  simpa [rank] using Finset.card_lt_card h

theorem exists_rank (r : Fin n) : ∃ i, rank x i = r.val := by
  have hinj : Function.Injective fun i => (⟨rank x i, rank_lt x i⟩ : Fin n) := fun i j h =>
    rank_injective x (congrArg Fin.val h)
  obtain ⟨i, hi⟩ := Finite.surjective_of_injective hinj r
  exact ⟨i, congrArg Fin.val hi⟩

/-- The position of rank `r`. -/
def pick (r : Fin n) : Fin n := (exists_rank x r).choose

theorem rank_pick (r : Fin n) : rank x (pick x r) = r.val := (exists_rank x r).choose_spec

theorem eq_pick {i : Fin n} {r : Fin n} (h : rank x i = r.val) : i = pick x r :=
  rank_injective x (h.trans (rank_pick x r).symm)

/-- The entries descend along the ranks. -/
theorem pick_antitone {r s : Fin n} (h : r ≤ s) : x (pick x s) ≤ x (pick x r) := by
  rcases eq_or_lt_of_le h with rfl | h
  · exact le_rfl
  · have hb : Before x (pick x r) (pick x s) := (before_iff x _ _).mpr (by rw [rank_pick, rank_pick]; exact h)
    rcases hb with hb | hb
    · exact hb.le
    · exact hb.1.symm.le

/-! ## Striking out the first entries -/

/-- The column after its first `r` entries are struck out. -/
def rest (r : ℕ) (i : Fin n) : EReal := if rank x i < r then ⊥ else x i

theorem rest_zero : rest x 0 = x := by
  funext i
  simp [rest]

theorem rest_pick (r : Fin n) : rest x r.val (pick x r) = x (pick x r) := by
  unfold rest
  rw [rank_pick, if_neg (lt_irrefl _)]

theorem rest_le (r i : Fin n) : rest x r.val i ≤ x (pick x r) := by
  unfold rest
  split
  · exact bot_le
  · rename_i h
    by_cases e : i = pick x r
    · rw [e]
    · have hb : Before x (pick x r) i := (before_iff x _ _).mpr (by
        rw [rank_pick]
        have : rank x i ≠ r.val := fun h => e (eq_pick x h)
        omega)
      rcases hb with hb | hb
      · exact hb.le
      · exact hb.1.symm.le

theorem pick_le_of_rest (hx : ∀ i, ⊥ < x i) (r i : Fin n) (h : rest x r.val i = x (pick x r)) : pick x r ≤ i := by
  unfold rest at h
  split at h
  · exact absurd h.symm (ne_of_gt (hx _))
  · rename_i hr
    by_contra hlt
    rw [not_le] at hlt
    have hb : Before x i (pick x r) := Or.inr ⟨h, hlt⟩
    rw [before_iff, rank_pick] at hb
    exact hr hb

theorem rest_succ (r i : Fin n) : rest x (r.val + 1) i = if i = pick x r then ⊥ else rest x r.val i := by
  unfold rest
  by_cases e : i = pick x r
  · rw [if_pos e, e, rank_pick, if_pos (Nat.lt_succ_self _)]
  · have : rank x i ≠ r.val := fun h => e (eq_pick x h)
    rw [if_neg e]
    by_cases hr : rank x i < r.val
    · rw [if_pos hr, if_pos (by omega)]
    · rw [if_neg hr, if_neg (by omega)]

/-! ## The stable sort of the positions -/

/-- The comparator of a stable sort that puts the greater entry first. -/
def greater (i j : Fin n) : Bool := decide (x j < x i)

open scoped Classical in
/-- The same, equal entries by position. -/
def first (i j : Fin n) : Bool := decide (Before x i j)

theorem first_strict : StrictTotalBefore (first x) where
  irrefl i := by simp [first, Before.irrefl]
  trans i j k h h' := by
    simp only [first, decide_eq_true_eq] at h h' ⊢
    exact h.trans h'
  total i j h := by
    simp only [first, decide_eq_true_eq]
    exact Before.total x h

theorem stableSort_greater : ∀ l : List (Fin n), l.Pairwise (· < ·) → stableSort (greater x) l = stableSort (first x) l
  | [], _ => rfl
  | a :: l, h => by
    rw [List.pairwise_cons] at h
    unfold stableSort
    rw [stableSort_greater l h.2]
    refine insertBefore_eq x a _ fun b hb => h.1 b ((perm_stableSort _ _).mem_iff.mp hb)
where
  insertBefore_eq (x : Fin n → EReal) (a : Fin n) : ∀ l : List (Fin n), (∀ b ∈ l, a < b) →
      insertBefore (greater x) a l = insertBefore (first x) a l
    | [], _ => rfl
    | b :: l, h => by
      have hb : greater x b a = first x b a := by
        have hlt := h b (List.mem_cons_self ..)
        unfold greater first Before
        refine decide_eq_decide.mpr ⟨Or.inl, ?_⟩
        rintro (h | h)
        · exact h
        · exact absurd h.2 (not_lt.mpr hlt.le)
      unfold insertBefore
      rw [hb, insertBefore_eq x a l fun c hc => h c (List.mem_cons_of_mem _ hc)]

/-- THE STABLE SORT, greater entries first, has the position of rank `r` at place `r`. -/
theorem sortedFrom_greater (r : Fin n) : sortedFrom (greater x) r = pick x r := by
  have e : sortedFrom (greater x) r = sortedFrom (first x) r := by
    unfold sortedFrom sortPositions
    exact List.get_of_eq (stableSort_greater x _ (List.pairwise_lt_finRange n)) _
  rw [e]
  refine (first_strict x).sortedFrom_eq_of_prefix le_rfl (pick x) (fun r s h => ?_) (fun r s h => ?_) (fun r p h => ?_) r
  · have := congrArg (rank x) h
    rw [rank_pick, rank_pick] at this
    exact Fin.ext this
  · simp only [first, decide_eq_false_iff_not, before_iff, rank_pick]
    exact not_lt.mpr (le_of_lt h)
  · exact absurd (eq_pick x (r := ⟨rank x p, rank_lt x p⟩) rfl).symm (h _)

/-! ## A part of a column with the column's first entries -/

/-- If a part of a column (in the column's order) leaves out only positions of rank `K` and above, then its first `K` entries are
    the column's. -/
theorem pick_part {N M K : ℕ} (y : Fin N → EReal) (e : Fin M → Fin N) (he : StrictMono e)
    (hout : ∀ j, (∀ s, e s ≠ j) → K ≤ rank y j) (r : ℕ) (hr : r < K) (hM : r < M) (hN : r < N) :
    e (pick (fun s => y (e s)) ⟨r, hM⟩) = pick y ⟨r, hN⟩ := by
  have hin : ∀ j, rank y j < K → ∃ s, e s = j := fun j hj => by
    by_contra h
    rw [not_exists] at h
    exact absurd (hout j h) (by omega)
  obtain ⟨s, hs⟩ := hin (pick y ⟨r, hN⟩) (by rw [rank_pick]; exact hr)
  have hb : ∀ t, Before (fun s => y (e s)) t s ↔ Before y (e t) (e s) := fun t => by
    unfold Before
    rw [he.lt_iff_lt]
  have hrank : rank (fun s => y (e s)) s = r := by
    rw [← show rank y (pick y ⟨r, hN⟩) = r from rank_pick y _, ← hs]
    unfold rank
    refine Finset.card_bij (fun t _ => e t) (fun t ht => ?_) (fun t _ t' _ h => he.injective h) (fun j hj => ?_)
    · rw [mem_earlier] at ht ⊢
      exact (hb t).mp ht
    · rw [mem_earlier] at hj
      have h1 : rank y j < r := by simpa [hs, rank_pick] using rank_lt_rank y hj
      obtain ⟨t, rfl⟩ := hin j (by omega)
      exact ⟨t, (mem_earlier _ _ _).mpr ((hb t).mpr hj), rfl⟩
  rw [← hs, ← eq_pick (fun s => y (e s)) (r := ⟨r, hM⟩) hrank]

theorem le_rank {j : Fin n} (A : Finset (Fin n)) (h : ∀ i ∈ A, Before x i j) : A.card ≤ rank x j :=
  Finset.card_le_card fun i hi => (mem_earlier x i j).mpr (h i hi)

/-! ## Pairs of two descending rows of sixteen -/

/-- The 80 pairs that can be among the first sixteen, as numbers 16·a + b: all b for a = 0, b < 8 for a = 1 … 7, b = 0 from a = 8. -/
def pair (k : Fin 80) : Fin 256 :=
  if k.val < 16 then ⟨k.val, by omega⟩
  else if k.val < 72 then ⟨16 * ((k.val - 16) / 8 + 1) + (k.val - 16) % 8, by omega⟩
  else ⟨16 * (k.val - 64), by omega⟩

theorem pair_strictMono : StrictMono pair := by
  intro k l h
  have h' : k.val < l.val := h
  show (pair k).val < (pair l).val
  unfold pair
  split_ifs <;> simp only <;> omega

theorem pair_out (j : Fin 256) (h : ∀ s, pair s ≠ j) : (1 ≤ j.val / 16 ∧ 8 ≤ j.val % 16) ∨ (8 ≤ j.val / 16 ∧ 1 ≤ j.val % 16) := by
  by_contra hc
  have hj := j.isLt
  have key : ∃ s : Fin 80, (pair s).val = j.val := by
    by_cases h0 : j.val < 16
    · refine ⟨⟨j.val, by omega⟩, ?_⟩
      unfold pair
      rw [if_pos h0]
    · by_cases h1 : j.val / 16 < 8
      · refine ⟨⟨16 + 8 * (j.val / 16 - 1) + j.val % 16, by omega⟩, ?_⟩
        unfold pair
        rw [if_neg (by simp only; omega), if_pos (by simp only; omega)]
        simp only
        omega
      · refine ⟨⟨64 + j.val / 16, by omega⟩, ?_⟩
        unfold pair
        rw [if_neg (by simp only; omega), if_neg (by simp only; omega)]
        simp only
        omega
  obtain ⟨s, hs⟩ := key
  exact h s (Fin.ext hs)

/-- The sums of the pairs of two rows of sixteen. -/
def sums (u v : Fin 16 → EReal) (p : Fin 256) : EReal :=
  u ⟨p.val / 16, by omega⟩ + v ⟨p.val % 16, by omega⟩

/-- OF TWO DESCENDING ROWS the sixteen greatest sums are among the 80 pairs, in the same order. -/
theorem pick_sums (u v : Fin 16 → EReal) (hu : Antitone u) (hv : Antitone v) (r : Fin 16) :
    pair (pick (fun s => sums u v (pair s)) ⟨r.val, by omega⟩) = pick (sums u v) ⟨r.val, by omega⟩ := by
  refine pick_part (K := 16) (sums u v) pair pair_strictMono (fun j hj => ?_) r.val r.isLt _ _
  have hbef : ∀ i : Fin 256, i.val / 16 ≤ j.val / 16 → i.val % 16 ≤ j.val % 16 → i ≠ j → Before (sums u v) i j := fun i h1 h2 h3 => by
    have hle : sums u v j ≤ sums u v i := add_le_add (hu h1) (hv h2)
    rcases lt_or_eq_of_le hle with h | h
    · exact Or.inl h
    · refine Or.inr ⟨h.symm, ?_⟩
      have h4 : i.val ≠ j.val := fun e => h3 (Fin.ext e)
      show i.val < j.val
      omega
  rcases pair_out j hj with ⟨h1, h2⟩ | ⟨h1, h2⟩
  · have := le_rank (sums u v) (j := j) (Finset.univ.filter fun i : Fin 256 => i.val / 16 ≤ 1 ∧ i.val % 16 ≤ 7) (fun i hi => by
      simp only [Finset.mem_filter, Finset.mem_univ, true_and] at hi
      exact hbef i (by omega) (by omega) (fun e => by subst e; omega))
    rwa [show (Finset.univ.filter fun i : Fin 256 => i.val / 16 ≤ 1 ∧ i.val % 16 ≤ 7).card = 16 from by decide +kernel] at this
  · have := le_rank (sums u v) (j := j) (Finset.univ.filter fun i : Fin 256 => i.val / 16 ≤ 7 ∧ i.val % 16 ≤ 1) (fun i hi => by
      simp only [Finset.mem_filter, Finset.mem_univ, true_and] at hi
      exact hbef i (by omega) (by omega) (fun e => by subst e; omega))
    rwa [show (Finset.univ.filter fun i : Fin 256 => i.val / 16 ≤ 7 ∧ i.val % 16 ≤ 1).card = 16 from by decide +kernel] at this

end

end Cert.Route
-- ==== Proof.RouteBody.lean ====
/- The routing kernel's body, written as the rounds it makes: sixteen rounds over each half's scores, the candidates, sixteen rounds over them,
   and the two results. -/
module
public import proofs.«01_k».proof.Defs
public import proofs.«01_k».proof.Proof.Gen.Kernel6Ideal.Value
public import Idealize.ShloMosaic.Lib.Pipeline.ValueKit
@[expose] public section
set_option maxRecDepth 65536
noncomputable section
namespace Cert.Route
open Idealize.ShloMosaic Cert.Kernel6Ideal Cert.Kernel6Ideal.Gen Idealize.ShloMosaic.Pipeline
open Idealize.SL.Sem Idealize.ShloMosaic.TcCoe

/-- A rectangle of `n` rows, a token to a lane. -/
abbrev Rect256 (n : ℕ) : Shape := ⟨2, ![n, 256]⟩

section rounds
variable {n : ℕ} (hr : (Rect256 n).Reduces [0] S256) (hb : S1x256.Broadcasts (Rect256 n)) (big : BitVec 32) (tab : IVec (Rect256 n) 32)

/-- The greatest entry of each lane. -/
def rowMax (s : FVec Ideal (Rect256 n) .f32) : FVec Ideal S1x256 .f32 :=
  shapeCast S1x256 (multiReduction .maximumf [0] S256 s 0xFF800000#32 hr (.inl rfl) rfl) shapeCasts_S256_S1x256

/-- The least number, by the table, of an entry equal to the greatest. -/
def rowArg (s : FVec Ideal (Rect256 n) .f32) : IVec S1x256 32 :=
  shapeCast S1x256 (multiReductionI .minsi [0] S256 (select (cmpf .oeq s (broadcastTo (Rect256 n) (rowMax hr s) hb)) tab (broadcast (Rect256 n) big))
    2147483647#32 hr rfl) shapeCasts_S256_S1x256

/-- The scores with that entry struck out. -/
def strike (s : FVec Ideal (Rect256 n) .f32) : FVec Ideal (Rect256 n) .f32 :=
  select (cmpi .eq tab (broadcastTo (Rect256 n) (rowArg hr hb big tab s) hb)) (broadcast (Rect256 n) (Scalar.ofBits .f32 0xFF800000#32)) s

/-- The scores after `r` rounds. -/
def col (s : FVec Ideal (Rect256 n) .f32) : ℕ → FVec Ideal (Rect256 n) .f32
  | 0 => s
  | r + 1 => strike hr hb big tab (col s r)

end rounds

/-- The rows `f 0`, `f 1`, …, `f (k - 1)`, each where the table holds its number. -/
def stack {n : ℕ} {α : Type} (hb : S1x256.Broadcasts (Rect256 n)) (tab : IVec (Rect256 n) 32) (z : α) (f : ℕ → S1x256.Idx → α) : ℕ → (Rect256 n).Idx → α
  | 0 => broadcast (Rect256 n) z
  | r + 1 => select (cmpi .eq tab (broadcast (Rect256 n) (BitVec.ofNat 32 r))) (broadcastTo (Rect256 n) (shapeCast S1x256 (f r) shapeCasts_S1x256_S1x256) hb)
      (stack hb tab z f r)

def iota128 : IVec S128x256 32 := iota .tc S128x256 32 [0] iota_S128x256_d0_w32
def iota16 : IVec S16x256 32 := iota .tc S16x256 32 [0] iota_S16x256_d0_w32
def iota8 : IVec S8x256 32 := iota .tc S8x256 32 [0] iota_S8x256_d0_w32

/-- A half's best scores, greatest first. -/
def best (s : FVec Ideal S128x256 .f32) (r : ℕ) : FVec Ideal S1x256 .f32 :=
  rowMax reduces_S128x256_S256 (col reduces_S128x256_S256 broadcasts_S1x256_S128x256 128#32 iota128 s r)

/-- Their keys. -/
def bestKey (s : FVec Ideal S128x256 .f32) (r : ℕ) : IVec S1x256 32 :=
  rowArg reduces_S128x256_S256 broadcasts_S1x256_S128x256 128#32 iota128 (col reduces_S128x256_S256 broadcasts_S1x256_S128x256 128#32 iota128 s r)

section
variable (u v : ℕ → FVec Ideal S1x256 .f32)

def second : FVec Ideal S16x256 .f32 := stack broadcasts_S1x256_S16x256 iota16 (Scalar.ofBits .f32 0x00000000#32) v 16
def firstLow : FVec Ideal S8x256 .f32 := stack broadcasts_S1x256_S8x256 iota8 (Scalar.ofBits .f32 0x00000000#32) (fun r => u (8 + r)) 8
/-- The sums of one of the first half's best with the second half's eight best. -/
def sums8 (a : ℕ) : FVec Ideal S8x256 .f32 :=
  addf (broadcastTo S8x256 (u a) broadcasts_S1x256_S8x256) (extractStridedSlice S8x256 ![0, 0] (second v) slices_S16x256_o0_0_S8x256)

/-- The eighty candidate sums. -/
def cands : FVec Ideal S80x256 .f32 :=
  concatenate S80x256 0 [⟨S16x256, addf (broadcastTo S16x256 (u 0) broadcasts_S1x256_S16x256) (second v)⟩, ⟨S8x256, sums8 u v 1⟩, ⟨S8x256, sums8 u v 2⟩, ⟨S8x256, sums8 u v 3⟩,
    ⟨S8x256, sums8 u v 4⟩, ⟨S8x256, sums8 u v 5⟩, ⟨S8x256, sums8 u v 6⟩, ⟨S8x256, sums8 u v 7⟩,
    ⟨S8x256, addf (firstLow u) (broadcastTo S8x256 (v 0) broadcasts_S1x256_S8x256)⟩]
    concatenates_S16x256_S8x256_S8x256_S8x256_S8x256_S8x256_S8x256_S8x256_S8x256_S80x256_d0

end

def nums8 (w : BitVec 32) : IVec S8x256 32 := addi (broadcast S8x256 w) iota8

/-- The candidates' numbers among all pairs. -/
def flat : IVec S80x256 32 :=
  concatenate S80x256 0 [⟨S16x256, iota16⟩, ⟨S8x256, nums8 16#32⟩, ⟨S8x256, nums8 32#32⟩, ⟨S8x256, nums8 48#32⟩, ⟨S8x256, nums8 64#32⟩, ⟨S8x256, nums8 80#32⟩,
    ⟨S8x256, nums8 96#32⟩, ⟨S8x256, nums8 112#32⟩, ⟨S8x256, muli (nums8 8#32) (broadcast S8x256 16#32)⟩]
    concatenates_S16x256_S8x256_S8x256_S8x256_S8x256_S8x256_S8x256_S8x256_S8x256_S80x256_d0

/-- The best candidate sums, greatest first. -/
def top (c : FVec Ideal S80x256 .f32) (r : ℕ) : FVec Ideal S1x256 .f32 :=
  rowMax reduces_S80x256_S256 (col reduces_S80x256_S256 broadcasts_S1x256_S80x256 256#32 flat c r)

/-- Their numbers. -/
def topNum (c : FVec Ideal S80x256 .f32) (r : ℕ) : IVec S1x256 32 :=
  rowArg reduces_S80x256_S256 broadcasts_S1x256_S80x256 256#32 flat (col reduces_S80x256_S256 broadcasts_S1x256_S80x256 256#32 flat c r)

def nums (c : FVec Ideal S80x256 .f32) : IVec S16x256 32 := stack broadcasts_S1x256_S16x256 iota16 0#32 (topNum c) 16

/-- The quotient by sixteen, rounded down. -/
def quo (p : IVec S16x256 32) : IVec S16x256 32 :=
  select (andi (cmpi .ne (subi (extui 32 (cmpi .sgt p (broadcast S16x256 0#32)) natLt_1_32) (extui 32 (cmpi .slt p (broadcast S16x256 0#32)) natLt_1_32))
        (broadcast S16x256 (Scalar.subi (Scalar.extui (Scalar.cmpi .sgt 16#32 0#32)) (Scalar.extui (Scalar.cmpi .slt 16#32 0#32)))))
      (cmpi .ne (remsi p (broadcast S16x256 16#32)) (broadcast S16x256 0#32)))
    (subi (divsi p (broadcast S16x256 16#32)) (broadcast S16x256 1#32)) (divsi p (broadcast S16x256 16#32))

def sixteen : BitVec 32 := Scalar.select (Scalar.cmpi .eq 16#32 0#32) 1#32 16#32

/-- The remainder by sixteen. -/
def remn (p : IVec S16x256 32) : IVec S16x256 32 :=
  select (andi (xori (cmpi .slt (remsi p (broadcast S16x256 sixteen)) (broadcast S16x256 0#32))
        (broadcastTo S16x256 (broadcast S16x256 (Scalar.cmpi .slt sixteen 0#32)) broadcasts_S16x256_S16x256))
      (cmpi .ne (remsi p (broadcast S16x256 sixteen)) (broadcast S16x256 0#32)))
    (addi (remsi p (broadcast S16x256 sixteen)) (broadcast S16x256 sixteen)) (remsi p (broadcast S16x256 sixteen))

/-- The experts' numbers, from the halves' scores. -/
def experts (s0 s1 : FVec Ideal S128x256 .f32) : IVec S16x256 32 :=
  addi (muli (stack broadcasts_S1x256_S16x256 (quo (nums (cands (best s0) (best s1)))) 0#32 (bestKey s0) 16) (broadcast S16x256 128#32))
    (stack broadcasts_S1x256_S16x256 (remn (nums (cands (best s0) (best s1)))) 0#32 (bestKey s1) 16)

def lifted (t : ℕ → FVec Ideal S1x256 .f32) (r : ℕ) : FVec Ideal S1x256 .f32 := exp (subf (t r) (t 0))

/-- The sum of the first rows, from the left. -/
def sumTo (e : ℕ → FVec Ideal S1x256 .f32) : ℕ → FVec Ideal S1x256 .f32
  | 0 => e 0
  | r + 1 => addf (sumTo e r) (e (r + 1))

/-- The gates, from the halves' scores. -/
def gates (s0 s1 : FVec Ideal S128x256 .f32) : FVec Ideal S16x256 .f32 :=
  stack broadcasts_S1x256_S16x256 iota16 (Scalar.ofBits .f32 0x00000000#32)
    (fun r => divf (lifted (top (cands (best s0) (best s1))) r) (sumTo (lifted (top (cands (best s0) (best s1)))) 15)) 16

section body
variable (c : Dev nD) (i : grid0.Coords) (arg2 : Memref sig .tc .vmem S256x1024 .f32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S2x128x128 .bf16) (harg5 : arg5.IsWhole) (arg6 : Memref sig .tc .vmem S16x256 .i32) (harg6 : arg6.IsWhole) (arg7 : Memref sig .tc .vmem S16x256 .f32) (harg7 : arg7.IsWhole) (arg8 : Memref sig .tc .vmem S256x1024 .bf16) (harg8 : arg8.IsWhole)
  (x0 : Vec Ideal S256x1024 .f32) (x1 : Vec Ideal S1x1024 .f32) (x2 : Vec Ideal S1024x256 .bf16) (x3 : Vec Ideal S2x128x128 .bf16) (xs0 : Vec Ideal S256x1024 .bf16)

/-- The scores of the tokens' queries on the first half's keys and on the second's. -/
def score0 (xn : Vec Ideal S256x1024 .bf16) : FVec Ideal S128x256 .f32 :=
  k0_pay4 xn x2 (View.ld x3 (Rect.unit (s := S2x128x128) ![0, 0, 0] S1x128x128.size inb_S2x128x128_S1x128x128_0_0_0))
def score1 (xn : Vec Ideal S256x1024 .bf16) : FVec Ideal S128x256 .f32 :=
  k0_pay5 xn x2 (View.ld x3 (Rect.unit (s := S2x128x128) ![1, 0, 0] S1x128x128.size inb_S2x128x128_S1x128x128_1_0_0))

theorem out_B_4 (hc0 : ¬cond0_0 i) :
    out0_B_4 c i arg2 harg2 arg3 harg3 arg4 harg4 arg5 harg5 arg6 harg6 arg7 harg7 arg8 harg8 hc0 x0 x1 x2 x3 xs0 = experts (score0 x2 x3 xs0) (score1 x2 x3 xs0) := by
  funext y
  unfold out0_B_4
  frame_out
  rfl

theorem out_B_5 (hc0 : ¬cond0_0 i) :
    out0_B_5 c i arg2 harg2 arg3 harg3 arg4 harg4 arg5 harg5 arg6 harg6 arg7 harg7 arg8 harg8 hc0 x0 x1 x2 x3 xs0 = gates (score0 x2 x3 xs0) (score1 x2 x3 xs0) := by
  funext y
  unfold out0_B_5
  frame_out
  rfl

theorem out_A_4 (hc0 : cond0_0 i) :
    out0_A_4 c i arg2 harg2 arg3 harg3 arg4 harg4 arg5 harg5 arg6 harg6 arg7 harg7 arg8 harg8 hc0 x0 x1 x2 x3 = experts (score0 x2 x3 (k0_pay2 x0 x1)) (score1 x2 x3 (k0_pay2 x0 x1)) := by
  funext y
  unfold out0_A_4
  frame_out
  rfl

theorem out_A_5 (hc0 : cond0_0 i) :
    out0_A_5 c i arg2 harg2 arg3 harg3 arg4 harg4 arg5 harg5 arg6 harg6 arg7 harg7 arg8 harg8 hc0 x0 x1 x2 x3 = gates (score0 x2 x3 (k0_pay2 x0 x1)) (score1 x2 x3 (k0_pay2 x0 x1)) := by
  funext y
  unfold out0_A_5
  frame_out
  rfl

theorem sout_A (hc0 : cond0_0 i) : sout0_A_0 c i arg2 harg2 arg3 harg3 arg4 harg4 arg5 harg5 arg6 harg6 arg7 harg7 arg8 harg8 hc0 x0 x1 x2 x3 = k0_pay2 x0 x1 := by
  funext y
  unfold sout0_A_0
  frame_out

end body
end Cert.Route
-- ==== Proof.Rounds.lean ====
/- The rounds, a lane at a time: after `r` rounds a lane's column is what is left of its scores after the `r` first are struck out. -/
module
public import proofs.«01_k».proof.Proof.Rank
public import proofs.«01_k».proof.Proof.RouteBody
public import Idealize.ShloMosaic.PureOps.Ideal.Laws
public import Idealize.ShloMosaic.Lib.PlanTiles.Rows
@[expose] public section
noncomputable section
namespace Cert.Route
open Idealize.ShloMosaic Cert.Kernel6Ideal Cert.Kernel6Ideal.Gen

theorem negInf_word : Ideal.ofBits .f32 0xFF800000#32 = ⊥ := by
  simp [Ideal.ofBits, Ideal.ieee]

theorem minsi_words {ι : Type} (B : ℕ) (hB : B < 2 ^ 31) (g : ι → ℕ) (hg : ∀ i, g i < 2 ^ 31) (S : Finset ι) :
    S.fold IntOp.minsi (BitVec.ofNat 32 B) (fun i => BitVec.ofNat 32 (g i)) = BitVec.ofNat 32 (S.fold min B g) := by
  classical
  have hlt : ∀ S : Finset ι, S.fold min B g < 2 ^ 31 := fun S => lt_of_le_of_lt ((Finset.fold_min_le _).mpr (Or.inl le_rfl)) hB
  induction S using Finset.induction_on with
  | empty => rfl
  | insert a S ha ih =>
    rw [Finset.fold_insert ha, Finset.fold_insert ha, ih, Idealize.ShloMosaic.PlanTiles.minsi_word (hg a) (hlt S), min_comm]

section
variable {n : ℕ} (hr : (Rect256 n).Reduces [0] S256) (hb : S1x256.Broadcasts (Rect256 n)) (big : BitVec 32) (tab : IVec (Rect256 n) 32)
  (s : FVec Ideal (Rect256 n) .f32) (l : Fin 256)

/-- A lane's column. -/
abbrev lane (l : Fin 256) : Fin n → EReal := fun k => s (ix2 k l)

theorem rowMax_apply (z : Fin 1) : rowMax hr s (ix2 z l) = Finset.univ.sup (lane s l) := by
  pointwise [rowMax]
  rw [negInf_word]
  exact Finset.sup_def.symm

theorem rowArg_apply (z : Fin 1) : rowArg hr hb big tab s (ix2 z l)
    = Finset.univ.fold IntOp.minsi (2147483647#32) (fun x => if s (ix2 x l) = rowMax hr s (ix2 0 l) then tab (ix2 x l) else big) := by
  pointwise [rowArg]

theorem select_eq {α : Type} (a b : BitVec 32) (x y : α) : Scalar.select (IntOp.cmpi .eq a b) x y = if a = b then x else y := by
  by_cases h : a = b
  · subst h; simp [Scalar.select, IntOp.cmpi]
  · have e : (a == b) = false := by simpa using h
    simp [Scalar.select, IntOp.cmpi, h, e]

theorem strike_apply (k : Fin n) : strike hr hb big tab s (ix2 k l) = if tab (ix2 k l) = rowArg hr hb big tab s (ix2 0 l) then ⊥ else s (ix2 k l) := by
  pointwise [strike]
  rw [negInf_word]
  exact select_eq _ _ _ _

theorem stack_succ {α : Type} (z : α) (f : ℕ → S1x256.Idx → α) (r : ℕ) (k : Fin n) :
   stack hb tab z f (r + 1) (ix2 k l) = if tab (ix2 k l) = BitVec.ofNat 32 r then f r (ix2 0 l) else stack hb tab z f r (ix2 k l) := by
  pointwise [stack]
  exact select_eq _ _ _ _

/-- A stack holds row `q` where the table holds the number `q`. -/
theorem stack_apply {α : Type} (z : α) (f : ℕ → S1x256.Idx → α) (k : Fin n) (q : ℕ) (hq : tab (ix2 k l) = BitVec.ofNat 32 q) :
    ∀ r : ℕ, q < r → r < 2 ^ 32 → stack hb tab z f r (ix2 k l) = f q (ix2 0 l)
  | 0, h, _ => absurd h (Nat.not_lt_zero _)
  | r + 1, h, h2 => by
    rw [stack_succ, hq]
    by_cases e : q = r
    · subst e; rw [if_pos rfl]
    · rw [if_neg fun h' => e ?_]
      · exact stack_apply z f k q hq r (by omega) (by omega)
      · have := congrArg BitVec.toNat h'
        simp only [BitVec.toNat_ofNat] at this
        omega

variable (x : Fin n → EReal) (hx : ∀ i, ⊥ < x i) (num : Fin n → ℕ) (hnum : StrictMono num) (B : ℕ) (hB : B < 2 ^ 31) (hle : ∀ i, num i ≤ B)
  (htab : ∀ k, tab (ix2 k l) = BitVec.ofNat 32 (num k)) (r : Fin n) (hs : ∀ k, s (ix2 k l) = rest x r.val k)

include hs in
theorem rowMax_rest (z : Fin 1) : rowMax hr s (ix2 z l) = x (pick x r) := by
  rw [rowMax_apply]
  refine le_antisymm (Finset.sup_le fun k _ => ?_) ?_
  · exact (hs k).le.trans (rest_le x r k)
  · refine le_trans (le_of_eq ?_) (Finset.le_sup (f := lane s l) (Finset.mem_univ (pick x r)))
    exact ((hs _).trans (rest_pick x r)).symm

include hx hnum hB hle htab hs in
theorem rowArg_rest (z : Fin 1) : rowArg hr hb (BitVec.ofNat 32 B) tab s (ix2 z l) = BitVec.ofNat 32 (num (pick x r)) := by
  classical
  rw [rowArg_apply]
  have hf : (fun k => if s (ix2 k l) = rowMax hr s (ix2 0 l) then tab (ix2 k l) else BitVec.ofNat 32 B)
      = fun k => BitVec.ofNat 32 (if rest x r.val k = x (pick x r) then num k else B) := funext fun k => by
    rw [rowMax_rest hr s l x r hs, hs, htab]
    split <;> rfl
  rw [hf]
  refine (minsi_words 2147483647 (by norm_num) _ (fun k => ?_) _).trans (congrArg _ ?_)
  · split
    · exact lt_of_le_of_lt (hle k) hB
    · exact hB
  · refine le_antisymm ((Finset.fold_min_le _).mpr (Or.inr ⟨pick x r, Finset.mem_univ _, ?_⟩)) ((Finset.le_fold_min _).mpr ⟨?_, fun k _ => ?_⟩)
    · rw [if_pos (rest_pick x r)]
    · have := hle (pick x r); omega
    · split
      · rename_i h
        exact hnum.monotone (pick_le_of_rest x hx r k h)
      · exact hle _

include hx hnum hB hle htab hs in
theorem strike_rest (k : Fin n) : strike hr hb (BitVec.ofNat 32 B) tab s (ix2 k l) = rest x (r.val + 1) k := by
  rw [strike_apply, rowArg_rest hr hb tab s l x hx num hnum B hB hle htab r hs, htab, rest_succ, hs]
  refine if_congr ⟨fun h => ?_, fun h => by rw [h]⟩ rfl rfl
  have := congrArg BitVec.toNat h
  simp only [BitVec.toNat_ofNat] at this
  have h1 := hle k; have h2 := hle (pick x r)
  exact hnum.injective (by omega)

include hx hnum hB hle htab in
/-- After `r` rounds the first `r` are struck out. -/
theorem col_rest (h0 : ∀ k, s (ix2 k l) = x k) : ∀ (r : ℕ), r ≤ n → ∀ k, col hr hb (BitVec.ofNat 32 B) tab s r (ix2 k l) = rest x r k
  | 0, _, k => by rw [rest_zero]; exact h0 k
  | r + 1, h, k => strike_rest hr hb tab _ l x hx num hnum B hB hle htab ⟨r, h⟩ (col_rest h0 r (by omega)) k

end
end Cert.Route
-- ==== Proof.Lane.lean ====
/- One lane of the routing body: its two results as a plain formula of the lane's two columns of scores. -/
module
public import proofs.«01_k».proof.Proof.Rounds
@[expose] public section
noncomputable section
namespace Cert.Route
open Idealize.ShloMosaic Cert.Kernel6Ideal Cert.Kernel6Ideal.Gen

/-! ## The formula -/

section formula
variable (x0 x1 : Fin 128 → EReal)

/-- The place of the entry of rank `a`. -/
def key (x : Fin 128 → EReal) (a : Fin 16) : Fin 128 := pick x ⟨a.val, by omega⟩

/-- The entry of rank `a`. -/
def value (x : Fin 128 → EReal) (a : Fin 16) : EReal := x (key x a)

theorem value_antitone (x : Fin 128 → EReal) : Antitone (value x) := fun _ _ h => pick_antitone x h

/-- The pair of rank `r`. -/
def chosen (r : Fin 16) : Fin 256 := pick (sums (value x0) (value x1)) ⟨r.val, by omega⟩

/-- Its sum. -/
def total (r : Fin 16) : EReal := sums (value x0) (value x1) (chosen x0 x1 r)

/-- The expert of the pair. -/
def expert (r : Fin 16) : BitVec 32 :=
  IntOp.addi (IntOp.muli (BitVec.ofNat 32 (key x0 ⟨(chosen x0 x1 r).val / 16, by omega⟩).val) 128#32)
    (BitVec.ofNat 32 (key x1 ⟨(chosen x0 x1 r).val % 16, by omega⟩).val)

/-- The gate of the pair. -/
def gate (r : Fin 16) : EReal :=
  Ideal.div (Ideal.exp (total x0 x1 r - total x0 x1 0)) (∑ a : Fin 16, Ideal.exp (total x0 x1 a - total x0 x1 0))

end formula

/-! ## The tables -/

theorem iota16_apply (k : Fin 16) (l : Fin 256) : iota16 (ix2 k l) = BitVec.ofNat 32 k.val := by
  pointwise [iota16]
theorem iota128_apply (k : Fin 128) (l : Fin 256) : iota128 (ix2 k l) = BitVec.ofNat 32 k.val := by
  pointwise [iota128]
theorem iota8_apply (k : Fin 8) (l : Fin 256) : iota8 (ix2 k l) = BitVec.ofNat 32 k.val := by
  pointwise [iota8]

/-! ## The candidates -/

section cands
variable (u v : ℕ → FVec Ideal S1x256 .f32) (l : Fin 256)

/-- A lane's entries of the first sixteen rows. -/
def row (u : ℕ → FVec Ideal S1x256 .f32) (a : Fin 16) : EReal := u a.val (ix2 0 l)

theorem second_apply (b : Fin 16) : second v (ix2 b l) = row l v b :=
  stack_apply broadcasts_S1x256_S16x256 iota16 l _ v b b.val (iota16_apply b l) 16 b.isLt (by norm_num)

theorem firstLow_apply (b : Fin 8) : firstLow u (ix2 b l) = row l u ⟨8 + b.val, by omega⟩ :=
  stack_apply broadcasts_S1x256_S8x256 iota8 l _ (fun r => u (8 + r)) b b.val (iota8_apply b l) 8 b.isLt (by norm_num)

theorem sums8_apply (a : Fin 16) (b : Fin 8) : sums8 u v a.val (ix2 b l) = row l u a + row l v ⟨b.val, by omega⟩ := by
  pointwise [sums8]
  exact congrArg (fun z => u a.val (ix2 0 l) + z) (second_apply v l ⟨b.val, by omega⟩)

theorem sums_at (U V : Fin 16 → EReal) (p : Fin 256) (a b : Fin 16) (h : p.val = 16 * a.val + b.val) : U a + V b = sums U V p := by
  unfold sums
  exact congrArg₂ (fun x y => U x + V y) (Fin.ext (by simp only; omega)) (Fin.ext (by simp only; omega))

theorem pair_low (k : Fin 80) (h : k.val < 16) : (pair k).val = k.val := by
  unfold pair; rw [if_pos h]
theorem pair_mid (k : Fin 80) (h : ¬ k.val < 16) (h' : k.val < 72) : (pair k).val = 16 * ((k.val - 16) / 8 + 1) + (k.val - 16) % 8 := by
  unfold pair; rw [if_neg h, if_pos h']
theorem pair_high (k : Fin 80) (h : ¬ k.val < 72) : (pair k).val = 16 * (k.val - 64) := by
  unfold pair; rw [if_neg (by omega), if_neg h]

theorem cands_apply (k : Fin 80) : cands u v (ix2 k l) = sums (row l u) (row l v) (pair k) := by
  have hmid : ∀ (a : Fin 16) (b : Fin 8), 1 ≤ a.val → a.val < 8 → k.val = 16 + 8 * (a.val - 1) + b.val →
      sums8 u v a.val (ix2 b l) = sums (row l u) (row l v) (pair k) := fun a b h1 h2 h => by
    rw [sums8_apply]
    refine sums_at _ _ _ _ _ ?_
    rw [pair_mid k (by omega) (by omega)]
    simp only
    omega
  pointwise [cands]
  by_cases h0 : k.val < 16
  · refine (dif_pos h0).trans ((congrArg (fun z => u 0 (ix2 0 l) + z) (second_apply v l ⟨k.val, h0⟩)).trans
      (sums_at (row l u) (row l v) (pair k) 0 ⟨k.val, h0⟩ ?_))
    rw [pair_low k h0]
    simp
  refine (dif_neg h0).trans ?_
  by_cases h1 : k.val - 16 < 8
  · exact (dif_pos h1).trans (hmid 1 ⟨_, h1⟩ (by decide) (by decide) (show k.val = 16 + 8 * (1 - 1) + (k.val - 16) by omega))
  refine (dif_neg h1).trans ?_
  by_cases h2 : k.val - 16 - 8 < 8
  · exact (dif_pos h2).trans (hmid 2 ⟨_, h2⟩ (by decide) (by decide) (show k.val = 16 + 8 * (2 - 1) + (k.val - 16 - 8) by omega))
  refine (dif_neg h2).trans ?_
  by_cases h3 : k.val - 16 - 8 - 8 < 8
  · exact (dif_pos h3).trans (hmid 3 ⟨_, h3⟩ (by decide) (by decide) (show k.val = 16 + 8 * (3 - 1) + (k.val - 16 - 8 - 8) by omega))
  refine (dif_neg h3).trans ?_
  by_cases h4 : k.val - 16 - 8 - 8 - 8 < 8
  · exact (dif_pos h4).trans (hmid 4 ⟨_, h4⟩ (by decide) (by decide) (show k.val = 16 + 8 * (4 - 1) + (k.val - 16 - 8 - 8 - 8) by omega))
  refine (dif_neg h4).trans ?_
  by_cases h5 : k.val - 16 - 8 - 8 - 8 - 8 < 8
  · exact (dif_pos h5).trans (hmid 5 ⟨_, h5⟩ (by decide) (by decide) (show k.val = 16 + 8 * (5 - 1) + (k.val - 16 - 8 - 8 - 8 - 8) by omega))
  refine (dif_neg h5).trans ?_
  by_cases h6 : k.val - 16 - 8 - 8 - 8 - 8 - 8 < 8
  · exact (dif_pos h6).trans (hmid 6 ⟨_, h6⟩ (by decide) (by decide) (show k.val = 16 + 8 * (6 - 1) + (k.val - 16 - 8 - 8 - 8 - 8 - 8) by omega))
  refine (dif_neg h6).trans ?_
  by_cases h7 : k.val - 16 - 8 - 8 - 8 - 8 - 8 - 8 < 8
  · exact (dif_pos h7).trans (hmid 7 ⟨_, h7⟩ (by decide) (by decide) (show k.val = 16 + 8 * (7 - 1) + (k.val - 16 - 8 - 8 - 8 - 8 - 8 - 8) by omega))
  refine (dif_neg h7).trans ?_
  have hk := k.isLt
  refine (congrArg (fun z => z + v 0 (ix2 0 l)) (firstLow_apply u l ⟨_, by omega⟩)).trans (sums_at (row l u) (row l v) (pair k) _ 0 ?_)
  rw [pair_high k (by omega)]
  simp only [Fin.val_zero]
  omega

theorem nums8_apply (w b : ℕ) (hb : b < 8) : nums8 (BitVec.ofNat 32 w) (ix2 ⟨b, hb⟩ l) = BitVec.ofNat 32 (w + b) := by
  pointwise [nums8, iota8_apply]
  exact (BitVec.ofNat_add _ _).symm

theorem flat_apply (k : Fin 80) : flat (ix2 k l) = BitVec.ofNat 32 (pair k).val := by
  have hmid : ∀ (w : ℕ) (b : ℕ) (hb : b < 8), ¬ k.val < 16 → k.val < 72 → w + b = 16 * ((k.val - 16) / 8 + 1) + (k.val - 16) % 8 →
      nums8 (BitVec.ofNat 32 w) (ix2 ⟨b, hb⟩ l) = BitVec.ofNat 32 (pair k).val := fun w b hb h0 h1 h => by
    rw [nums8_apply, h, pair_mid k h0 h1]
  pointwise [flat]
  by_cases h0 : k.val < 16
  · exact (dif_pos h0).trans ((iota16_apply ⟨k.val, h0⟩ l).trans (congrArg _ (pair_low k h0).symm))
  refine (dif_neg h0).trans ?_
  by_cases h1 : k.val - 16 < 8
  · exact (dif_pos h1).trans (hmid 16 _ h1 h0 (by omega) (by omega))
  refine (dif_neg h1).trans ?_
  by_cases h2 : k.val - 16 - 8 < 8
  · exact (dif_pos h2).trans (hmid 32 _ h2 h0 (by omega) (by omega))
  refine (dif_neg h2).trans ?_
  by_cases h3 : k.val - 16 - 8 - 8 < 8
  · exact (dif_pos h3).trans (hmid 48 _ h3 h0 (by omega) (by omega))
  refine (dif_neg h3).trans ?_
  by_cases h4 : k.val - 16 - 8 - 8 - 8 < 8
  · exact (dif_pos h4).trans (hmid 64 _ h4 h0 (by omega) (by omega))
  refine (dif_neg h4).trans ?_
  by_cases h5 : k.val - 16 - 8 - 8 - 8 - 8 < 8
  · exact (dif_pos h5).trans (hmid 80 _ h5 h0 (by omega) (by omega))
  refine (dif_neg h5).trans ?_
  by_cases h6 : k.val - 16 - 8 - 8 - 8 - 8 - 8 < 8
  · exact (dif_pos h6).trans (hmid 96 _ h6 h0 (by omega) (by omega))
  refine (dif_neg h6).trans ?_
  by_cases h7 : k.val - 16 - 8 - 8 - 8 - 8 - 8 - 8 < 8
  · exact (dif_pos h7).trans (hmid 112 _ h7 h0 (by omega) (by omega))
  refine (dif_neg h7).trans ?_
  have hk := k.isLt
  refine (congrArg (fun z => IntOp.muli z 16#32) (nums8_apply l 8 _ (by omega))).trans ?_
  rw [pair_high k (by omega)]
  refine (BitVec.ofNat_mul _ _).symm.trans (congrArg _ ?_)
  omega

end cands

/-! ## Quotient and remainder -/

theorem quo_words : ∀ q : Fin 256, quo (fun _ => BitVec.ofNat 32 q.val) (ix2 0 0) = BitVec.ofNat 32 (q.val / 16) := by
  decide +kernel

theorem remn_words : ∀ q : Fin 256, remn (fun _ => BitVec.ofNat 32 q.val) (ix2 0 0) = BitVec.ofNat 32 (q.val % 16) := by
  decide +kernel

theorem quo_apply (p : IVec S16x256 32) (k : Fin 16) (l : Fin 256) (q : Fin 256) (h : p (ix2 k l) = BitVec.ofNat 32 q.val) :
    quo p (ix2 k l) = BitVec.ofNat 32 (q.val / 16) := by
  have h2 : quo p (ix2 k l) = quo (fun _ => p (ix2 k l)) (ix2 0 0) := by pointwise [quo]
  rw [h2, h]
  exact quo_words q

theorem remn_apply (p : IVec S16x256 32) (k : Fin 16) (l : Fin 256) (q : Fin 256) (h : p (ix2 k l) = BitVec.ofNat 32 q.val) :
    remn p (ix2 k l) = BitVec.ofNat 32 (q.val % 16) := by
  have h2 : remn p (ix2 k l) = remn (fun _ => p (ix2 k l)) (ix2 0 0) := by pointwise [remn]
  rw [h2, h]
  exact remn_words q

/-! ## The body's results -/

section body
variable (s0 s1 : FVec Ideal S128x256 .f32) (l : Fin 256) (h0 : ∀ k, ⊥ < lane s0 l k) (h1 : ∀ k, ⊥ < lane s1 l k)

theorem best_apply (s : FVec Ideal S128x256 .f32) (h : ∀ k, ⊥ < lane s l k) (a : Fin 16) (z : Fin 1) : best s a.val (ix2 z l) = value (lane s l) a :=
  rowMax_rest reduces_S128x256_S256 _ l (lane s l) ⟨a.val, by omega⟩ (col_rest reduces_S128x256_S256 broadcasts_S1x256_S128x256 iota128 s l (lane s l) h
    Fin.val (fun _ _ h => h) 128 (by norm_num) (fun i => i.isLt.le) (fun k => iota128_apply k l) (fun _ => rfl) a.val (by omega)) z

theorem bestKey_apply (s : FVec Ideal S128x256 .f32) (h : ∀ k, ⊥ < lane s l k) (a : Fin 16) (z : Fin 1) :
    bestKey s a.val (ix2 z l) = BitVec.ofNat 32 (key (lane s l) a).val :=
  rowArg_rest reduces_S128x256_S256 broadcasts_S1x256_S128x256 iota128 _ l (lane s l) h Fin.val (fun _ _ h => h) 128 (by norm_num) (fun i => i.isLt.le)
    (fun k => iota128_apply k l) ⟨a.val, by omega⟩ (col_rest reduces_S128x256_S256 broadcasts_S1x256_S128x256 iota128 s l (lane s l) h
    Fin.val (fun _ _ h => h) 128 (by norm_num) (fun i => i.isLt.le) (fun k => iota128_apply k l) (fun _ => rfl) a.val (by omega)) z

include h0 h1 in
theorem cand_lane (k : Fin 80) : cands (best s0) (best s1) (ix2 k l) = sums (value (lane s0 l)) (value (lane s1 l)) (pair k) := by
  rw [cands_apply]
  exact congrArg₂ (fun u v => sums u v (pair k)) (funext fun a => best_apply l s0 h0 a 0) (funext fun a => best_apply l s1 h1 a 0)

include h0 h1 in
theorem cand_pos (k : Fin 80) : ⊥ < sums (value (lane s0 l)) (value (lane s1 l)) (pair k) :=
  EReal.bot_lt_add_iff.mpr ⟨h0 _, h1 _⟩

theorem pairNum_mono : StrictMono fun k => (pair k).val := fun _ _ h => pair_strictMono h

include h0 h1 in
theorem cand_col (r : Fin 16) : ∀ k, col reduces_S80x256_S256 broadcasts_S1x256_S80x256 256#32 flat (cands (best s0) (best s1)) r.val (ix2 k l)
    = rest (fun k => sums (value (lane s0 l)) (value (lane s1 l)) (pair k)) r.val k :=
  col_rest reduces_S80x256_S256 broadcasts_S1x256_S80x256 flat _ l _ (cand_pos s0 s1 l h0 h1) _ pairNum_mono 256 (by norm_num) (fun i => (pair i).isLt.le)
    (fun k => flat_apply l k) (cand_lane s0 s1 l h0 h1) r.val (by omega)

include h0 h1 in
theorem top_apply (r : Fin 16) (z : Fin 1) : top (cands (best s0) (best s1)) r.val (ix2 z l) = total (lane s0 l) (lane s1 l) r :=
  (rowMax_rest reduces_S80x256_S256 _ l _ ⟨r.val, by omega⟩ (cand_col s0 s1 l h0 h1 r) z).trans
    (congrArg (sums (value (lane s0 l)) (value (lane s1 l))) (pick_sums _ _ (value_antitone _) (value_antitone _) r))

include h0 h1 in
theorem topNum_apply (r : Fin 16) (z : Fin 1) : topNum (cands (best s0) (best s1)) r.val (ix2 z l) = BitVec.ofNat 32 (chosen (lane s0 l) (lane s1 l) r).val :=
  (rowArg_rest reduces_S80x256_S256 broadcasts_S1x256_S80x256 flat _ l _ (cand_pos s0 s1 l h0 h1) _ pairNum_mono 256 (by norm_num) (fun i => (pair i).isLt.le)
    (fun k => flat_apply l k) ⟨r.val, by omega⟩ (cand_col s0 s1 l h0 h1 r) z).trans
    (congrArg (fun p : Fin 256 => BitVec.ofNat 32 p.val) (pick_sums _ _ (value_antitone _) (value_antitone _) r))

include h0 h1 in
theorem nums_apply (r : Fin 16) : nums (cands (best s0) (best s1)) (ix2 r l) = BitVec.ofNat 32 (chosen (lane s0 l) (lane s1 l) r).val :=
  (stack_apply broadcasts_S1x256_S16x256 iota16 l _ _ r r.val (iota16_apply r l) 16 r.isLt (by norm_num)).trans (topNum_apply s0 s1 l h0 h1 r 0)

include h0 h1 in
theorem experts_apply (r : Fin 16) : experts s0 s1 (ix2 r l) = expert (lane s0 l) (lane s1 l) r := by
  have e0 := stack_apply broadcasts_S1x256_S16x256 (quo (nums (cands (best s0) (best s1)))) l 0#32 (bestKey s0) r _
    (quo_apply _ r l _ (nums_apply s0 s1 l h0 h1 r)) 16 (by omega) (by norm_num)
  have e1 := stack_apply broadcasts_S1x256_S16x256 (remn (nums (cands (best s0) (best s1)))) l 0#32 (bestKey s1) r _
    (remn_apply _ r l _ (nums_apply s0 s1 l h0 h1 r)) 16 (by omega) (by norm_num)
  pointwise [experts]
  rw [e0, e1]
  exact congrArg₂ (fun a b => IntOp.addi (IntOp.muli a 128#32) b) (bestKey_apply l s0 h0 ⟨_, by omega⟩ 0) (bestKey_apply l s1 h1 ⟨_, by omega⟩ 0)

theorem sumTo_apply (e : ℕ → FVec Ideal S1x256 .f32) : ∀ r : ℕ, sumTo e r (ix2 0 l) = ∑ a : Fin (r + 1), e a.val (ix2 0 l)
  | 0 => by simp [sumTo]
  | r + 1 => by
    rw [Fin.sum_univ_castSucc]
    pointwise [sumTo]
    exact congrArg (fun z => z + e (r + 1) (ix2 0 l)) (sumTo_apply e r)

include h0 h1 in
theorem lifted_apply (r : Fin 16) : lifted (top (cands (best s0) (best s1))) r.val (ix2 0 l) = Ideal.exp (total (lane s0 l) (lane s1 l) r - total (lane s0 l) (lane s1 l) 0) := by
  pointwise [lifted]
  exact congrArg₂ (fun a b : EReal => Ideal.exp (a - b)) (top_apply s0 s1 l h0 h1 r 0) (top_apply s0 s1 l h0 h1 0 0)

include h0 h1 in
theorem gates_apply (r : Fin 16) : gates s0 s1 (ix2 r l) = gate (lane s0 l) (lane s1 l) r := by
  refine (stack_apply broadcasts_S1x256_S16x256 iota16 l _ _ r r.val (iota16_apply r l) 16 r.isLt (by norm_num)).trans ?_
  have hs : sumTo (lifted (top (cands (best s0) (best s1)))) 15 (ix2 0 l)
      = ∑ a : Fin 16, Ideal.exp (total (lane s0 l) (lane s1 l) a - total (lane s0 l) (lane s1 l) 0) :=
    (sumTo_apply l _ 15).trans (Finset.sum_congr rfl fun a _ => lifted_apply s0 s1 l h0 h1 a)
  have hr := lifted_apply s0 s1 l h0 h1 r
  generalize lifted (top (cands (best s0) (best s1))) = e at hs hr ⊢
  generalize sumTo e 15 = d at hs ⊢
  pointwise []
  rw [hr, hs]
  rfl

end body
end Cert.Route
-- ==== Proof.Scores.lean ====
/- The scores: what the routing body computes of a tile's rows, in the terms of the arrays. -/
module
public import proofs.«01_k».proof.Proof.Norm
public import proofs.«01_k».proof.Proof.Lane
public import proofs.«01_k».proof.Proof.Gen.Reference6Ideal.Read
@[expose] public section
set_option maxRecDepth 16384
noncomputable section
namespace Cert.Route
open Idealize.ShloMosaic Cert.Kernel6Ideal Cert.Kernel6Ideal.Gen Idealize.ShloMosaic.Pipeline
open Cert.Norm

/-- The score of row `p` on key `n` of half `s` of head `e`. -/
def score (x : S50688x1024.Idx → EReal) (g : S1024.Idx → EReal) (w : S1024x2048.Idx → EReal) (k : S8x2x128x128.Idx → EReal)
    (p : Fin 50688) (e : Fin 8) (s : Fin 2) (n : Fin 128) : EReal :=
  ∑ d : Fin 128, k (ix4 e s n d) * ∑ j : Fin 1024, scaled 0x44800000#32 (fun j => x (ix2 p j)) (fun j => g (ix1 j)) j * w (ix2 j ⟨e.val * 256 + s.val * 128 + d.val, by omega⟩)

theorem normed_apply (x : Vec Ideal S256x1024 .f32) (g : Vec Ideal S1x1024 .f32) (i : Fin 256) (j : Fin 1024) :
    k0_pay2 x g (ix2 i j) = scaled 0x44800000#32 (fun j => x (ix2 i j)) (fun j => g (ix2 0 j)) j := by
  pointwise [k0_pay2]
  rfl

theorem score0_apply (x2 : Vec Ideal S1024x256 .bf16) (x3 : Vec Ideal S2x128x128 .bf16) (xn : Vec Ideal S256x1024 .bf16) (n : Fin 128) (l : Fin 256) :
    score0 x2 x3 xn (ix2 n l) = ∑ d : Fin 128, x3 (ix3 0 n d) * ∑ j : Fin 1024, xn (ix2 l j) * x2 (ix2 j ⟨d.val, by omega⟩) := by
  pointwise [score0, k0_pay4, k0_pay3]
theorem score1_apply (x2 : Vec Ideal S1024x256 .bf16) (x3 : Vec Ideal S2x128x128 .bf16) (xn : Vec Ideal S256x1024 .bf16) (n : Fin 128) (l : Fin 256) :
    score1 x2 x3 xn (ix2 n l) = ∑ d : Fin 128, x3 (ix3 1 n d) * ∑ j : Fin 1024, xn (ix2 l j) * x2 (ix2 j ⟨128 + d.val, by omega⟩) := by
  pointwise [score1, k0_pay5, k0_pay3]

theorem refScore_apply (x : S50688x1024.Idx → EReal) (g : S1024.Idx → EReal) (w : S1024x2048.Idx → EReal) (k : S8x2x128x128.Idx → EReal)
    (p : Fin 50688) (e : Fin 8) (s : Fin 2) (n : Fin 128) :
    Cert.Reference6Ideal.Read.val_main_v16 (F := Ideal) x g w k (ix4 p e s n) = score x g w k p e s n := by
  open Cert.Reference6Ideal.Read in
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl
end Cert.Route
-- ==== Proof.Tiles.lean ====
/- The routing kernel's results, element by element, as the formula over the arrays. -/
module
public import proofs.«01_k».proof.Proof.Scores
public import Idealize.ShloMosaic.Lib.StableHlo.RunRead
@[expose] public section
set_option maxRecDepth 16384
noncomputable section
namespace Cert.Route
open Idealize.ShloMosaic Cert.Kernel6Ideal Cert.Kernel6Ideal.Gen Idealize.ShloMosaic.Pipeline
open Idealize.SL.Sem Idealize.ShloMosaic.TcCoe
open Cert.Norm
variable (m : (ℓ : Loc nD Cert.Kernel6Ideal.τ Cert.Kernel6Ideal.sig) → Buf (Elt Ideal) ℓ)

theorem idx0 : ∀ t, win0_0.index t = ![(grid0.coords t 0).val, 0] := by decide +kernel
theorem idx1 : ∀ t, win0_1.index t = ![0, 0] := by decide +kernel
theorem idx2 : ∀ t, win0_2.index t = ![0, (grid0.coords t 1).val] := by decide +kernel
theorem idx3 : ∀ t, win0_3.index t = ![(grid0.coords t 1).val, 0, 0] := by decide +kernel
theorem idx4 : ∀ t, win0_4.index t = ![(grid0.coords t 1).val, (grid0.coords t 0).val] := by decide +kernel
theorem idx5 : ∀ t, win0_5.index t = ![(grid0.coords t 1).val, (grid0.coords t 0).val] := by decide +kernel

/-- The tile and the head of a grid point. -/
abbrev tile (t : Fin cfg0.N) : Fin 198 := grid0.coords t 0
abbrev head (t : Fin cfg0.N) : Fin 8 := grid0.coords t 1

theorem tile_val : ∀ t : Fin cfg0.N, (tile t).val = t.val / 8 := (by decide +kernel : ∀ t : Fin grid0.N, (grid0.coords t 0).val = t.val / 8)

theorem block0 (c : Dev nD) (t : Fin cfg0.N) (i : Fin 256) (k : Fin 1024) :
    iblk m c 0 t (ix2 i k) = V m c main_arg0 (ix2 ⟨256 * (tile t).val + i.val, by omega⟩ k) := by
  have hr : (grid0.coords t 0).val < 198 := (tile t).isLt
  unfold tile
  blk_ext [iblk, V, idx0 t]
theorem block1 (c : Dev nD) (t : Fin cfg0.N) (z : Fin 1) (k : Fin 1024) :
    iblk m c 1 t (ix2 z k) = V m c main_v2 (ix2 z k) := by
  blk_ext [iblk, V, idx1 t]
theorem block2 (c : Dev nD) (t : Fin cfg0.N) (k : Fin 1024) (j : Fin 256) :
    iblk m c 2 t (ix2 k j) = V m c main_v3 (ix2 k ⟨256 * (head t).val + j.val, by omega⟩) := by
  have hr : (grid0.coords t 1).val < 8 := (head t).isLt
  unfold head
  blk_ext [iblk, V, idx2 t]
theorem block3 (c : Dev nD) (t : Fin cfg0.N) (s : Fin 2) (n d : Fin 128) :
    iblk m c 3 t (ix3 s n d) = V m c main_v1 (ix3 ⟨2 * (head t).val + s.val, by omega⟩ n d) := by
  have hr : (grid0.coords t 1).val < 8 := (head t).isLt
  unfold head
  blk_ext [iblk, V, idx3 t]

theorem gain (c : Dev nD) (k : Fin 1024) : V m c main_v2 (ix2 0 k) = m ((c : Thread nD τ).loc main_arg1) (ix1 k) := by
  unfold_abbrev_sides
  after_reads_simp
  pointwise
theorem weight (c : Dev nD) (k : Fin 1024) (j : Fin 2048) : V m c main_v3 (ix2 k j) = m ((c : Thread nD τ).loc main_arg2) (ix2 k j) := by
  unfold_abbrev_sides
  after_reads_simp
  pointwise
theorem keys (c : Dev nD) (e : Fin 8) (s : Fin 2) (n d : Fin 128) (h : 2 * e.val + s.val < 16) :
    V m c main_v1 (ix3 ⟨2 * e.val + s.val, h⟩ n d) = m ((c : Thread nD τ).loc main_arg3) (ix4 e s n d) := by
  unfold_abbrev_sides
  after_reads_simp
  pointwise
  exact congrArg₂ (fun (a : Fin 8) (b : Fin 2) => m ((c : Thread nD τ).loc main_arg3) (ix4 a b n d)) (Fin.ext (by simp only; omega)) (Fin.ext (by simp only; omega))

/-- The arrays of a launch. -/
abbrev rows (c : Dev nD) : S50688x1024.Idx → EReal := m ((c : Thread nD τ).loc main_arg0)
abbrev gains (c : Dev nD) : S1024.Idx → EReal := m ((c : Thread nD τ).loc main_arg1)
abbrev weights (c : Dev nD) : S1024x2048.Idx → EReal := m ((c : Thread nD τ).loc main_arg2)
abbrev allKeys (c : Dev nD) : S8x2x128x128.Idx → EReal := m ((c : Thread nD τ).loc main_arg3)

/-- Row `p` of the tokens, scaled. -/
def normed (c : Dev nD) (p : Fin 50688) (j : Fin 1024) : EReal :=
  scaled 0x44800000#32 (fun j => rows m c (ix2 p j)) (fun j => gains m c (ix1 j)) j

theorem first_apply (c : Dev nD) (t : Fin cfg0.N) (i : Fin 256) (j : Fin 1024) :
    k0_pay2 (iblk m c 0 t) (iblk m c 1 t) (ix2 i j) = normed m c ⟨256 * (tile t).val + i.val, by omega⟩ j := by
  refine (normed_apply _ _ i j).trans ?_
  unfold normed
  simp only [block0, block1]
  exact congrArg₂ (fun x g => scaled 0x44800000#32 x g j) (funext fun _ => congrFun (V_main_arg0 m c) _) (funext fun j => gain m c j)

/-- What the carried rows are after each point: its tile's. -/
theorem carried_apply (c : Dev nD) : ∀ (n : ℕ) (hn : n < cfg0.N) (i : Fin 256) (j : Fin 1024),
    (outsAt0 m c n hn).2.2 (ix2 i j) = normed m c ⟨256 * (tile ⟨n, hn⟩).val + i.val, by omega⟩ j
  | n, hn, i, j => by
    by_cases h0 : n % 8 = 0
    · rw [outsAt0_A m c ⟨n, hn⟩ h0]
      dsimp only
      rw [sout_A]
      exact first_apply m c ⟨n, hn⟩ i j
    · rw [outsAt0_B m c ⟨n, hn⟩ h0]
      refine (carried_apply c (n - 1) (Nat.lt_of_le_of_lt (Nat.sub_le _ _) hn) i j).trans (congrArg (fun p => normed m c p j) (Fin.ext ?_))
      have h1 := tile_val ⟨n, hn⟩
      have h2 := tile_val ⟨n - 1, Nat.lt_of_le_of_lt (Nat.sub_le _ _) hn⟩
      simp only at h1 h2 ⊢
      omega
  termination_by n => n
  decreasing_by omega

theorem half0 (c : Dev nD) (t : Fin cfg0.N) (xn : Vec Ideal S256x1024 .bf16) (l : Fin 256) (h : ∀ j, xn (ix2 l j) = normed m c ⟨256 * (tile t).val + l.val, by omega⟩ j) :
    lane (score0 (iblk m c 2 t) (iblk m c 3 t) xn) l = score (rows m c) (gains m c) (weights m c) (allKeys m c) ⟨256 * (tile t).val + l.val, by omega⟩ (head t) 0 := by
  funext n
  refine (score0_apply _ _ xn n l).trans ?_
  unfold score
  simp only [block2, block3, h]
  refine Finset.sum_congr rfl fun d _ => congrArg₂ (· * ·) (keys m c (head t) 0 n d _) (Finset.sum_congr rfl fun j _ => congrArg₂ (· * ·) rfl ?_)
  refine (weight m c j _).trans (congrArg (fun q => weights m c (ix2 j q)) (Fin.ext ?_))
  simp only [Fin.val_zero]
  omega

theorem half1 (c : Dev nD) (t : Fin cfg0.N) (xn : Vec Ideal S256x1024 .bf16) (l : Fin 256) (h : ∀ j, xn (ix2 l j) = normed m c ⟨256 * (tile t).val + l.val, by omega⟩ j) :
    lane (score1 (iblk m c 2 t) (iblk m c 3 t) xn) l = score (rows m c) (gains m c) (weights m c) (allKeys m c) ⟨256 * (tile t).val + l.val, by omega⟩ (head t) 1 := by
  funext n
  refine (score1_apply _ _ xn n l).trans ?_
  unfold score
  simp only [block2, block3, h]
  refine Finset.sum_congr rfl fun d _ => congrArg₂ (· * ·) (keys m c (head t) 1 n d _) (Finset.sum_congr rfl fun j _ => congrArg₂ (· * ·) rfl ?_)
  refine (weight m c j _).trans (congrArg (fun q => weights m c (ix2 j q)) (Fin.ext ?_))
  simp only [Fin.val_one]
  omega

/-- The rows a point's body reads: the ones it has just scaled, or the ones carried. -/
theorem point_rows (c : Dev nD) (t : Fin cfg0.N) : ∃ xn : Vec Ideal S256x1024 .bf16,
    (∀ (l : Fin 256) (j : Fin 1024), xn (ix2 l j) = normed m c ⟨256 * (tile t).val + l.val, by omega⟩ j)
    ∧ (outsAt0 m c t.val t.isLt).1 = experts (score0 (iblk m c 2 t) (iblk m c 3 t) xn) (score1 (iblk m c 2 t) (iblk m c 3 t) xn)
    ∧ (outsAt0 m c t.val t.isLt).2.1 = gates (score0 (iblk m c 2 t) (iblk m c 3 t) xn) (score1 (iblk m c 2 t) (iblk m c 3 t) xn) := by
  by_cases h0 : t.val % 8 = 0
  · refine ⟨k0_pay2 (iblk m c 0 t) (iblk m c 1 t), fun l j => first_apply m c t l j, ?_, ?_⟩ <;> rw [outsAt0_A m c t h0] <;> dsimp only
    · rw [out_A_4]
    · rw [out_A_5]
  · refine ⟨(outsAt0 m c (t.val - 1) (Nat.lt_of_le_of_lt (Nat.sub_le _ _) t.isLt)).2.2, fun l j => ?_, ?_, ?_⟩
    · refine (carried_apply m c (t.val - 1) _ l j).trans (congrArg (fun p => normed m c p j) (Fin.ext ?_))
      have h1 := tile_val t
      have h2 := tile_val ⟨t.val - 1, Nat.lt_of_le_of_lt (Nat.sub_le _ _) t.isLt⟩
      simp only at h1 h2 ⊢
      omega
    · rw [outsAt0_B m c t h0]
      dsimp only
      rw [out_B_4]
    · rw [outsAt0_B m c t h0]
      dsimp only
      rw [out_B_5]

/-! ## The arrays -/

/-- The results, at slot `q` of row `p`: the expert and the gate of the head `q / 16`, at rank `q % 16`. -/
def expertAt (x : S50688x1024.Idx → EReal) (g : S1024.Idx → EReal) (w : S1024x2048.Idx → EReal) (k : S8x2x128x128.Idx → EReal) (q : Fin 128) (p : Fin 50688) : BitVec 32 :=
  expert (score x g w k p ⟨q.val / 16, by omega⟩ 0) (score x g w k p ⟨q.val / 16, by omega⟩ 1) ⟨q.val % 16, by omega⟩
def gateAt (x : S50688x1024.Idx → EReal) (g : S1024.Idx → EReal) (w : S1024x2048.Idx → EReal) (k : S8x2x128x128.Idx → EReal) (q : Fin 128) (p : Fin 50688) : EReal :=
  gate (score x g w k p ⟨q.val / 16, by omega⟩ 0) (score x g w k p ⟨q.val / 16, by omega⟩ 1) ⟨q.val % 16, by omega⟩

/-- No score is minus infinity. -/
def Scored (c : Dev nD) : Prop := ∀ p e s n, ⊥ < score (rows m c) (gains m c) (weights m c) (allKeys m c) p e s n

theorem place4 (t : Fin cfg0.N) (i : Fin 16) (j : Fin 256) :
    (win0_4.blk t).view.emb (ix2 i j) = ix2 ⟨16 * (head t).val + i.val, by omega⟩ ⟨256 * (tile t).val + j.val, by omega⟩ := by
  have hr : (grid0.coords t 0).val < 198 := (tile t).isLt
  have hc : (grid0.coords t 1).val < 8 := (head t).isLt
  unfold tile head
  blk_ext [idx4 t]
theorem place5 (t : Fin cfg0.N) (i : Fin 16) (j : Fin 256) :
    (win0_5.blk t).view.emb (ix2 i j) = ix2 ⟨16 * (head t).val + i.val, by omega⟩ ⟨256 * (tile t).val + j.val, by omega⟩ := by
  have hr : (grid0.coords t 0).val < 198 := (tile t).isLt
  have hc : (grid0.coords t 1).val < 8 := (head t).isLt
  unfold tile head
  blk_ext [idx5 t]

theorem slot_head (e : Fin 8) (r : Fin 16) (h : (16 * e.val + r.val) / 16 < 8) : (⟨(16 * e.val + r.val) / 16, h⟩ : Fin 8) = e := Fin.ext (by simp only; omega)
theorem slot_rank (e : Fin 8) (r : Fin 16) (h : (16 * e.val + r.val) % 16 < 16) : (⟨(16 * e.val + r.val) % 16, h⟩ : Fin 16) = r := Fin.ext (by simp only; omega)

theorem point4 (c : Dev nD) (hs : Scored m c) (t : Fin cfg0.N) (i : Fin 16) (j : Fin 256) :
    (dats m 0 c).after 4 t (ix2 i j) = expertAt (rows m c) (gains m c) (weights m c) (allKeys m c) ⟨16 * (head t).val + i.val, by omega⟩ ⟨256 * (tile t).val + j.val, by omega⟩ := by
  rw [after0_4]
  obtain ⟨xn, hx, h4, -⟩ := point_rows m c t
  have e0 := half0 m c t xn j (hx j)
  have e1 := half1 m c t xn j (hx j)
  rw [h4]
  refine (experts_apply _ _ j (fun k => by rw [e0]; exact hs _ _ _ _) (fun k => by rw [e1]; exact hs _ _ _ _) i).trans ?_
  rw [e0, e1]
  unfold expertAt
  simp only [slot_head, slot_rank]

theorem point5 (c : Dev nD) (hs : Scored m c) (t : Fin cfg0.N) (i : Fin 16) (j : Fin 256) :
    (dats m 0 c).after 5 t (ix2 i j) = gateAt (rows m c) (gains m c) (weights m c) (allKeys m c) ⟨16 * (head t).val + i.val, by omega⟩ ⟨256 * (tile t).val + j.val, by omega⟩ := by
  rw [after0_5]
  obtain ⟨xn, hx, -, h5⟩ := point_rows m c t
  have e0 := half0 m c t xn j (hx j)
  have e1 := half1 m c t xn j (hx j)
  rw [h5]
  refine (gates_apply _ _ j (fun k => by rw [e0]; exact hs _ _ _ _) (fun k => by rw [e1]; exact hs _ _ _ _) i).trans ?_
  rw [e0, e1]
  unfold gateAt
  simp only [slot_head, slot_rank]

/-- The arrays of the results. -/
def expertArray (x : S50688x1024.Idx → EReal) (g : S1024.Idx → EReal) (w : S1024x2048.Idx → EReal) (k : S8x2x128x128.Idx → EReal) (y : S128x50688.Idx) : BitVec 32 :=
  expertAt x g w k (y 0) (y 1)
def gateArray (x : S50688x1024.Idx → EReal) (g : S1024.Idx → EReal) (w : S1024x2048.Idx → EReal) (k : S8x2x128x128.Idx → EReal) (y : S128x50688.Idx) : EReal :=
  gateAt x g w k (y 0) (y 1)
theorem expertArray_apply (x : S50688x1024.Idx → EReal) (g : S1024.Idx → EReal) (w : S1024x2048.Idx → EReal) (k : S8x2x128x128.Idx → EReal) (q : Fin 128) (p : Fin 50688) :
    expertArray x g w k (ix2 q p) = expertAt x g w k q p := rfl
theorem gateArray_apply (x : S50688x1024.Idx → EReal) (g : S1024.Idx → EReal) (w : S1024x2048.Idx → EReal) (k : S8x2x128x128.Idx → EReal) (q : Fin 128) (p : Fin 50688) :
    gateArray x g w k (ix2 q p) = gateAt x g w k q p := rfl
end Cert.Route
-- ==== Proof.RouteArrays.lean ====
/- The routing kernel's two result arrays. -/
module
public import proofs.«01_k».proof.Proof.Tiles
@[expose] public section
set_option maxRecDepth 16384
noncomputable section
namespace Cert.Route
open Idealize.ShloMosaic Cert.Kernel6Ideal Cert.Kernel6Ideal.Gen Idealize.ShloMosaic.Pipeline
open Idealize.SL.Sem Idealize.ShloMosaic.TcCoe
variable (m : (ℓ : Loc nD Cert.Kernel6Ideal.τ Cert.Kernel6Ideal.sig) → Buf (Elt Ideal) ℓ)

theorem array4 (c : Dev nD) (hs : Scored m c) : (dats m 0 c).arrAt 4 cfg0.N = expertArray (rows m c) (gains m c) (weights m c) (allKeys m c) := by
  refine (dats m 0 c).arrAt_eq_of_emb 4 _ (fun t hf y => ?_) (fun i => (Cert.Kernel6Ideal.Value.covered_iff4 i).2 (by
    have h0 : (i 0).val < 128 := (i 0).isLt
    have h1 : (i 1).val < 50688 := (i 1).isLt
    omega))
  blk_simp
  have hy : y = ix2 (n0 := 16) (n1 := 256) (y 0) (y 1) := eq_ix2 (n0 := 16) (n1 := 256) y
  rw [hy]
  refine (point4 m c hs t (y 0) (y 1)).trans ?_
  rw [← expertArray_apply]
  exact congrArg _ (place4 t (y 0) (y 1)).symm

theorem array5 (c : Dev nD) (hs : Scored m c) : (dats m 0 c).arrAt 5 cfg0.N = gateArray (rows m c) (gains m c) (weights m c) (allKeys m c) := by
  refine (dats m 0 c).arrAt_eq_of_emb 5 _ (fun t hf y => ?_) (fun i => (Cert.Kernel6Ideal.Value.covered_iff5 i).2 (by
    have h0 : (i 0).val < 128 := (i 0).isLt
    have h1 : (i 1).val < 50688 := (i 1).isLt
    omega))
  blk_simp
  have hy : y = ix2 (n0 := 16) (n1 := 256) (y 0) (y 1) := eq_ix2 (n0 := 16) (n1 := 256) y
  rw [hy]
  refine (point5 m c hs t (y 0) (y 1)).trans ?_
  rw [← gateArray_apply]
  exact congrArg _ (place5 t (y 0) (y 1)).symm
end Cert.Route
-- ==== Proof.HostTop.lean ====
/- The host's stable choice of the greatest entries along an axis, read at one place. -/
module
public import proofs.«01_k».proof.Proof.Rank
public import Idealize.ShloMosaic.PureOps.ShapeOps
public import Idealize.ShloMosaic.PureOps.Ideal
public import Idealize.ShloMosaic.PureOps.Ideal.Laws
@[expose] public section
noncomputable section
namespace Cert.Route
open Idealize.ShloMosaic

/-- The host's order puts the greater entry first. -/
theorem total_gt (a b : EReal) : (FloatOps.cmpfTotal (F := Ideal) (φ := .f32) .gt a b == 1#1) = decide (b < a) := by
  have h : FloatOps.cmpfTotal (F := Ideal) (φ := .f32) .gt a b = BitVec.ofBool (decide (b < a)) := rfl
  rw [h]
  by_cases hab : b < a
  · rw [decide_eq_true hab]; rfl
  · rw [decide_eq_false hab]; rfl

variable {s t : Shape} (d : ℕ) (hd : d < s.rank) (x : FVec Ideal s .f32) (h : s.Slices (fun _ => 0) t) (j : t.Idx)

/-- The operand's index at the slice's index `j`. -/
def within : s.Idx := fun a => ⟨0 + (j (a.cast h.1.symm)).val, Nat.lt_of_lt_of_le (Nat.add_lt_add_left (j _).isLt _) (h.2 a)⟩

/-- The operand's entries along the axis, through the index `j`. -/
def fibre : Fin (s.size ⟨d, hd⟩) → EReal := fun k => x ((within h j).along ⟨d, hd⟩ k)

theorem sort_places (J : s.Idx) : sortedFrom (fun k k' => FloatOps.cmpfTotal (F := Ideal) (φ := .f32) .gt (x (J.along ⟨d, hd⟩ k)) (x (J.along ⟨d, hd⟩ k')) == 1#1) (J ⟨d, hd⟩)
    = pick (fun k => x (J.along ⟨d, hd⟩ k)) (J ⟨d, hd⟩) := by
  rw [← sortedFrom_greater]
  refine congrArg (fun f => sortedFrom f _) (funext fun k => funext fun k' => ?_)
  exact total_gt _ _

theorem topK_value : (Host.topK t d (FloatOps.cmpfTotal (F := Ideal) (φ := .f32) .gt) x h).1 j = fibre d hd x h j (pick (fibre d hd x h j) (within h j ⟨d, hd⟩)) := by
  unfold Host.topK Host.sort2
  dsimp only
  rw [dif_pos hd]
  dsimp only
  exact congrArg (fun k => x ((within h j).along ⟨d, hd⟩ k)) (sort_places d hd x (within h j))

theorem topK_place : (Host.topK t d (FloatOps.cmpfTotal (F := Ideal) (φ := .f32) .gt) x h).2 j = BitVec.ofNat 32 (pick (fibre d hd x h j) (within h j ⟨d, hd⟩)).val := by
  unfold Host.topK Host.sort2
  dsimp only
  rw [dif_pos hd]
  dsimp only
  refine (dif_pos hd).trans ?_
  refine (congrArg (fun k => BitVec.ofNat 32 ((within h j).along ⟨d, hd⟩ k ⟨d, hd⟩).val) (sort_places d hd x (within h j))).trans ?_
  unfold Shape.Idx.along
  rw [Function.update_self]
  rfl

end Cert.Route
-- ==== Proof.Choices.lean ====
/- The reference's routing, element by element, as the same formula. -/
module
public import proofs.«01_k».proof.Proof.HostTop
public import proofs.«01_k».proof.Proof.Tiles
public import Idealize.ShloMosaic.Lib.Pipeline.ValueKit
@[expose] public section
set_option maxRecDepth 16384
noncomputable section
namespace Cert.Route
open Idealize.ShloMosaic Cert.Reference6Ideal Cert.Reference6Ideal.Gen Cert.Reference6Ideal.Read

theorem axis4 : 3 < S50688x8x2x128.rank := by decide
theorem axis3 : 2 < S50688x8x256.rank := by decide

section choices
variable (p : Fin 50688) (e : Fin 8)

theorem fibre4 (y : FVec Ideal S50688x8x2x128 .f32) (s : Fin 2) (a : Fin 16) :
    fibre 3 axis4 y sliceFits_S50688x8x2x128_S50688x8x2x16 (ix4 p e s a) = fun k : Fin 128 => y (ix4 p e s k) := by
  funext k
  refine congrArg y (funext fun b => Fin.ext ?_)
  match b with
  | ⟨0, _⟩ => exact Nat.zero_add _
  | ⟨1, _⟩ => exact Nat.zero_add _
  | ⟨2, _⟩ => exact Nat.zero_add _
  | ⟨3, _⟩ => rfl

theorem fibre3 (y : FVec Ideal S50688x8x256 .f32) (a : Fin 16) :
    fibre 2 axis3 y sliceFits_S50688x8x256_S50688x8x16 (ix3 p e a) = fun k : Fin 256 => y (ix3 p e k) := by
  funext k
  refine congrArg y (funext fun b => Fin.ext ?_)
  match b with
  | ⟨0, _⟩ => exact Nat.zero_add _
  | ⟨1, _⟩ => exact Nat.zero_add _
  | ⟨2, _⟩ => rfl

theorem along4 (s : Fin 2) (a : Fin 16) : within sliceFits_S50688x8x2x128_S50688x8x2x16 (ix4 p e s a) ⟨3, axis4⟩ = (⟨a.val, by omega⟩ : Fin 128) := Fin.ext (Nat.zero_add _)
theorem along3 (a : Fin 16) : within sliceFits_S50688x8x256_S50688x8x16 (ix3 p e a) ⟨2, axis3⟩ = (⟨a.val, by omega⟩ : Fin 256) := Fin.ext (Nat.zero_add _)

end choices

end Cert.Route
-- ==== Proof.RouteRef.lean ====
/- The reference's routing, element by element, as the same formula. -/
module
public import proofs.«01_k».proof.Proof.Choices
public import proofs.«01_k».proof.Proof.Tiles
public import Idealize.ShloMosaic.Lib.Pipeline.ValueKit
@[expose] public section
set_option maxRecDepth 16384
noncomputable section
namespace Cert.Route
open Idealize.ShloMosaic Cert.Reference6Ideal Cert.Reference6Ideal.Gen Cert.Reference6Ideal.Read

section reference
variable (x : S50688x1024.Idx → EReal) (g : S1024.Idx → EReal) (w : S1024x2048.Idx → EReal) (k : S8x2x128x128.Idx → EReal) (p : Fin 50688) (e : Fin 8)

theorem values_apply (s : Fin 2) (a : Fin 16) : val_main_values (F := Ideal) x g w k (ix4 p e s a) = value (score x g w k p e s) a := by
  unfold val_main_values
  rw [topK_value 3 axis4]
  have hf := fibre4 p e (val_main_v16 (F := Ideal) x g w k) s a
  rw [show (fun n : Fin 128 => val_main_v16 (F := Ideal) x g w k (ix4 p e s n)) = score x g w k p e s from funext fun n => refScore_apply x g w k p e s n] at hf
  rw [hf, along4]
  rfl

theorem indices_apply (s : Fin 2) (a : Fin 16) : val_main_indices (F := Ideal) x g w k (ix4 p e s a) = BitVec.ofNat 32 (key (score x g w k p e s) a).val := by
  unfold val_main_indices
  rw [topK_place 3 axis4]
  have hf := fibre4 p e (val_main_v16 (F := Ideal) x g w k) s a
  rw [show (fun n : Fin 128 => val_main_v16 (F := Ideal) x g w k (ix4 p e s n)) = score x g w k p e s from funext fun n => refScore_apply x g w k p e s n] at hf
  rw [hf, along4]
  rfl

theorem sums_apply (q : Fin 256) : val_main_v26 (F := Ideal) x g w k (ix3 p e q) = sums (value (score x g w k p e 0)) (value (score x g w k p e 1)) q := by
  pointwise [val_main_v26, val_main_v25, val_main_v24, val_main_v23, val_main_v22, val_main_v21, val_main_v20, val_main_v19, val_main_v18, val_main_v17]
  rw [values_apply, values_apply]
  rfl

theorem pairs_apply (q : Fin 256) : val_main_v38 (F := Ideal) x g w k (ix3 p e q)
    = IntOp.addi (IntOp.muli (BitVec.ofNat 32 (key (score x g w k p e 0) ⟨q.val / 16, by omega⟩).val) 128#32) (BitVec.ofNat 32 (key (score x g w k p e 1) ⟨q.val % 16, by omega⟩).val) := by
  pointwise [val_main_v38, val_main_v37, val_main_v36, val_main_v35, val_main_v34, val_main_v33, val_main_v32, val_main_v31, val_main_v30, val_main_v29, val_main_v28, val_main_v27, val_main_c]
  rw [indices_apply, indices_apply]

theorem totals_apply (r : Fin 16) : val_main_values_2 (F := Ideal) x g w k (ix3 p e r) = total (score x g w k p e 0) (score x g w k p e 1) r := by
  unfold val_main_values_2
  rw [topK_value 2 axis3]
  have hf := fibre3 p e (val_main_v26 (F := Ideal) x g w k) r
  rw [show (fun n : Fin 256 => val_main_v26 (F := Ideal) x g w k (ix3 p e n)) = _ from funext fun n => sums_apply x g w k p e n] at hf
  rw [hf, along3]
  rfl

theorem chosen_apply (r : Fin 16) : val_main_indices_3 (F := Ideal) x g w k (ix3 p e r) = BitVec.ofNat 32 (chosen (score x g w k p e 0) (score x g w k p e 1) r).val := by
  unfold val_main_indices_3
  rw [topK_place 2 axis3]
  have hf := fibre3 p e (val_main_v26 (F := Ideal) x g w k) r
  rw [show (fun n : Fin 256 => val_main_v26 (F := Ideal) x g w k (ix3 p e n)) = _ from funext fun n => sums_apply x g w k p e n] at hf
  rw [hf, along3]
  rfl

end reference
end Cert.Route
-- ==== Proof.RouteTake.lean ====
/- The expert numbers of the reference: read by position, and laid out by rows. -/
module
public import proofs.«01_k».proof.Proof.RouteRef
public import proofs.«01_k».proof.Proof.Tiles
public import Idealize.ShloMosaic.Lib.Pipeline.ValueKit
@[expose] public section
set_option maxRecDepth 16384
noncomputable section
namespace Cert.Route
open Idealize.ShloMosaic Cert.Reference6Ideal Cert.Reference6Ideal.Gen Cert.Reference6Ideal.Read

section reference
variable (x : S50688x1024.Idx → EReal) (g : S1024.Idx → EReal) (w : S1024x2048.Idx → EReal) (k : S8x2x128x128.Idx → EReal) (p : Fin 50688) (e : Fin 8)

theorem wrap_words : ∀ q : Fin 256, Scalar.select (IntOp.cmpi .slt (BitVec.ofNat 32 q.val) 0#32) (IntOp.addi (BitVec.ofNat 32 q.val) 256#32) (BitVec.ofNat 32 q.val) = BitVec.ofNat 32 q.val := by
  decide +kernel
theorem inside_words : ∀ q : Fin 256, IntOp.andi (IntOp.cmpi .sge (BitVec.ofNat 32 q.val) 0#32) (IntOp.cmpi .sle (BitVec.ofNat 32 q.val) 255#32) = 1#1 := by
  decide +kernel

theorem index_apply (r : Fin 16) (q : Fin 256) (h : val_main_indices_3 (F := Ideal) x g w k (ix3 p e r) = BitVec.ofNat 32 q.val) (z : Fin 1) :
    val_main_call0_v5 (F := Ideal) x g w k (ix4 p e r z) = BitVec.ofNat 32 q.val := by
  pointwise [val_main_call0_v5, val_main_call0_v4, val_main_call0_v3, val_main_call0_v2, val_main_call0_v1, val_main_call0_v0, val_main_call0_c, val_main_call0_c_0]
  rw [h]
  exact wrap_words q

theorem inside_apply (r : Fin 16) (q : Fin 256) (h : val_main_indices_3 (F := Ideal) x g w k (ix3 p e r) = BitVec.ofNat 32 q.val) (z : Fin 1) :
    val_main_call0_v11 (F := Ideal) x g w k (ix4 p e r z) = 1#1 := by
  have hv := index_apply x g w k p e r q h z
  pointwise [val_main_call0_v11, val_main_call0_v10, val_main_call0_v9, val_main_call0_v8, val_main_call0_v7, val_main_call0_v6, val_main_call0_c_1, val_main_call0_c_2]
  rw [hv]
  exact inside_words q

theorem mask_apply (r : Fin 16) (q : Fin 256) (h : val_main_indices_3 (F := Ideal) x g w k (ix3 p e r) = BitVec.ofNat 32 q.val) :
    val_main_call0_v12 (F := Ideal) x g w k (ix3 p e r) = 1#1 := by
  have hv := inside_apply x g w k p e r q h
  pointwise [val_main_call0_v12, val_main_call0_c_3]
  rw [show (fun z : Fin 1 => val_main_call0_v11 (F := Ideal) x g w k (ix4 p e r z)) = fun _ => 1#1 from funext hv]
  rfl

theorem kept_words : ∀ q : Fin 256, min (BitVec.ofNat 32 q.val).toInt.toNat (256 - 1) = q.val := by
  decide +kernel

/-- The dimension numbers of the read along the last axis. -/
abbrev Along := gather_S50688x8x256_S50688x8x16x1_S50688x8x16_n_2_01_01_2_3_111

theorem gather_along {α : Type} (y : S50688x8x256.Idx → α) (n : IVec S50688x8x16x1 32) (r : Fin 16) (q : Fin 256)
    (h : n (ix4 p e r 0) = BitVec.ofNat 32 q.val) : Host.gather Along y n (ix3 p e r) = y (ix3 p e q) := by
  have e0 : ∀ X : Fin 3, X = 0 → (ix3 p e r X).val = p.val := fun X h => by subst h; rfl
  have e1 : ∀ X : Fin 3, X = 1 → (ix3 p e r X).val = e.val := fun X h => by subst h; rfl
  have e2 : ∀ X : Fin 3, X = 2 → (ix3 p e r X).val = r.val := fun X h => by subst h; rfl
  have hk : ∀ a : Fin 3, a ∉ Along.sKept := by decide
  unfold Host.gather
  refine congrArg y (funext fun a => Fin.ext ?_)
  match a with
  | ⟨0, _⟩ =>
    show Along.start (ix3 p e r) n 0 + Along.batchCoord (ix3 p e r) 0 + Along.offCoord (ix3 p e r) 0 = p.val
    rw [Along.offCoord_eq_zero _ _ (hk 0), Along.start_batching _ _ _ (by decide)]
    unfold GatherDims.batchCoord
    rw [dif_pos (by decide)]
    unfold GatherDims.siCoord
    simp only [Fin.val_cast, Nat.zero_add, Nat.add_zero]
    exact e0 _ (by decide)
  | ⟨1, _⟩ =>
    show Along.start (ix3 p e r) n 1 + Along.batchCoord (ix3 p e r) 1 + Along.offCoord (ix3 p e r) 1 = e.val
    rw [Along.offCoord_eq_zero _ _ (hk 1), Along.start_batching _ _ _ (by decide)]
    unfold GatherDims.batchCoord
    rw [dif_pos (by decide)]
    unfold GatherDims.siCoord
    simp only [Fin.val_cast, Nat.zero_add, Nat.add_zero]
    exact e1 _ (by decide)
  | ⟨2, _⟩ =>
    show Along.start (ix3 p e r) n 2 + Along.batchCoord (ix3 p e r) 2 + Along.offCoord (ix3 p e r) 2 = q.val
    have hm : (2 : Fin 3) ∈ Along.startIndexMap := by decide
    rw [Along.offCoord_eq_zero _ _ (hk 2), Along.batchCoord_eq_zero _ _ (by decide), Nat.add_zero]
    unfold GatherDims.start
    rw [dif_pos hm]
    have hs : Along.siIdx (ix3 p e r) ⟨Along.startIndexMap.idxOf 2, List.idxOf_lt_length_iff.2 hm⟩ = ix4 p e r (0 : Fin 1) := by
      funext b
      apply Fin.ext
      unfold GatherDims.siIdx
      match b with
      | ⟨0, _⟩ =>
        rw [dif_neg (by show ¬(0 : ℕ) = 3; decide)]
        unfold GatherDims.siCoord
        exact e0 _ rfl
      | ⟨1, _⟩ =>
        rw [dif_neg (by show ¬(1 : ℕ) = 3; decide)]
        unfold GatherDims.siCoord
        exact e1 _ rfl
      | ⟨2, _⟩ =>
        rw [dif_neg (by show ¬(2 : ℕ) = 3; decide)]
        unfold GatherDims.siCoord
        exact e2 _ rfl
      | ⟨3, _⟩ =>
        rw [dif_pos (by show (3 : ℕ) = 3; rfl)]
        rfl
    rw [hs, h]
    exact kept_words q

theorem taken_apply (r : Fin 16) : val_main_v39 (F := Ideal) x g w k (ix3 p e r) = expert (score x g w k p e 0) (score x g w k p e 1) r := by
  have hc := chosen_apply x g w k p e r
  have hg : val_main_call0_v13 (F := Ideal) x g w k (ix3 p e r) = val_main_v38 (F := Ideal) x g w k (ix3 p e (chosen (score x g w k p e 0) (score x g w k p e 1) r)) := by
    unfold val_main_call0_v13
    exact gather_along p e _ _ r _ (index_apply x g w k p e r _ hc 0)
  rw [val_main_v39_apply, mask_apply x g w k p e r _ hc, hg, pairs_apply]
  exact if_pos rfl

theorem experts_ref (q : Fin 128) : val_main_v53 (F := Ideal) x g w k (ix2 q p) = expertArray x g w k (ix2 q p) := by
  pointwise [val_main_v53, val_main_v40]
  rw [taken_apply]
  rfl
end reference
end Cert.Route
-- ==== Proof.RouteGates.lean ====
/- The gates of the reference: shares of the exponentials of the sixteen sums, laid out by rows. -/
module
public import proofs.«01_k».proof.Proof.RouteRef
public import proofs.«01_k».proof.Proof.Tiles
public import Idealize.ShloMosaic.Lib.Pipeline.ValueKit
@[expose] public section
set_option maxRecDepth 16384
noncomputable section
namespace Cert.Route
open Idealize.ShloMosaic Cert.Reference6Ideal Cert.Reference6Ideal.Gen Cert.Reference6Ideal.Read

section reference
variable (x : S50688x1024.Idx → EReal) (g : S1024.Idx → EReal) (w : S1024x2048.Idx → EReal) (k : S8x2x128x128.Idx → EReal) (p : Fin 50688) (e : Fin 8)

theorem fold_ref : val_main_v41 (F := Ideal) x g w k (ix2 p e) = Finset.univ.fold max ⊥ (fun r : Fin 16 => val_main_values_2 (F := Ideal) x g w k (ix3 p e r)) := by
  rw [← negInf_word]
  pointwise [val_main_v41, val_main_cst_4]

theorem lower_ref : val_main_v42 (F := Ideal) (ix2 p e) = ⊥ := by
  rw [← negInf_word]
  pointwise [val_main_v42, val_main_cst_5]

theorem joined_ref : val_main_v43 (F := Ideal) x g w k (ix2 p e) = val_main_v41 (F := Ideal) x g w k (ix2 p e) := by
  rw [val_main_v43_apply, lower_ref]
  exact max_eq_right bot_le

theorem spread_ref (r : Fin 16) : val_main_v45 (F := Ideal) x g w k (ix3 p e r) = val_main_v43 (F := Ideal) x g w k (ix2 p e) := by
  pointwise [val_main_v45, val_main_v44]

theorem largest_ref (t : Fin 16 → EReal) (ht : ∀ r, val_main_values_2 (F := Ideal) x g w k (ix3 p e r) = t r) (hm : ∀ r, t r ≤ t 0) (r : Fin 16) :
    val_main_v45 (F := Ideal) x g w k (ix3 p e r) = t 0 := by
  rw [spread_ref, joined_ref, fold_ref]
  rw [show (fun r : Fin 16 => val_main_values_2 (F := Ideal) x g w k (ix3 p e r)) = t from funext ht]
  exact le_antisymm ((Finset.fold_max_le _).2 ⟨bot_le, fun a _ => hm a⟩) ((Finset.le_fold_max _).2 (Or.inr ⟨0, Finset.mem_univ _, le_rfl⟩))

theorem power_ref (t : Fin 16 → EReal) (ht : ∀ r, val_main_values_2 (F := Ideal) x g w k (ix3 p e r) = t r) (hm : ∀ r, t r ≤ t 0) (r : Fin 16) :
    val_main_v47 (F := Ideal) x g w k (ix3 p e r) = Ideal.exp (t r - t 0) := by
  have h := largest_ref x g w k p e t ht hm r
  pointwise [val_main_v47, val_main_v46]
  rw [h, ht]

theorem share_ref (t : Fin 16 → EReal) (ht : ∀ r, val_main_values_2 (F := Ideal) x g w k (ix3 p e r) = t r) (hm : ∀ r, t r ≤ t 0) (r : Fin 16) :
    val_main_v51 (F := Ideal) x g w k (ix3 p e r) = Ideal.div (Ideal.exp (t r - t 0)) (∑ a : Fin 16, Ideal.exp (t a - t 0)) := by
  have h := power_ref x g w k p e t ht hm
  pointwise [val_main_v51, val_main_v50, val_main_v49, val_main_v48, val_main_cst_6]
  simp only [h]

theorem total_le (x0 x1 : Fin 128 → EReal) (r : Fin 16) : total x0 x1 r ≤ total x0 x1 0 :=
  pick_antitone (x := sums (value x0) (value x1)) (Fin.mk_le_mk.2 (Nat.zero_le _))

theorem gates_ref (q : Fin 128) : val_main_v54 (F := Ideal) x g w k (ix2 q p) = gateArray x g w k (ix2 q p) := by
  pointwise [val_main_v54, val_main_v52]
  exact share_ref x g w k p _ _ (totals_apply x g w k p _) (total_le _ _) _
end reference
end Cert.Route
-- ==== Proof.RouteScored.lean ====
/- What the precondition of the routing says: every score lies above minus infinity. -/
module
public import proofs.«01_k».proof.Defs
public import proofs.«01_k».proof.Proof.Scores
public import proofs.«01_k».proof.Proof.Tiles
public import proofs.«01_k».proof.Proof.Gen.Pre_scored
public import Idealize.ShloMosaic.Lib.Pointwise
@[expose] public section
set_option maxRecDepth 16384
noncomputable section
namespace Cert.Route
open Idealize.ShloMosaic

theorem above_bot (z : EReal) (h : BitVec.ofBool (decide (Ideal.ofBits .f32 0xFF800000#32 < z)) = 1#1) : ⊥ < z := by
  rw [negInf_word] at h
  by_contra hn
  simp [hn] at h

theorem scored_apply (x : Pre_scored.S50688x1024.Idx → EReal) (g : Pre_scored.S1024.Idx → EReal) (w : Pre_scored.S1024x2048.Idx → EReal) (k : Pre_scored.S8x2x128x128.Idx → EReal)
    (h : Cert.Pre_scored.fn (F := Ideal) x g w k = fun _ => 1#1) (p : Fin 50688) (e : Fin 8) (s : Fin 2) (n : Fin 128) : ⊥ < score x g w k p e s n := by
  have h := congrFun h (ix4 p e s n)
  unfold Cert.Pre_scored.fn at h
  pointwise at h
  refine (above_bot _ h).trans_eq ?_
  rfl

theorem scored_of (m : (ℓ : Loc Cert.Kernel6Ideal.nD Cert.Kernel6Ideal.τ Cert.Kernel6Ideal.sig) → Buf (Elt Ideal) ℓ) (h : Cert.Pre_Kernel6Ideal_scored m) (c : Dev Cert.Kernel6Ideal.nD) : Scored m c :=
  fun p e s n => scored_apply _ _ _ _ (h c) p e s n
end Cert.Route
-- ==== Proof.Route.lean ====
/- The routing: the kernel's expert numbers and gates are the reference's, element by element. -/
module
public import proofs.«01_k».proof.Defs
public import proofs.«01_k».proof.Proof.RouteArrays
public import proofs.«01_k».proof.Proof.RouteTake
public import proofs.«01_k».proof.Proof.RouteGates
public import proofs.«01_k».proof.Proof.RouteScored
public import proofs.«01_k».proof.Proof.Gen.Kernel6Ideal.Value
public import proofs.«01_k».proof.Proof.Gen.Reference6Ideal.Run
public import proofs.«01_k».proof.Proof.Gen.Reference6Ideal.Read
public import Idealize.ShloMosaic.Lib.StableHlo.RunRead
public import Idealize.ShloMosaic.Lib.Quiescent
@[expose] public section
set_option maxRecDepth 16384
noncomputable section
namespace Cert.Route
open Idealize.ShloMosaic Cert.Kernel6Ideal Cert.Kernel6Ideal.Gen Idealize.ShloMosaic.Pipeline
open Idealize.SL.Sem Idealize.ShloMosaic.TcCoe
variable (m : (ℓ : Loc nD Cert.Kernel6Ideal.τ Cert.Kernel6Ideal.sig) → Buf (Elt Ideal) ℓ)

theorem expert_table (x : S50688x1024.Idx → EReal) (g : S1024.Idx → EReal) (w : S1024x2048.Idx → EReal) (k : S8x2x128x128.Idx → EReal) :
    Cert.Reference6Ideal.Read.val_main_v53 (F := Ideal) x g w k = expertArray x g w k := by
  funext i
  rw [eq_ix2 (n0 := 128) (n1 := 50688) i]
  exact experts_ref x g w k _ _

theorem gate_table (x : S50688x1024.Idx → EReal) (g : S1024.Idx → EReal) (w : S1024x2048.Idx → EReal) (k : S8x2x128x128.Idx → EReal) :
    Cert.Reference6Ideal.Read.val_main_v54 (F := Ideal) x g w k = gateArray x g w k := by
  funext i
  rw [eq_ix2 (n0 := 128) (n1 := 50688) i]
  exact gates_ref x g w k _ _

theorem kernel_run (g : Dev nD → PrngReg) (hpre : Cert.Pre_Kernel6Ideal_scored m) :
    θ_run (Cert.Kernel6Ideal.defs (F := Ideal)) (onTc (τ := Cert.Kernel6Ideal.τ) (Cert.Kernel6Ideal.main (F := Ideal))) ⟨m, fun _ => 0, g⟩ (fun r => ∀ c : Dev nD,
      r.2.mem ((c.tc : Thread nD Cert.Kernel6Ideal.τ).loc main_v4_0) = expertArray (rows m c) (gains m c) (weights m c) (allKeys m c)
      ∧ r.2.mem ((c.tc : Thread nD Cert.Kernel6Ideal.τ).loc main_v4_1) = gateArray (rows m c) (gains m c) (weights m c) (allKeys m c)
      ∧ r.2.mem ((c.tc : Thread nD Cert.Kernel6Ideal.τ).loc main_arg0) = m ((c.tc : Thread nD Cert.Kernel6Ideal.τ).loc main_arg0)
      ∧ r.2.mem ((c.tc : Thread nD Cert.Kernel6Ideal.τ).loc main_arg1) = m ((c.tc : Thread nD Cert.Kernel6Ideal.τ).loc main_arg1)
      ∧ r.2.mem ((c.tc : Thread nD Cert.Kernel6Ideal.τ).loc main_arg2) = m ((c.tc : Thread nD Cert.Kernel6Ideal.τ).loc main_arg2)
      ∧ r.2.mem ((c.tc : Thread nD Cert.Kernel6Ideal.τ).loc main_arg3) = m ((c.tc : Thread nD Cert.Kernel6Ideal.τ).loc main_arg3)) :=
  (θ_run _ _ _).mono (fun _ h c => ⟨(h c).1.trans (array4 m c (scored_of m hpre c)), (h c).2.1.trans (array5 m c (scored_of m hpre c)), (h c).2.2⟩)
    (Cert.Kernel6Ideal.Value.run_blocks m g)

theorem algebraic : Cert.algebraic_Kernel6Ideal_Reference6Ideal_pre_scored := by
  intro m g m' g' hpre hagree
  refine ⟨_, _, kernel_run m g hpre, ?_⟩
  refine (θ_run Cert.Reference6Ideal.defs _ _).mono (fun _ h c => ⟨(h c).1.trans ?_, (h c).2.1.trans ?_, (h c).2.2⟩) (Cert.Reference6Ideal.Value.run (F := Ideal) m' g')
  · refine (Cert.Reference6Ideal.Read.val_main_v53_eq m' c).trans ?_
    rw [(hagree c).1, (hagree c).2.1, (hagree c).2.2.1, (hagree c).2.2.2]
    exact expert_table _ _ _ _
  · refine (Cert.Reference6Ideal.Read.val_main_v54_eq m' c).trans ?_
    rw [(hagree c).1, (hagree c).2.1, (hagree c).2.2.1, (hagree c).2.2.2]
    exact gate_table _ _ _ _

theorem reference_frame (m : (ℓ : Loc Cert.Reference6Ideal.nD Cert.Reference6Ideal.τ Cert.Reference6Ideal.sig) → Buf (Elt Ideal) ℓ) (ρ : Dev Cert.Reference6Ideal.nD → PrngReg) :
    θ_run (Cert.Reference6Ideal.defs (F := Ideal)) (onTc (τ := Cert.Reference6Ideal.τ) (Cert.Reference6Ideal.main (F := Ideal))) ⟨m, fun _ => 0, ρ⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0) :=
  (θ_run Cert.Reference6Ideal.defs _ _).mono (fun r h => ⟨fun c => (h c).2.2, sem_eq_zero_of_no_sems (by decide) r.2⟩) (Cert.Reference6Ideal.Value.run (F := Ideal) m ρ)
end Cert.Route
-- ==== Proof.FinalPrompt.lean ====
/- The last norm over the prompt sequences: the kernel's result is the reference's, element by element. -/
module
public import proofs.«01_k».proof.Defs
public import proofs.«01_k».proof.Proof.Norm
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.StableHlo.RunRead
public import Idealize.ShloMosaic.Lib.Quiescent
@[expose] public section
set_option maxRecDepth 16384
noncomputable section
namespace Cert.FinalPrompt
open Idealize.ShloMosaic Cert.Kernel4Ideal Cert.Kernel4Ideal.Gen Idealize.ShloMosaic.Pipeline
open Idealize.SL.Sem Idealize.ShloMosaic.TcCoe
open Cert.Norm
variable (m : (ℓ : Loc nD Cert.Kernel4Ideal.τ Cert.Kernel4Ideal.sig) → Buf (Elt Ideal) ℓ)

theorem pay_apply (x : Vec Ideal S1x128x1024 .f32) (g : Vec Ideal S1x1024 .f32) (i : Fin 128) (k : Fin 1024) :
    k0_pay1 x g (ix3 0 i k) = scaled 0x44800000#32 (fun k => x (ix3 0 i k)) (fun k => g (ix2 0 k)) k := by
  pointwise [k0_pay1]
  rfl

theorem ref_apply (x : S8x4112x1024.Idx → EReal) (g : S1024.Idx → EReal) (b : Fin 8) (p : Fin 4096) (k : Fin 1024) :
    Cert.Reference4Ideal.Read.val_main_v13 (F := Ideal) x g (ix3 b p k) = scaled 0x44800000#32 (fun k => x (ix3 b ⟨16 + p.val, by omega⟩ k)) (fun k => g (ix1 k)) k := by
  open Cert.Reference4Ideal.Read in
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem idx0 : ∀ t, win0_0.index t = ![(grid0.coords t 0).val, (grid0.coords t 1).val + 1, 0] := by decide +kernel
theorem idx1 : ∀ t, win0_1.index t = ![0, 0] := by decide +kernel
theorem idx2 : ∀ t, win0_2.index t = ![(grid0.coords t 0).val, (grid0.coords t 1).val, 0] := by decide +kernel

/-- The sequence and the row block of a grid point. -/
abbrev batch (t : Fin cfg0.N) : Fin 8 := grid0.coords t 0
abbrev rowBlock (t : Fin cfg0.N) : Fin 32 := grid0.coords t 1

theorem block0 (c : Dev nD) (t : Fin cfg0.N) (i : Fin 128) (k : Fin 1024) :
    iblk m c 0 t (ix3 0 i k) = V m c main_v1 (ix3 ⟨0 + (batch t).val, by omega⟩ ⟨112 + (16 + (128 * (rowBlock t).val + i.val)), by omega⟩ k) := by
  have hb : (grid0.coords t 0).val < 8 := (batch t).isLt
  have hr : (grid0.coords t 1).val < 32 := (rowBlock t).isLt
  unfold batch rowBlock
  blk_ext [iblk, V, idx0 t]
theorem block1 (c : Dev nD) (t : Fin cfg0.N) (k : Fin 1024) :
    iblk m c 1 t (ix2 0 k) = V m c main_v2 (ix2 0 k) := by
  blk_ext [iblk, V, idx1 t]
theorem place (t : Fin cfg0.N) (z : Fin 1) (i : Fin 128) (k : Fin 1024) :
    (win0_2.blk t).view.emb (ix3 z i k) = ix3 (batch t) ⟨128 * (rowBlock t).val + i.val, by omega⟩ k := by
  have hb : (grid0.coords t 0).val < 8 := (batch t).isLt
  have hr : (grid0.coords t 1).val < 32 := (rowBlock t).isLt
  unfold batch rowBlock
  blk_ext [idx2 t]

theorem gain (c : Dev nD) (k : Fin 1024) : V m c main_v2 (ix2 0 k) = m ((c : Thread nD τ).loc main_arg2) (ix1 k) := by
  unfold_abbrev_sides
  after_reads_simp
  pointwise
theorem padded {α : Type} (x : S8x4112x1024.Idx → α) (y : S4x4112x1024.Idx → α) (u : S_.Idx → α) (b : Fin 8) (p : Fin 4112) (k : Fin 1024) :
    pad S12x4224x1024 ![0, 112, 0] ![0, 0, 0] ![0, 0, 0] (concatenate S12x4112x1024 0 [⟨S8x4112x1024, x⟩, ⟨S4x4112x1024, y⟩] concatenates_S8x4112x1024_S4x4112x1024_S12x4112x1024_d0)
      u pads_S12x4112x1024_S12x4224x1024_000_11200_000 h_S_ (ix3 ⟨0 + b.val, by omega⟩ ⟨112 + p.val, by omega⟩ k) = x (ix3 b p k) := by
  pointwise
  rw [dif_pos (by omega)]
theorem state (c : Dev nD) (b : Fin 8) (p : Fin 4112) (k : Fin 1024) :
    V m c main_v1 (ix3 ⟨0 + b.val, by omega⟩ ⟨112 + p.val, by omega⟩ k) = m ((c : Thread nD τ).loc main_arg0) (ix3 b p k) := by
  unfold_abbrev_sides
  after_reads_simp
  refine (padded _ _ _ b p k).trans ?_
  after_reads_simp

/-- The result as the reference writes it, over the kernel's own arguments. -/
abbrev expected (c : Dev nD) : S8x4096x1024.Idx → EReal :=
  Cert.Reference4Ideal.Read.val_main_v13 (F := Ideal) (m ((c : Thread nD τ).loc main_arg0)) (m ((c : Thread nD τ).loc main_arg2))

theorem point_apply (c : Dev nD) (t : Fin cfg0.N) (z : Fin 1) (i : Fin 128) (k : Fin 1024) :
    (dats m 0 c).after 2 t (ix3 z i k) = expected m c (ix3 (batch t) ⟨128 * (rowBlock t).val + i.val, by omega⟩ k) := by
  obtain rfl : z = 0 := Subsingleton.elim _ _
  rw [after0_2]
  unfold out0_2
  frame_out
  refine (pay_apply _ _ i k).trans (Eq.trans ?_ (ref_apply _ _ _ _ _).symm)
  exact congrArg₂ (fun x g => scaled 0x44800000#32 x g k) (funext fun j => (block0 m c t i j).trans (state m c _ ⟨16 + (128 * (rowBlock t).val + i.val), by omega⟩ j))
    (funext fun j => (block1 m c t j).trans (gain m c j))

theorem array_eq (c : Dev nD) : (dats m 0 c).arrAt 2 cfg0.N = expected m c := by
  refine (dats m 0 c).arrAt_eq_of_covers 2 _ (by decide +kernel) fun t hf y => ?_
  blk_simp
  have hy : y = ix3 (n0 := 1) (n1 := 128) (n2 := 1024) (y 0) (y 1) (y 2) := eq_ix3 (n0 := 1) (n1 := 128) (n2 := 1024) y
  rw [hy]
  exact (point_apply m c t (y 0) (y 1) (y 2)).trans (congrArg _ (place t (y 0) (y 1) (y 2)).symm)

theorem kernel_run (g : Dev nD → PrngReg) :
    θ_run (Cert.Kernel4Ideal.defs (F := Ideal)) (onTc (τ := Cert.Kernel4Ideal.τ) (Cert.Kernel4Ideal.main (F := Ideal))) ⟨m, fun _ => 0, g⟩ (fun r => ∀ c : Dev nD,
      r.2.mem ((c.tc : Thread nD Cert.Kernel4Ideal.τ).loc main_v3) = expected m c
      ∧ r.2.mem ((c.tc : Thread nD Cert.Kernel4Ideal.τ).loc main_arg0) = m ((c.tc : Thread nD Cert.Kernel4Ideal.τ).loc main_arg0)
      ∧ r.2.mem ((c.tc : Thread nD Cert.Kernel4Ideal.τ).loc main_arg1) = m ((c.tc : Thread nD Cert.Kernel4Ideal.τ).loc main_arg1)
      ∧ r.2.mem ((c.tc : Thread nD Cert.Kernel4Ideal.τ).loc main_arg2) = m ((c.tc : Thread nD Cert.Kernel4Ideal.τ).loc main_arg2)) :=
  (θ_run _ _ _).mono (fun _ h c => ⟨(h c).1.trans (array_eq m c), (h c).2⟩) (Cert.Kernel4Ideal.Value.run_blocks m g)

theorem algebraic : Cert.algebraic_Kernel4Ideal_Reference4Ideal := by
  intro m g m' g' _ hagree
  refine ⟨_, kernel_run m g, ?_⟩
  refine (θ_run Cert.Reference4Ideal.defs _ _).mono (fun _ h c => ⟨(h c).1.trans ?_, (h c).2⟩) (Cert.Reference4Ideal.Value.run (F := Ideal) m' g')
  refine (Cert.Reference4Ideal.Read.val_main_v13_eq _ _).trans ?_
  unfold expected
  rw [(hagree c).1, (hagree c).2.2]

theorem reference_frame (m : (ℓ : Loc Cert.Reference4Ideal.nD Cert.Reference4Ideal.τ Cert.Reference4Ideal.sig) → Buf (Elt Ideal) ℓ) (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0) :=
  (θ_run Cert.Reference4Ideal.defs _ _).mono (fun r h => ⟨fun c => (h c).2, sem_eq_zero_of_no_sems (by decide) r.2⟩) (Cert.Reference4Ideal.Value.run (F := Ideal) m ρ)
end Cert.FinalPrompt
-- ==== Proof.FinalSample.lean ====
/- The last norm over the sample sequences: the kernel's result is the reference's, element by element. -/
module
public import proofs.«01_k».proof.Defs
public import proofs.«01_k».proof.Proof.Norm
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.StableHlo.RunRead
public import Idealize.ShloMosaic.Lib.Quiescent
@[expose] public section
set_option maxRecDepth 16384
noncomputable section
namespace Cert.FinalSample
open Idealize.ShloMosaic Cert.Kernel5Ideal Cert.Kernel5Ideal.Gen Idealize.ShloMosaic.Pipeline
open Idealize.SL.Sem Idealize.ShloMosaic.TcCoe
open Cert.Norm
variable (m : (ℓ : Loc nD Cert.Kernel5Ideal.τ Cert.Kernel5Ideal.sig) → Buf (Elt Ideal) ℓ)

theorem pay_apply (x : Vec Ideal S1x128x1024 .f32) (g : Vec Ideal S1x1024 .f32) (i : Fin 128) (k : Fin 1024) :
    k0_pay1 x g (ix3 0 i k) = scaled 0x44800000#32 (fun k => x (ix3 0 i k)) (fun k => g (ix2 0 k)) k := by
  pointwise [k0_pay1]
  rfl

theorem ref_apply (x : S4x4112x1024.Idx → EReal) (g : S1024.Idx → EReal) (b : Fin 4) (p : Fin 4096) (k : Fin 1024) :
    Cert.Reference5Ideal.Read.val_main_v13 (F := Ideal) x g (ix3 b p k) = scaled 0x44800000#32 (fun k => x (ix3 b ⟨16 + p.val, by omega⟩ k)) (fun k => g (ix1 k)) k := by
  open Cert.Reference5Ideal.Read in
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem idx0 : ∀ t, win0_0.index t = ![8 + (grid0.coords t 0).val, (grid0.coords t 1).val + 1, 0] := by decide +kernel
theorem idx1 : ∀ t, win0_1.index t = ![0, 0] := by decide +kernel
theorem idx2 : ∀ t, win0_2.index t = ![(grid0.coords t 0).val, (grid0.coords t 1).val, 0] := by decide +kernel

/-- The sequence and the row block of a grid point. -/
abbrev batch (t : Fin cfg0.N) : Fin 4 := grid0.coords t 0
abbrev rowBlock (t : Fin cfg0.N) : Fin 32 := grid0.coords t 1

theorem block0 (c : Dev nD) (t : Fin cfg0.N) (i : Fin 128) (k : Fin 1024) :
    iblk m c 0 t (ix3 0 i k) = V m c main_v1 (ix3 ⟨8 + (batch t).val, by omega⟩ ⟨112 + (16 + (128 * (rowBlock t).val + i.val)), by omega⟩ k) := by
  have hb : (grid0.coords t 0).val < 4 := (batch t).isLt
  have hr : (grid0.coords t 1).val < 32 := (rowBlock t).isLt
  unfold batch rowBlock
  blk_ext [iblk, V, idx0 t]
theorem block1 (c : Dev nD) (t : Fin cfg0.N) (k : Fin 1024) :
    iblk m c 1 t (ix2 0 k) = V m c main_v2 (ix2 0 k) := by
  blk_ext [iblk, V, idx1 t]
theorem place (t : Fin cfg0.N) (z : Fin 1) (i : Fin 128) (k : Fin 1024) :
    (win0_2.blk t).view.emb (ix3 z i k) = ix3 (batch t) ⟨128 * (rowBlock t).val + i.val, by omega⟩ k := by
  have hb : (grid0.coords t 0).val < 4 := (batch t).isLt
  have hr : (grid0.coords t 1).val < 32 := (rowBlock t).isLt
  unfold batch rowBlock
  blk_ext [idx2 t]

theorem gain (c : Dev nD) (k : Fin 1024) : V m c main_v2 (ix2 0 k) = m ((c : Thread nD τ).loc main_arg2) (ix1 k) := by
  unfold_abbrev_sides
  after_reads_simp
  pointwise
theorem padded {α : Type} (x : S8x4112x1024.Idx → α) (y : S4x4112x1024.Idx → α) (u : S_.Idx → α) (b : Fin 4) (p : Fin 4112) (k : Fin 1024) :
    pad S12x4224x1024 ![0, 112, 0] ![0, 0, 0] ![0, 0, 0] (concatenate S12x4112x1024 0 [⟨S8x4112x1024, x⟩, ⟨S4x4112x1024, y⟩] concatenates_S8x4112x1024_S4x4112x1024_S12x4112x1024_d0)
      u pads_S12x4112x1024_S12x4224x1024_000_11200_000 h_S_ (ix3 ⟨8 + b.val, by omega⟩ ⟨112 + p.val, by omega⟩ k) = y (ix3 b p k) := by
  pointwise
  rw [dif_pos (by omega)]
theorem state (c : Dev nD) (b : Fin 4) (p : Fin 4112) (k : Fin 1024) :
    V m c main_v1 (ix3 ⟨8 + b.val, by omega⟩ ⟨112 + p.val, by omega⟩ k) = m ((c : Thread nD τ).loc main_arg1) (ix3 b p k) := by
  unfold_abbrev_sides
  after_reads_simp
  refine (padded _ _ _ b p k).trans ?_
  after_reads_simp

/-- The result as the reference writes it, over the kernel's own arguments. -/
abbrev expected (c : Dev nD) : S4x4096x1024.Idx → EReal :=
  Cert.Reference5Ideal.Read.val_main_v13 (F := Ideal) (m ((c : Thread nD τ).loc main_arg1)) (m ((c : Thread nD τ).loc main_arg2))

theorem point_apply (c : Dev nD) (t : Fin cfg0.N) (z : Fin 1) (i : Fin 128) (k : Fin 1024) :
    (dats m 0 c).after 2 t (ix3 z i k) = expected m c (ix3 (batch t) ⟨128 * (rowBlock t).val + i.val, by omega⟩ k) := by
  obtain rfl : z = 0 := Subsingleton.elim _ _
  rw [after0_2]
  unfold out0_2
  frame_out
  refine (pay_apply _ _ i k).trans (Eq.trans ?_ (ref_apply _ _ _ _ _).symm)
  exact congrArg₂ (fun x g => scaled 0x44800000#32 x g k) (funext fun j => (block0 m c t i j).trans (state m c _ ⟨16 + (128 * (rowBlock t).val + i.val), by omega⟩ j))
    (funext fun j => (block1 m c t j).trans (gain m c j))

theorem array_eq (c : Dev nD) : (dats m 0 c).arrAt 2 cfg0.N = expected m c := by
  refine (dats m 0 c).arrAt_eq_of_covers 2 _ (by decide +kernel) fun t hf y => ?_
  blk_simp
  have hy : y = ix3 (n0 := 1) (n1 := 128) (n2 := 1024) (y 0) (y 1) (y 2) := eq_ix3 (n0 := 1) (n1 := 128) (n2 := 1024) y
  rw [hy]
  exact (point_apply m c t (y 0) (y 1) (y 2)).trans (congrArg _ (place t (y 0) (y 1) (y 2)).symm)

theorem kernel_run (g : Dev nD → PrngReg) :
    θ_run (Cert.Kernel5Ideal.defs (F := Ideal)) (onTc (τ := Cert.Kernel5Ideal.τ) (Cert.Kernel5Ideal.main (F := Ideal))) ⟨m, fun _ => 0, g⟩ (fun r => ∀ c : Dev nD,
      r.2.mem ((c.tc : Thread nD Cert.Kernel5Ideal.τ).loc main_v3) = expected m c
      ∧ r.2.mem ((c.tc : Thread nD Cert.Kernel5Ideal.τ).loc main_arg0) = m ((c.tc : Thread nD Cert.Kernel5Ideal.τ).loc main_arg0)
      ∧ r.2.mem ((c.tc : Thread nD Cert.Kernel5Ideal.τ).loc main_arg1) = m ((c.tc : Thread nD Cert.Kernel5Ideal.τ).loc main_arg1)
      ∧ r.2.mem ((c.tc : Thread nD Cert.Kernel5Ideal.τ).loc main_arg2) = m ((c.tc : Thread nD Cert.Kernel5Ideal.τ).loc main_arg2)) :=
  (θ_run _ _ _).mono (fun _ h c => ⟨(h c).1.trans (array_eq m c), (h c).2⟩) (Cert.Kernel5Ideal.Value.run_blocks m g)

theorem algebraic : Cert.algebraic_Kernel5Ideal_Reference5Ideal := by
  intro m g m' g' _ hagree
  refine ⟨_, kernel_run m g, ?_⟩
  refine (θ_run Cert.Reference5Ideal.defs _ _).mono (fun _ h c => ⟨(h c).1.trans ?_, (h c).2⟩) (Cert.Reference5Ideal.Value.run (F := Ideal) m' g')
  refine (Cert.Reference5Ideal.Read.val_main_v13_eq _ _).trans ?_
  unfold expected
  rw [(hagree c).2.1, (hagree c).2.2]

theorem reference_frame (m : (ℓ : Loc Cert.Reference5Ideal.nD Cert.Reference5Ideal.τ Cert.Reference5Ideal.sig) → Buf (Elt Ideal) ℓ) (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0) :=
  (θ_run Cert.Reference5Ideal.defs _ _).mono (fun r h => ⟨fun c => (h c).2, sem_eq_zero_of_no_sems (by decide) r.2⟩) (Cert.Reference5Ideal.Value.run (F := Ideal) m ρ)
end Cert.FinalSample
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.ReferenceIdeal.Run
public import proofs.«01_k».proof.Proof.Gen.ReferenceIdeal.Read
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_scored
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Equation
public import Idealize.ShloMosaic.Adequacy
public import proofs.«01_k».proof.Proof.Inproj
public import proofs.«01_k».proof.Proof.Merge
public import proofs.«01_k».proof.Proof.Route
public import proofs.«01_k».proof.Proof.FinalPrompt
public import proofs.«01_k».proof.Proof.FinalSample
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Pre_finite.Gen.facts, Cert.Pre_scored.Gen.facts,
  fun m ρ _ => Cert.Kernel.Gen.frame m ρ, fun m ρ _ => Cert.KernelIdeal.Gen.frame m ρ, fun m ρ _ => Cert.KernelIdeal.Gen.frame m ρ,
  fun m ρ _ => Cert.Attn.reference_frame m ρ, fun m ρ _ => Cert.Attn.reference_frame m ρ,
  fun m ρ _ => Cert.Kernel2.Gen.frame m ρ, fun m ρ _ => Cert.Kernel2Ideal.Gen.frame m ρ, fun m ρ _ => Cert.Inproj.reference_frame m ρ,
  fun m ρ _ => Cert.Kernel3.Gen.frame m ρ, fun m ρ _ => Cert.Kernel3Ideal.Gen.frame m ρ, fun m ρ _ => Cert.Merge.reference_frame m ρ,
  fun m ρ _ => Cert.Kernel4.Gen.frame m ρ, fun m ρ _ => Cert.Kernel4Ideal.Gen.frame m ρ, fun m ρ _ => Cert.FinalPrompt.reference_frame m ρ,
  fun m ρ _ => Cert.Kernel5.Gen.frame m ρ, fun m ρ _ => Cert.Kernel5Ideal.Gen.frame m ρ, fun m ρ _ => Cert.FinalSample.reference_frame m ρ,
  fun m ρ _ => Cert.Kernel6.Gen.frame m ρ, fun m ρ _ => Cert.Kernel6Ideal.Gen.frame m ρ, fun m ρ _ => Cert.Kernel6Ideal.Gen.frame m ρ,
  fun m ρ _ => Cert.Route.reference_frame m ρ, fun m ρ _ => Cert.Route.reference_frame m ρ,
  IdealRules.named_const.statement Cert.KernelIdeal.κ "mask" .f32 0xF149F2CA#32 ⊥ rfl, Cert.Attn.algebraic,
  trivial, Cert.Inproj.algebraic,
  trivial, Cert.Merge.algebraic,
  trivial, Cert.FinalPrompt.algebraic,
  trivial, Cert.FinalSample.algebraic,
  trivial, Cert.Route.algebraic⟩

end Cert.Proof

end
